-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InRet (m : (ℓ : Loc Cert.InRet.nD Cert.InRet.τ Cert.InRet.sig) → Buf (Elt Bits) ℓ) : Prop :=
  True

def Pre_InRetIdeal (m : (ℓ : Loc Cert.InRetIdeal.nD Cert.InRetIdeal.τ Cert.InRetIdeal.sig) → Buf (Elt Ideal) ℓ) : Prop :=
  True

def Pre_InRetRefIdeal (m : (ℓ : Loc Cert.InRetRefIdeal.nD Cert.InRetRefIdeal.τ Cert.InRetRefIdeal.sig) → Buf (Elt Ideal) ℓ) : Prop :=
  True

def Pre_InAtt (m : (ℓ : Loc Cert.InAtt.nD Cert.InAtt.τ Cert.InAtt.sig) → Buf (Elt Bits) ℓ) : Prop :=
  True

def Pre_InAttIdeal (m : (ℓ : Loc Cert.InAttIdeal.nD Cert.InAttIdeal.τ Cert.InAttIdeal.sig) → Buf (Elt Ideal) ℓ) : Prop :=
  True

def Pre_InAttRefIdeal (m : (ℓ : Loc Cert.InAttRefIdeal.nD Cert.InAttRefIdeal.τ Cert.InAttRefIdeal.sig) → Buf (Elt Ideal) ℓ) : Prop :=
  True

def Pre_BandKv (m : (ℓ : Loc Cert.BandKv.nD Cert.BandKv.τ Cert.BandKv.sig) → Buf (Elt Bits) ℓ) : Prop :=
  True

def Pre_BandKvIdeal (m : (ℓ : Loc Cert.BandKvIdeal.nD Cert.BandKvIdeal.τ Cert.BandKvIdeal.sig) → Buf (Elt Ideal) ℓ) : Prop :=
  True

def Pre_BandKvRefIdeal (m : (ℓ : Loc Cert.BandKvRefIdeal.nD Cert.BandKvRefIdeal.τ Cert.BandKvRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Experts [hPre_some_rows : Cert.Pre_some_rows.Facts] (m : (ℓ : Loc Cert.Experts.nD Cert.Experts.τ Cert.Experts.sig) → Buf (Elt Bits) ℓ) : Prop :=
  ∀ c : Dev Cert.Experts.nD,
    (Cert.Pre_some_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_some_rows : Cert.Pre_some_rows.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_some_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_some_rows [hPre_some_rows : Cert.Pre_some_rows.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_some_rows.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InRet [hInRet : Cert.InRet.Facts] : Prop :=
  ∀ (m : (ℓ : Loc Cert.InRet.nD Cert.InRet.τ Cert.InRet.sig) → Buf (Elt Bits) ℓ) (g : Dev Cert.InRet.nD → PrngReg), Pre_InRet m →
    θ_run (Cert.InRet.defs (F := Bits)) (onTc (τ := Cert.InRet.τ) (Cert.InRet.main (F := Bits))) ⟨m, fun _ => 0, g⟩ (fun r => (∀ c : Dev Cert.InRet.nD,
      r.2.mem ((c.tc : Thread Cert.InRet.nD Cert.InRet.τ).loc Cert.InRet.main_arg0) = m ((c.tc : Thread Cert.InRet.nD Cert.InRet.τ).loc Cert.InRet.main_arg0)
      ∧ r.2.mem ((c.tc : Thread Cert.InRet.nD Cert.InRet.τ).loc Cert.InRet.main_arg1) = m ((c.tc : Thread Cert.InRet.nD Cert.InRet.τ).loc Cert.InRet.main_arg1)
      ∧ r.2.mem ((c.tc : Thread Cert.InRet.nD Cert.InRet.τ).loc Cert.InRet.main_arg2) = m ((c.tc : Thread Cert.InRet.nD Cert.InRet.τ).loc Cert.InRet.main_arg2)
      ∧ r.2.mem ((c.tc : Thread Cert.InRet.nD Cert.InRet.τ).loc Cert.InRet.main_arg3) = m ((c.tc : Thread Cert.InRet.nD Cert.InRet.τ).loc Cert.InRet.main_arg3))
      ∧ r.2.sem = fun _ => 0)

def quiescent_InRetIdeal [hInRetIdeal : Cert.InRetIdeal.Facts] : Prop :=
  ∀ (m : (ℓ : Loc Cert.InRetIdeal.nD Cert.InRetIdeal.τ Cert.InRetIdeal.sig) → Buf (Elt Ideal) ℓ) (g : Dev Cert.InRetIdeal.nD → PrngReg), Pre_InRetIdeal m →
    θ_run (Cert.InRetIdeal.defs (F := Ideal)) (onTc (τ := Cert.InRetIdeal.τ) (Cert.InRetIdeal.main (F := Ideal))) ⟨m, fun _ => 0, g⟩ (fun r => (∀ c : Dev Cert.InRetIdeal.nD,
      r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
      ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1)
      ∧ r.2.mem ((c.tc : Thread Cert.InRetIdeal.nD Cert.InRetIdeal.τ).loc Cert.InRetIdeal.main_arg2) = m ((c.tc : Thread Cert.InRetIdeal.nD Cert.InRetIdeal.τ).loc Cert.InRetIdeal.main_arg2)
      ∧ r.2.mem ((c.tc : Thread Cert.InRetIdeal.nD Cert.InRetIdeal.τ).loc Cert.InRetIdeal.main_arg3) = m ((c.tc : Thread Cert.InRetIdeal.nD Cert.InRetIdeal.τ).loc Cert.InRetIdeal.main_arg3))
      ∧ r.2.sem = fun _ => 0)

def quiescent_InRetRefIdeal [hInRetRefIdeal : Cert.InRetRefIdeal.Facts] : Prop :=
  ∀ (m : (ℓ : Loc Cert.InRetRefIdeal.nD Cert.InRetRefIdeal.τ Cert.InRetRefIdeal.sig) → Buf (Elt Ideal) ℓ) (g : Dev Cert.InRetRefIdeal.nD → PrngReg), Pre_InRetRefIdeal m →
    θ_run (Cert.InRetRefIdeal.defs (F := Ideal)) (onTc (τ := Cert.InRetRefIdeal.τ) (Cert.InRetRefIdeal.main (F := Ideal))) ⟨m, fun _ => 0, g⟩ (fun r => (∀ c : Dev Cert.InRetRefIdeal.nD,
      r.2.mem ((c.tc : Thread Cert.InRetRefIdeal.nD Cert.InRetRefIdeal.τ).loc Cert.InRetRefIdeal.main_arg0) = m ((c.tc : Thread Cert.InRetRefIdeal.nD Cert.InRetRefIdeal.τ).loc Cert.InRetRefIdeal.main_arg0)
      ∧ r.2.mem ((c.tc : Thread Cert.InRetRefIdeal.nD Cert.InRetRefIdeal.τ).loc Cert.InRetRefIdeal.main_arg1) = m ((c.tc : Thread Cert.InRetRefIdeal.nD Cert.InRetRefIdeal.τ).loc Cert.InRetRefIdeal.main_arg1)
      ∧ r.2.mem ((c.tc : Thread Cert.InRetRefIdeal.nD Cert.InRetRefIdeal.τ).loc Cert.InRetRefIdeal.main_arg2) = m ((c.tc : Thread Cert.InRetRefIdeal.nD Cert.InRetRefIdeal.τ).loc Cert.InRetRefIdeal.main_arg2)
      ∧ r.2.mem ((c.tc : Thread Cert.InRetRefIdeal.nD Cert.InRetRefIdeal.τ).loc Cert.InRetRefIdeal.main_arg3) = m ((c.tc : Thread Cert.InRetRefIdeal.nD Cert.InRetRefIdeal.τ).loc Cert.InRetRefIdeal.main_arg3))
      ∧ r.2.sem = fun _ => 0)

def quiescent_InAtt [hInAtt : Cert.InAtt.Facts] : Prop :=
  ∀ (m : (ℓ : Loc Cert.InAtt.nD Cert.InAtt.τ Cert.InAtt.sig) → Buf (Elt Bits) ℓ) (g : Dev Cert.InAtt.nD → PrngReg), Pre_InAtt m →
    θ_run (Cert.InAtt.defs (F := Bits)) (onTc (τ := Cert.InAtt.τ) (Cert.InAtt.main (F := Bits))) ⟨m, fun _ => 0, g⟩ (fun r => (∀ c : Dev Cert.InAtt.nD,
      r.2.mem ((c.tc : Thread Cert.InAtt.nD Cert.InAtt.τ).loc Cert.InAtt.main_arg0) = m ((c.tc : Thread Cert.InAtt.nD Cert.InAtt.τ).loc Cert.InAtt.main_arg0)
      ∧ r.2.mem ((c.tc : Thread Cert.InAtt.nD Cert.InAtt.τ).loc Cert.InAtt.main_arg1) = m ((c.tc : Thread Cert.InAtt.nD Cert.InAtt.τ).loc Cert.InAtt.main_arg1)
      ∧ r.2.mem ((c.tc : Thread Cert.InAtt.nD Cert.InAtt.τ).loc Cert.InAtt.main_arg2) = m ((c.tc : Thread Cert.InAtt.nD Cert.InAtt.τ).loc Cert.InAtt.main_arg2)
      ∧ r.2.mem ((c.tc : Thread Cert.InAtt.nD Cert.InAtt.τ).loc Cert.InAtt.main_arg3) = m ((c.tc : Thread Cert.InAtt.nD Cert.InAtt.τ).loc Cert.InAtt.main_arg3)
      ∧ r.2.mem ((c.tc : Thread Cert.InAtt.nD Cert.InAtt.τ).loc Cert.InAtt.main_arg4) = m ((c.tc : Thread Cert.InAtt.nD Cert.InAtt.τ).loc Cert.InAtt.main_arg4)
      ∧ r.2.mem ((c.tc : Thread Cert.InAtt.nD Cert.InAtt.τ).loc Cert.InAtt.main_arg5) = m ((c.tc : Thread Cert.InAtt.nD Cert.InAtt.τ).loc Cert.InAtt.main_arg5))
      ∧ r.2.sem = fun _ => 0)

def quiescent_InAttIdeal [hInAttIdeal : Cert.InAttIdeal.Facts] : Prop :=
  ∀ (m : (ℓ : Loc Cert.InAttIdeal.nD Cert.InAttIdeal.τ Cert.InAttIdeal.sig) → Buf (Elt Ideal) ℓ) (g : Dev Cert.InAttIdeal.nD → PrngReg), Pre_InAttIdeal m →
    θ_run (Cert.InAttIdeal.defs (F := Ideal)) (onTc (τ := Cert.InAttIdeal.τ) (Cert.InAttIdeal.main (F := Ideal))) ⟨m, fun _ => 0, g⟩ (fun r => (∀ c : Dev Cert.InAttIdeal.nD,
      r.2.mem ((c.tc : Thread Cert.InAttIdeal.nD Cert.InAttIdeal.τ).loc Cert.InAttIdeal.main_arg0) = m ((c.tc : Thread Cert.InAttIdeal.nD Cert.InAttIdeal.τ).loc Cert.InAttIdeal.main_arg0)
      ∧ r.2.mem ((c.tc : Thread Cert.InAttIdeal.nD Cert.InAttIdeal.τ).loc Cert.InAttIdeal.main_arg1) = m ((c.tc : Thread Cert.InAttIdeal.nD Cert.InAttIdeal.τ).loc Cert.InAttIdeal.main_arg1)
      ∧ r.2.mem ((c.tc : Thread Cert.InAttIdeal.nD Cert.InAttIdeal.τ).loc Cert.InAttIdeal.main_arg2) = m ((c.tc : Thread Cert.InAttIdeal.nD Cert.InAttIdeal.τ).loc Cert.InAttIdeal.main_arg2)
      ∧ r.2.mem ((c.tc : Thread Cert.InAttIdeal.nD Cert.InAttIdeal.τ).loc Cert.InAttIdeal.main_arg3) = m ((c.tc : Thread Cert.InAttIdeal.nD Cert.InAttIdeal.τ).loc Cert.InAttIdeal.main_arg3)
      ∧ r.2.mem ((c.tc : Thread Cert.InAttIdeal.nD Cert.InAttIdeal.τ).loc Cert.InAttIdeal.main_arg4) = m ((c.tc : Thread Cert.InAttIdeal.nD Cert.InAttIdeal.τ).loc Cert.InAttIdeal.main_arg4)
      ∧ r.2.mem ((c.tc : Thread Cert.InAttIdeal.nD Cert.InAttIdeal.τ).loc Cert.InAttIdeal.main_arg5) = m ((c.tc : Thread Cert.InAttIdeal.nD Cert.InAttIdeal.τ).loc Cert.InAttIdeal.main_arg5))
      ∧ r.2.sem = fun _ => 0)

def quiescent_InAttRefIdeal [hInAttRefIdeal : Cert.InAttRefIdeal.Facts] : Prop :=
  ∀ (m : (ℓ : Loc Cert.InAttRefIdeal.nD Cert.InAttRefIdeal.τ Cert.InAttRefIdeal.sig) → Buf (Elt Ideal) ℓ) (g : Dev Cert.InAttRefIdeal.nD → PrngReg), Pre_InAttRefIdeal m →
    θ_run (Cert.InAttRefIdeal.defs (F := Ideal)) (onTc (τ := Cert.InAttRefIdeal.τ) (Cert.InAttRefIdeal.main (F := Ideal))) ⟨m, fun _ => 0, g⟩ (fun r => (∀ c : Dev Cert.InAttRefIdeal.nD,
      r.2.mem ((c.tc : Thread Cert.InAttRefIdeal.nD Cert.InAttRefIdeal.τ).loc Cert.InAttRefIdeal.main_arg0) = m ((c.tc : Thread Cert.InAttRefIdeal.nD Cert.InAttRefIdeal.τ).loc Cert.InAttRefIdeal.main_arg0)
      ∧ r.2.mem ((c.tc : Thread Cert.InAttRefIdeal.nD Cert.InAttRefIdeal.τ).loc Cert.InAttRefIdeal.main_arg1) = m ((c.tc : Thread Cert.InAttRefIdeal.nD Cert.InAttRefIdeal.τ).loc Cert.InAttRefIdeal.main_arg1)
      ∧ r.2.mem ((c.tc : Thread Cert.InAttRefIdeal.nD Cert.InAttRefIdeal.τ).loc Cert.InAttRefIdeal.main_arg2) = m ((c.tc : Thread Cert.InAttRefIdeal.nD Cert.InAttRefIdeal.τ).loc Cert.InAttRefIdeal.main_arg2)
      ∧ r.2.mem ((c.tc : Thread Cert.InAttRefIdeal.nD Cert.InAttRefIdeal.τ).loc Cert.InAttRefIdeal.main_arg3) = m ((c.tc : Thread Cert.InAttRefIdeal.nD Cert.InAttRefIdeal.τ).loc Cert.InAttRefIdeal.main_arg3)
      ∧ r.2.mem ((c.tc : Thread Cert.InAttRefIdeal.nD Cert.InAttRefIdeal.τ).loc Cert.InAttRefIdeal.main_arg4) = m ((c.tc : Thread Cert.InAttRefIdeal.nD Cert.InAttRefIdeal.τ).loc Cert.InAttRefIdeal.main_arg4)
      ∧ r.2.mem ((c.tc : Thread Cert.InAttRefIdeal.nD Cert.InAttRefIdeal.τ).loc Cert.InAttRefIdeal.main_arg5) = m ((c.tc : Thread Cert.InAttRefIdeal.nD Cert.InAttRefIdeal.τ).loc Cert.InAttRefIdeal.main_arg5))
      ∧ r.2.sem = fun _ => 0)

def quiescent_BandKv [hBandKv : Cert.BandKv.Facts] : Prop :=
  ∀ (m : (ℓ : Loc Cert.BandKv.nD Cert.BandKv.τ Cert.BandKv.sig) → Buf (Elt Bits) ℓ) (g : Dev Cert.BandKv.nD → PrngReg), Pre_BandKv m →
    θ_run (Cert.BandKv.defs (F := Bits)) (onTc (τ := Cert.BandKv.τ) (Cert.BandKv.main (F := Bits))) ⟨m, fun _ => 0, g⟩ (fun r => (∀ c : Dev Cert.BandKv.nD,
      r.2.mem ((c.tc : Thread Cert.BandKv.nD Cert.BandKv.τ).loc Cert.BandKv.main_arg0) = m ((c.tc : Thread Cert.BandKv.nD Cert.BandKv.τ).loc Cert.BandKv.main_arg0)
      ∧ r.2.mem ((c.tc : Thread Cert.BandKv.nD Cert.BandKv.τ).loc Cert.BandKv.main_arg1) = m ((c.tc : Thread Cert.BandKv.nD Cert.BandKv.τ).loc Cert.BandKv.main_arg1)
      ∧ r.2.mem ((c.tc : Thread Cert.BandKv.nD Cert.BandKv.τ).loc Cert.BandKv.main_arg2) = m ((c.tc : Thread Cert.BandKv.nD Cert.BandKv.τ).loc Cert.BandKv.main_arg2)
      ∧ r.2.mem ((c.tc : Thread Cert.BandKv.nD Cert.BandKv.τ).loc Cert.BandKv.main_arg3) = m ((c.tc : Thread Cert.BandKv.nD Cert.BandKv.τ).loc Cert.BandKv.main_arg3)
      ∧ r.2.mem ((c.tc : Thread Cert.BandKv.nD Cert.BandKv.τ).loc Cert.BandKv.main_arg4) = m ((c.tc : Thread Cert.BandKv.nD Cert.BandKv.τ).loc Cert.BandKv.main_arg4)
      ∧ r.2.mem ((c.tc : Thread Cert.BandKv.nD Cert.BandKv.τ).loc Cert.BandKv.main_arg5) = m ((c.tc : Thread Cert.BandKv.nD Cert.BandKv.τ).loc Cert.BandKv.main_arg5))
      ∧ r.2.sem = fun _ => 0)

def quiescent_BandKvIdeal [hBandKvIdeal : Cert.BandKvIdeal.Facts] : Prop :=
  ∀ (m : (ℓ : Loc Cert.BandKvIdeal.nD Cert.BandKvIdeal.τ Cert.BandKvIdeal.sig) → Buf (Elt Ideal) ℓ) (g : Dev Cert.BandKvIdeal.nD → PrngReg), Pre_BandKvIdeal m →
    θ_run (Cert.BandKvIdeal.defs (F := Ideal)) (onTc (τ := Cert.BandKvIdeal.τ) (Cert.BandKvIdeal.main (F := Ideal))) ⟨m, fun _ => 0, g⟩ (fun r => (∀ c : Dev Cert.BandKvIdeal.nD,
      r.2.mem ((c.tc : Thread Cert.BandKvIdeal.nD Cert.BandKvIdeal.τ).loc Cert.BandKvIdeal.main_arg0) = m ((c.tc : Thread Cert.BandKvIdeal.nD Cert.BandKvIdeal.τ).loc Cert.BandKvIdeal.main_arg0)
      ∧ r.2.mem ((c.tc : Thread Cert.BandKvIdeal.nD Cert.BandKvIdeal.τ).loc Cert.BandKvIdeal.main_arg1) = m ((c.tc : Thread Cert.BandKvIdeal.nD Cert.BandKvIdeal.τ).loc Cert.BandKvIdeal.main_arg1)
      ∧ r.2.mem ((c.tc : Thread Cert.BandKvIdeal.nD Cert.BandKvIdeal.τ).loc Cert.BandKvIdeal.main_arg2) = m ((c.tc : Thread Cert.BandKvIdeal.nD Cert.BandKvIdeal.τ).loc Cert.BandKvIdeal.main_arg2)
      ∧ r.2.mem ((c.tc : Thread Cert.BandKvIdeal.nD Cert.BandKvIdeal.τ).loc Cert.BandKvIdeal.main_arg3) = m ((c.tc : Thread Cert.BandKvIdeal.nD Cert.BandKvIdeal.τ).loc Cert.BandKvIdeal.main_arg3)
      ∧ r.2.mem ((c.tc : Thread Cert.BandKvIdeal.nD Cert.BandKvIdeal.τ).loc Cert.BandKvIdeal.main_arg4) = m ((c.tc : Thread Cert.BandKvIdeal.nD Cert.BandKvIdeal.τ).loc Cert.BandKvIdeal.main_arg4)
      ∧ r.2.mem ((c.tc : Thread Cert.BandKvIdeal.nD Cert.BandKvIdeal.τ).loc Cert.BandKvIdeal.main_arg5) = m ((c.tc : Thread Cert.BandKvIdeal.nD Cert.BandKvIdeal.τ).loc Cert.BandKvIdeal.main_arg5))
      ∧ r.2.sem = fun _ => 0)

def quiescent_BandKvRefIdeal [hBandKvRefIdeal : Cert.BandKvRefIdeal.Facts] : Prop :=
  ∀ (m : (ℓ : Loc Cert.BandKvRefIdeal.nD Cert.BandKvRefIdeal.τ Cert.BandKvRefIdeal.sig) → Buf (Elt Ideal) ℓ) (g : Dev Cert.BandKvRefIdeal.nD → PrngReg), Pre_BandKvRefIdeal m →
    θ_run (Cert.BandKvRefIdeal.defs (F := Ideal)) (onTc (τ := Cert.BandKvRefIdeal.τ) (Cert.BandKvRefIdeal.main (F := Ideal))) ⟨m, fun _ => 0, g⟩ (fun r => (∀ c : Dev Cert.BandKvRefIdeal.nD,
      r.2.mem ((c.tc : Thread Cert.BandKvRefIdeal.nD Cert.BandKvRefIdeal.τ).loc Cert.BandKvRefIdeal.main_arg0) = m ((c.tc : Thread Cert.BandKvRefIdeal.nD Cert.BandKvRefIdeal.τ).loc Cert.BandKvRefIdeal.main_arg0)
      ∧ r.2.mem ((c.tc : Thread Cert.BandKvRefIdeal.nD Cert.BandKvRefIdeal.τ).loc Cert.BandKvRefIdeal.main_arg1) = m ((c.tc : Thread Cert.BandKvRefIdeal.nD Cert.BandKvRefIdeal.τ).loc Cert.BandKvRefIdeal.main_arg1)
      ∧ r.2.mem ((c.tc : Thread Cert.BandKvRefIdeal.nD Cert.BandKvRefIdeal.τ).loc Cert.BandKvRefIdeal.main_arg2) = m ((c.tc : Thread Cert.BandKvRefIdeal.nD Cert.BandKvRefIdeal.τ).loc Cert.BandKvRefIdeal.main_arg2)
      ∧ r.2.mem ((c.tc : Thread Cert.BandKvRefIdeal.nD Cert.BandKvRefIdeal.τ).loc Cert.BandKvRefIdeal.main_arg3) = m ((c.tc : Thread Cert.BandKvRefIdeal.nD Cert.BandKvRefIdeal.τ).loc Cert.BandKvRefIdeal.main_arg3)
      ∧ r.2.mem ((c.tc : Thread Cert.BandKvRefIdeal.nD Cert.BandKvRefIdeal.τ).loc Cert.BandKvRefIdeal.main_arg4) = m ((c.tc : Thread Cert.BandKvRefIdeal.nD Cert.BandKvRefIdeal.τ).loc Cert.BandKvRefIdeal.main_arg4)
      ∧ r.2.mem ((c.tc : Thread Cert.BandKvRefIdeal.nD Cert.BandKvRefIdeal.τ).loc Cert.BandKvRefIdeal.main_arg5) = m ((c.tc : Thread Cert.BandKvRefIdeal.nD Cert.BandKvRefIdeal.τ).loc Cert.BandKvRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Experts [hExperts : Cert.Experts.Facts] [hPre_some_rows : Cert.Pre_some_rows.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_some_rows : Cert.Pre_some_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_some_rows [hExpertsRefIdeal : Cert.ExpertsRefIdeal.Facts] [hPre_some_rows : Cert.Pre_some_rows.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_some_rows m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v25_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InRet_InRetIdeal : Prop :=
  True

def algebraic_InRetIdeal_InRetRefIdeal [hInRetIdeal : Cert.InRetIdeal.Facts] [hInRetRefIdeal : Cert.InRetRefIdeal.Facts] : Prop :=
  ∀ (m : (ℓ : Loc Cert.InRetIdeal.nD Cert.InRetIdeal.τ Cert.InRetIdeal.sig) → Buf (Elt Ideal) ℓ) (g : Dev Cert.InRetIdeal.nD → PrngReg)
    (m' : (ℓ : Loc Cert.InRetRefIdeal.nD Cert.InRetRefIdeal.τ Cert.InRetRefIdeal.sig) → Buf (Elt Ideal) ℓ) (g' : Dev Cert.InRetRefIdeal.nD → PrngReg), Pre_InRetIdeal m →
    (∀ c : Dev Cert.InRetIdeal.nD,
      m' ((c.tc : Thread Cert.InRetRefIdeal.nD Cert.InRetRefIdeal.τ).loc Cert.InRetRefIdeal.main_arg0) = m ((c.tc : Thread Cert.InRetIdeal.nD Cert.InRetIdeal.τ).loc Cert.InRetIdeal.main_arg0)
      ∧ m' ((c.tc : Thread Cert.InRetRefIdeal.nD Cert.InRetRefIdeal.τ).loc Cert.InRetRefIdeal.main_arg1) = m ((c.tc : Thread Cert.InRetIdeal.nD Cert.InRetIdeal.τ).loc Cert.InRetIdeal.main_arg1)
      ∧ m' ((c.tc : Thread Cert.InRetRefIdeal.nD Cert.InRetRefIdeal.τ).loc Cert.InRetRefIdeal.main_arg2) = m ((c.tc : Thread Cert.InRetIdeal.nD Cert.InRetIdeal.τ).loc Cert.InRetIdeal.main_arg2)
      ∧ m' ((c.tc : Thread Cert.InRetRefIdeal.nD Cert.InRetRefIdeal.τ).loc Cert.InRetRefIdeal.main_arg3) = m ((c.tc : Thread Cert.InRetIdeal.nD Cert.InRetIdeal.τ).loc Cert.InRetIdeal.main_arg3)) →
    ∃ (v0 : (c : Dev Cert.InRetIdeal.nD) → Buf (Elt Ideal) ((c.tc : Thread Cert.InRetIdeal.nD Cert.InRetIdeal.τ).loc Cert.InRetIdeal.main_v70)),
      θ_run (Cert.InRetIdeal.defs (F := Ideal)) (onTc (τ := Cert.InRetIdeal.τ) (Cert.InRetIdeal.main (F := Ideal))) ⟨m, fun _ => 0, g⟩ (fun r => ∀ c : Dev Cert.InRetIdeal.nD,
          r.2.mem ((c.tc : Thread Cert.InRetIdeal.nD Cert.InRetIdeal.τ).loc Cert.InRetIdeal.main_v70) = v0 c
          ∧ r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
          ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1)
          ∧ r.2.mem ((c.tc : Thread Cert.InRetIdeal.nD Cert.InRetIdeal.τ).loc Cert.InRetIdeal.main_arg2) = m ((c.tc : Thread Cert.InRetIdeal.nD Cert.InRetIdeal.τ).loc Cert.InRetIdeal.main_arg2)
          ∧ r.2.mem ((c.tc : Thread Cert.InRetIdeal.nD Cert.InRetIdeal.τ).loc Cert.InRetIdeal.main_arg3) = m ((c.tc : Thread Cert.InRetIdeal.nD Cert.InRetIdeal.τ).loc Cert.InRetIdeal.main_arg3))
      ∧ θ_run (Cert.InRetRefIdeal.defs (F := Ideal)) (onTc (τ := Cert.InRetRefIdeal.τ) (Cert.InRetRefIdeal.main (F := Ideal))) ⟨m', fun _ => 0, g'⟩ (fun r => ∀ c : Dev Cert.InRetRefIdeal.nD,
          r.2.mem ((c.tc : Thread Cert.InRetRefIdeal.nD Cert.InRetRefIdeal.τ).loc Cert.InRetRefIdeal.main_v104) = v0 c
          ∧ r.2.mem ((c.tc : Thread Cert.InRetRefIdeal.nD Cert.InRetRefIdeal.τ).loc Cert.InRetRefIdeal.main_arg0) = m' ((c.tc : Thread Cert.InRetRefIdeal.nD Cert.InRetRefIdeal.τ).loc Cert.InRetRefIdeal.main_arg0)
          ∧ r.2.mem ((c.tc : Thread Cert.InRetRefIdeal.nD Cert.InRetRefIdeal.τ).loc Cert.InRetRefIdeal.main_arg1) = m' ((c.tc : Thread Cert.InRetRefIdeal.nD Cert.InRetRefIdeal.τ).loc Cert.InRetRefIdeal.main_arg1)
          ∧ r.2.mem ((c.tc : Thread Cert.InRetRefIdeal.nD Cert.InRetRefIdeal.τ).loc Cert.InRetRefIdeal.main_arg2) = m' ((c.tc : Thread Cert.InRetRefIdeal.nD Cert.InRetRefIdeal.τ).loc Cert.InRetRefIdeal.main_arg2)
          ∧ r.2.mem ((c.tc : Thread Cert.InRetRefIdeal.nD Cert.InRetRefIdeal.τ).loc Cert.InRetRefIdeal.main_arg3) = m' ((c.tc : Thread Cert.InRetRefIdeal.nD Cert.InRetRefIdeal.τ).loc Cert.InRetRefIdeal.main_arg3))

def preserves_InAtt_InAttIdeal : Prop :=
  True

def algebraic_InAttIdeal_InAttRefIdeal [hInAttIdeal : Cert.InAttIdeal.Facts] [hInAttRefIdeal : Cert.InAttRefIdeal.Facts] : Prop :=
  ∀ (m : (ℓ : Loc Cert.InAttIdeal.nD Cert.InAttIdeal.τ Cert.InAttIdeal.sig) → Buf (Elt Ideal) ℓ) (g : Dev Cert.InAttIdeal.nD → PrngReg)
    (m' : (ℓ : Loc Cert.InAttRefIdeal.nD Cert.InAttRefIdeal.τ Cert.InAttRefIdeal.sig) → Buf (Elt Ideal) ℓ) (g' : Dev Cert.InAttRefIdeal.nD → PrngReg), Pre_InAttIdeal m →
    (∀ c : Dev Cert.InAttIdeal.nD,
      m' ((c.tc : Thread Cert.InAttRefIdeal.nD Cert.InAttRefIdeal.τ).loc Cert.InAttRefIdeal.main_arg0) = m ((c.tc : Thread Cert.InAttIdeal.nD Cert.InAttIdeal.τ).loc Cert.InAttIdeal.main_arg0)
      ∧ m' ((c.tc : Thread Cert.InAttRefIdeal.nD Cert.InAttRefIdeal.τ).loc Cert.InAttRefIdeal.main_arg1) = m ((c.tc : Thread Cert.InAttIdeal.nD Cert.InAttIdeal.τ).loc Cert.InAttIdeal.main_arg1)
      ∧ m' ((c.tc : Thread Cert.InAttRefIdeal.nD Cert.InAttRefIdeal.τ).loc Cert.InAttRefIdeal.main_arg2) = m ((c.tc : Thread Cert.InAttIdeal.nD Cert.InAttIdeal.τ).loc Cert.InAttIdeal.main_arg2)
      ∧ m' ((c.tc : Thread Cert.InAttRefIdeal.nD Cert.InAttRefIdeal.τ).loc Cert.InAttRefIdeal.main_arg3) = m ((c.tc : Thread Cert.InAttIdeal.nD Cert.InAttIdeal.τ).loc Cert.InAttIdeal.main_arg3)
      ∧ m' ((c.tc : Thread Cert.InAttRefIdeal.nD Cert.InAttRefIdeal.τ).loc Cert.InAttRefIdeal.main_arg4) = m ((c.tc : Thread Cert.InAttIdeal.nD Cert.InAttIdeal.τ).loc Cert.InAttIdeal.main_arg4)
      ∧ m' ((c.tc : Thread Cert.InAttRefIdeal.nD Cert.InAttRefIdeal.τ).loc Cert.InAttRefIdeal.main_arg5) = m ((c.tc : Thread Cert.InAttIdeal.nD Cert.InAttIdeal.τ).loc Cert.InAttIdeal.main_arg5)) →
    ∃ (v0 : (c : Dev Cert.InAttIdeal.nD) → Buf (Elt Ideal) ((c.tc : Thread Cert.InAttIdeal.nD Cert.InAttIdeal.τ).loc Cert.InAttIdeal.main_v19)),
      θ_run (Cert.InAttIdeal.defs (F := Ideal)) (onTc (τ := Cert.InAttIdeal.τ) (Cert.InAttIdeal.main (F := Ideal))) ⟨m, fun _ => 0, g⟩ (fun r => ∀ c : Dev Cert.InAttIdeal.nD,
          r.2.mem ((c.tc : Thread Cert.InAttIdeal.nD Cert.InAttIdeal.τ).loc Cert.InAttIdeal.main_v19) = v0 c
          ∧ r.2.mem ((c.tc : Thread Cert.InAttIdeal.nD Cert.InAttIdeal.τ).loc Cert.InAttIdeal.main_arg0) = m ((c.tc : Thread Cert.InAttIdeal.nD Cert.InAttIdeal.τ).loc Cert.InAttIdeal.main_arg0)
          ∧ r.2.mem ((c.tc : Thread Cert.InAttIdeal.nD Cert.InAttIdeal.τ).loc Cert.InAttIdeal.main_arg1) = m ((c.tc : Thread Cert.InAttIdeal.nD Cert.InAttIdeal.τ).loc Cert.InAttIdeal.main_arg1)
          ∧ r.2.mem ((c.tc : Thread Cert.InAttIdeal.nD Cert.InAttIdeal.τ).loc Cert.InAttIdeal.main_arg2) = m ((c.tc : Thread Cert.InAttIdeal.nD Cert.InAttIdeal.τ).loc Cert.InAttIdeal.main_arg2)
          ∧ r.2.mem ((c.tc : Thread Cert.InAttIdeal.nD Cert.InAttIdeal.τ).loc Cert.InAttIdeal.main_arg3) = m ((c.tc : Thread Cert.InAttIdeal.nD Cert.InAttIdeal.τ).loc Cert.InAttIdeal.main_arg3)
          ∧ r.2.mem ((c.tc : Thread Cert.InAttIdeal.nD Cert.InAttIdeal.τ).loc Cert.InAttIdeal.main_arg4) = m ((c.tc : Thread Cert.InAttIdeal.nD Cert.InAttIdeal.τ).loc Cert.InAttIdeal.main_arg4)
          ∧ r.2.mem ((c.tc : Thread Cert.InAttIdeal.nD Cert.InAttIdeal.τ).loc Cert.InAttIdeal.main_arg5) = m ((c.tc : Thread Cert.InAttIdeal.nD Cert.InAttIdeal.τ).loc Cert.InAttIdeal.main_arg5))
      ∧ θ_run (Cert.InAttRefIdeal.defs (F := Ideal)) (onTc (τ := Cert.InAttRefIdeal.τ) (Cert.InAttRefIdeal.main (F := Ideal))) ⟨m', fun _ => 0, g'⟩ (fun r => ∀ c : Dev Cert.InAttRefIdeal.nD,
          r.2.mem ((c.tc : Thread Cert.InAttRefIdeal.nD Cert.InAttRefIdeal.τ).loc Cert.InAttRefIdeal.main_v69) = v0 c
          ∧ r.2.mem ((c.tc : Thread Cert.InAttRefIdeal.nD Cert.InAttRefIdeal.τ).loc Cert.InAttRefIdeal.main_arg0) = m' ((c.tc : Thread Cert.InAttRefIdeal.nD Cert.InAttRefIdeal.τ).loc Cert.InAttRefIdeal.main_arg0)
          ∧ r.2.mem ((c.tc : Thread Cert.InAttRefIdeal.nD Cert.InAttRefIdeal.τ).loc Cert.InAttRefIdeal.main_arg1) = m' ((c.tc : Thread Cert.InAttRefIdeal.nD Cert.InAttRefIdeal.τ).loc Cert.InAttRefIdeal.main_arg1)
          ∧ r.2.mem ((c.tc : Thread Cert.InAttRefIdeal.nD Cert.InAttRefIdeal.τ).loc Cert.InAttRefIdeal.main_arg2) = m' ((c.tc : Thread Cert.InAttRefIdeal.nD Cert.InAttRefIdeal.τ).loc Cert.InAttRefIdeal.main_arg2)
          ∧ r.2.mem ((c.tc : Thread Cert.InAttRefIdeal.nD Cert.InAttRefIdeal.τ).loc Cert.InAttRefIdeal.main_arg3) = m' ((c.tc : Thread Cert.InAttRefIdeal.nD Cert.InAttRefIdeal.τ).loc Cert.InAttRefIdeal.main_arg3)
          ∧ r.2.mem ((c.tc : Thread Cert.InAttRefIdeal.nD Cert.InAttRefIdeal.τ).loc Cert.InAttRefIdeal.main_arg4) = m' ((c.tc : Thread Cert.InAttRefIdeal.nD Cert.InAttRefIdeal.τ).loc Cert.InAttRefIdeal.main_arg4)
          ∧ r.2.mem ((c.tc : Thread Cert.InAttRefIdeal.nD Cert.InAttRefIdeal.τ).loc Cert.InAttRefIdeal.main_arg5) = m' ((c.tc : Thread Cert.InAttRefIdeal.nD Cert.InAttRefIdeal.τ).loc Cert.InAttRefIdeal.main_arg5))

def preserves_BandKv_BandKvIdeal : Prop :=
  True

def algebraic_BandKvIdeal_BandKvRefIdeal [hBandKvIdeal : Cert.BandKvIdeal.Facts] [hBandKvRefIdeal : Cert.BandKvRefIdeal.Facts] : Prop :=
  ∀ (m : (ℓ : Loc Cert.BandKvIdeal.nD Cert.BandKvIdeal.τ Cert.BandKvIdeal.sig) → Buf (Elt Ideal) ℓ) (g : Dev Cert.BandKvIdeal.nD → PrngReg)
    (m' : (ℓ : Loc Cert.BandKvRefIdeal.nD Cert.BandKvRefIdeal.τ Cert.BandKvRefIdeal.sig) → Buf (Elt Ideal) ℓ) (g' : Dev Cert.BandKvRefIdeal.nD → PrngReg), Pre_BandKvIdeal m →
    (∀ c : Dev Cert.BandKvIdeal.nD,
      m' ((c.tc : Thread Cert.BandKvRefIdeal.nD Cert.BandKvRefIdeal.τ).loc Cert.BandKvRefIdeal.main_arg0) = m ((c.tc : Thread Cert.BandKvIdeal.nD Cert.BandKvIdeal.τ).loc Cert.BandKvIdeal.main_arg0)
      ∧ m' ((c.tc : Thread Cert.BandKvRefIdeal.nD Cert.BandKvRefIdeal.τ).loc Cert.BandKvRefIdeal.main_arg1) = m ((c.tc : Thread Cert.BandKvIdeal.nD Cert.BandKvIdeal.τ).loc Cert.BandKvIdeal.main_arg1)
      ∧ m' ((c.tc : Thread Cert.BandKvRefIdeal.nD Cert.BandKvRefIdeal.τ).loc Cert.BandKvRefIdeal.main_arg2) = m ((c.tc : Thread Cert.BandKvIdeal.nD Cert.BandKvIdeal.τ).loc Cert.BandKvIdeal.main_arg2)
      ∧ m' ((c.tc : Thread Cert.BandKvRefIdeal.nD Cert.BandKvRefIdeal.τ).loc Cert.BandKvRefIdeal.main_arg3) = m ((c.tc : Thread Cert.BandKvIdeal.nD Cert.BandKvIdeal.τ).loc Cert.BandKvIdeal.main_arg3)
      ∧ m' ((c.tc : Thread Cert.BandKvRefIdeal.nD Cert.BandKvRefIdeal.τ).loc Cert.BandKvRefIdeal.main_arg4) = m ((c.tc : Thread Cert.BandKvIdeal.nD Cert.BandKvIdeal.τ).loc Cert.BandKvIdeal.main_arg4)
      ∧ m' ((c.tc : Thread Cert.BandKvRefIdeal.nD Cert.BandKvRefIdeal.τ).loc Cert.BandKvRefIdeal.main_arg5) = m ((c.tc : Thread Cert.BandKvIdeal.nD Cert.BandKvIdeal.τ).loc Cert.BandKvIdeal.main_arg5)) →
    ∃ (v0 : (c : Dev Cert.BandKvIdeal.nD) → Buf (Elt Ideal) ((c.tc : Thread Cert.BandKvIdeal.nD Cert.BandKvIdeal.τ).loc Cert.BandKvIdeal.main_v21)),
      θ_run (Cert.BandKvIdeal.defs (F := Ideal)) (onTc (τ := Cert.BandKvIdeal.τ) (Cert.BandKvIdeal.main (F := Ideal))) ⟨m, fun _ => 0, g⟩ (fun r => ∀ c : Dev Cert.BandKvIdeal.nD,
          r.2.mem ((c.tc : Thread Cert.BandKvIdeal.nD Cert.BandKvIdeal.τ).loc Cert.BandKvIdeal.main_v21) = v0 c
          ∧ r.2.mem ((c.tc : Thread Cert.BandKvIdeal.nD Cert.BandKvIdeal.τ).loc Cert.BandKvIdeal.main_arg0) = m ((c.tc : Thread Cert.BandKvIdeal.nD Cert.BandKvIdeal.τ).loc Cert.BandKvIdeal.main_arg0)
          ∧ r.2.mem ((c.tc : Thread Cert.BandKvIdeal.nD Cert.BandKvIdeal.τ).loc Cert.BandKvIdeal.main_arg1) = m ((c.tc : Thread Cert.BandKvIdeal.nD Cert.BandKvIdeal.τ).loc Cert.BandKvIdeal.main_arg1)
          ∧ r.2.mem ((c.tc : Thread Cert.BandKvIdeal.nD Cert.BandKvIdeal.τ).loc Cert.BandKvIdeal.main_arg2) = m ((c.tc : Thread Cert.BandKvIdeal.nD Cert.BandKvIdeal.τ).loc Cert.BandKvIdeal.main_arg2)
          ∧ r.2.mem ((c.tc : Thread Cert.BandKvIdeal.nD Cert.BandKvIdeal.τ).loc Cert.BandKvIdeal.main_arg3) = m ((c.tc : Thread Cert.BandKvIdeal.nD Cert.BandKvIdeal.τ).loc Cert.BandKvIdeal.main_arg3)
          ∧ r.2.mem ((c.tc : Thread Cert.BandKvIdeal.nD Cert.BandKvIdeal.τ).loc Cert.BandKvIdeal.main_arg4) = m ((c.tc : Thread Cert.BandKvIdeal.nD Cert.BandKvIdeal.τ).loc Cert.BandKvIdeal.main_arg4)
          ∧ r.2.mem ((c.tc : Thread Cert.BandKvIdeal.nD Cert.BandKvIdeal.τ).loc Cert.BandKvIdeal.main_arg5) = m ((c.tc : Thread Cert.BandKvIdeal.nD Cert.BandKvIdeal.τ).loc Cert.BandKvIdeal.main_arg5))
      ∧ θ_run (Cert.BandKvRefIdeal.defs (F := Ideal)) (onTc (τ := Cert.BandKvRefIdeal.τ) (Cert.BandKvRefIdeal.main (F := Ideal))) ⟨m', fun _ => 0, g'⟩ (fun r => ∀ c : Dev Cert.BandKvRefIdeal.nD,
          r.2.mem ((c.tc : Thread Cert.BandKvRefIdeal.nD Cert.BandKvRefIdeal.τ).loc Cert.BandKvRefIdeal.main_v37) = v0 c
          ∧ r.2.mem ((c.tc : Thread Cert.BandKvRefIdeal.nD Cert.BandKvRefIdeal.τ).loc Cert.BandKvRefIdeal.main_arg0) = m' ((c.tc : Thread Cert.BandKvRefIdeal.nD Cert.BandKvRefIdeal.τ).loc Cert.BandKvRefIdeal.main_arg0)
          ∧ r.2.mem ((c.tc : Thread Cert.BandKvRefIdeal.nD Cert.BandKvRefIdeal.τ).loc Cert.BandKvRefIdeal.main_arg1) = m' ((c.tc : Thread Cert.BandKvRefIdeal.nD Cert.BandKvRefIdeal.τ).loc Cert.BandKvRefIdeal.main_arg1)
          ∧ r.2.mem ((c.tc : Thread Cert.BandKvRefIdeal.nD Cert.BandKvRefIdeal.τ).loc Cert.BandKvRefIdeal.main_arg2) = m' ((c.tc : Thread Cert.BandKvRefIdeal.nD Cert.BandKvRefIdeal.τ).loc Cert.BandKvRefIdeal.main_arg2)
          ∧ r.2.mem ((c.tc : Thread Cert.BandKvRefIdeal.nD Cert.BandKvRefIdeal.τ).loc Cert.BandKvRefIdeal.main_arg3) = m' ((c.tc : Thread Cert.BandKvRefIdeal.nD Cert.BandKvRefIdeal.τ).loc Cert.BandKvRefIdeal.main_arg3)
          ∧ r.2.mem ((c.tc : Thread Cert.BandKvRefIdeal.nD Cert.BandKvRefIdeal.τ).loc Cert.BandKvRefIdeal.main_arg4) = m' ((c.tc : Thread Cert.BandKvRefIdeal.nD Cert.BandKvRefIdeal.τ).loc Cert.BandKvRefIdeal.main_arg4)
          ∧ r.2.mem ((c.tc : Thread Cert.BandKvRefIdeal.nD Cert.BandKvRefIdeal.τ).loc Cert.BandKvRefIdeal.main_arg5) = m' ((c.tc : Thread Cert.BandKvRefIdeal.nD Cert.BandKvRefIdeal.τ).loc Cert.BandKvRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v9)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v9) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v32) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_some_rows : Cert.Pre_some_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v22)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v22) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v97) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def Claim : Prop :=
  ∃ (hKernel : Cert.Kernel.Facts) (hKernelIdeal : Cert.KernelIdeal.Facts) (hReferenceIdeal : Cert.ReferenceIdeal.Facts) (hInRet : Cert.InRet.Facts) (hInRetIdeal : Cert.InRetIdeal.Facts) (hInRetRefIdeal : Cert.InRetRefIdeal.Facts) (hInAtt : Cert.InAtt.Facts) (hInAttIdeal : Cert.InAttIdeal.Facts) (hInAttRefIdeal : Cert.InAttRefIdeal.Facts) (hBandKv : Cert.BandKv.Facts) (hBandKvIdeal : Cert.BandKvIdeal.Facts) (hBandKvRefIdeal : Cert.BandKvRefIdeal.Facts) (hMemKv : Cert.MemKv.Facts) (hMemKvIdeal : Cert.MemKvIdeal.Facts) (hMemKvRefIdeal : Cert.MemKvRefIdeal.Facts) (hExperts : Cert.Experts.Facts) (hExpertsIdeal : Cert.ExpertsIdeal.Facts) (hExpertsRefIdeal : Cert.ExpertsRefIdeal.Facts) (hPre_finite_inputs : Cert.Pre_finite_inputs.Facts) (hPre_some_rows : Cert.Pre_some_rows.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_InRet (hInRet := hInRet)
    ∧ quiescent_InRetIdeal (hInRetIdeal := hInRetIdeal)
    ∧ quiescent_InRetRefIdeal (hInRetRefIdeal := hInRetRefIdeal)
    ∧ quiescent_InAtt (hInAtt := hInAtt)
    ∧ quiescent_InAttIdeal (hInAttIdeal := hInAttIdeal)
    ∧ quiescent_InAttRefIdeal (hInAttRefIdeal := hInAttRefIdeal)
    ∧ quiescent_BandKv (hBandKv := hBandKv)
    ∧ quiescent_BandKvIdeal (hBandKvIdeal := hBandKvIdeal)
    ∧ quiescent_BandKvRefIdeal (hBandKvRefIdeal := hBandKvRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Experts (hExperts := hExperts) (hPre_some_rows := hPre_some_rows)
    ∧ quiescent_ExpertsIdeal (hExpertsIdeal := hExpertsIdeal) (hPre_some_rows := hPre_some_rows)
    ∧ quiescent_ExpertsRefIdeal (hExpertsRefIdeal := hExpertsRefIdeal)
    ∧ quiescent_ExpertsRefIdeal_pre_some_rows (hExpertsRefIdeal := hExpertsRefIdeal) (hPre_some_rows := hPre_some_rows)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_InRet_InRetIdeal
    ∧ algebraic_InRetIdeal_InRetRefIdeal (hInRetIdeal := hInRetIdeal) (hInRetRefIdeal := hInRetRefIdeal)
    ∧ preserves_InAtt_InAttIdeal
    ∧ algebraic_InAttIdeal_InAttRefIdeal (hInAttIdeal := hInAttIdeal) (hInAttRefIdeal := hInAttRefIdeal)
    ∧ preserves_BandKv_BandKvIdeal
    ∧ algebraic_BandKvIdeal_BandKvRefIdeal (hBandKvIdeal := hBandKvIdeal) (hBandKvRefIdeal := hBandKvRefIdeal)
    ∧ preserves_MemKv_MemKvIdeal
    ∧ algebraic_MemKvIdeal_MemKvRefIdeal (hMemKvIdeal := hMemKvIdeal) (hMemKvRefIdeal := hMemKvRefIdeal)
    ∧ preserves_Experts_ExpertsIdeal
    ∧ algebraic_ExpertsIdeal_ExpertsRefIdeal (hExpertsIdeal := hExpertsIdeal) (hExpertsRefIdeal := hExpertsRefIdeal) (hPre_some_rows := hPre_some_rows)
-- ==== Pre_finite_inputs.lean ====
abbrev S32768x4608 : Shape := ⟨2, ![32768, 4608]⟩
abbrev S4x8x128x128 : Shape := ⟨4, ![4, 8, 128, 128]⟩
abbrev S1024 : Shape := ⟨1, ![1024]⟩
abbrev S32768x3072 : Shape := ⟨2, ![32768, 3072]⟩
abbrev S_ : Shape := ⟨0, ![]⟩

class Facts : Prop where
  slices_S32768x4608_S32768x3072_0_0 : S32768x4608.Slices ![0, 0] S32768x3072
  bitsLt_bf16_f32 : FTy.bits .bf16 < FTy.bits .f32
  bcast_S_S32768x3072 : S_.BroadcastsInDim S32768x3072 (![] : Fin 0 → Fin S32768x3072.rank)
  reducesTo_S32768x3072_S_d0_1 : S32768x3072.ReducesTo [0, 1] S_
  h_S_ : 0 < S_.numel
  bcast_S_S4x8x128x128 : S_.BroadcastsInDim S4x8x128x128 (![] : Fin 0 → Fin S4x8x128x128.rank)
  reducesTo_S4x8x128x128_S_d0_1_2_3 : S4x8x128x128.ReducesTo [0, 1, 2, 3] S_

variable [Facts]

def fn {F : FTy → Type} [FloatOps F] (main_arg0 : FVec F S32768x4608 .bf16) (main_arg1 : FVec F S4x8x128x128 .f32) (main_arg2 : FVec F S1024 .f32) : IVec S_ 1 :=
  let main_v0 : FVec F S32768x3072 .bf16 := (extractStridedSlice S32768x3072 ![0, 0] · slices_S32768x4608_S32768x3072_0_0) main_arg0
  let main_v1 : FVec F S32768x3072 .f32 := (extf .f32 · bitsLt_bf16_f32) main_v0
  let main_v2 : FVec F S32768x3072 .f32 := Host.absf main_v1
  let main_cst : FVec F S_ .f32 := constant S_ .f32 0x7F800000#32
  let main_v3 : FVec F S32768x3072 .f32 := broadcastInDim S32768x3072 ![] bcast_S_S32768x3072 main_cst
  let main_v4 : IVec S32768x3072 1 := cmpf .olt main_v2 main_v3
  let main_c : IVec S_ 1 := constantI S_ 1 1#1
  let main_v5 : IVec S_ 1 := (fun x v => Host.reduce IntOp.andi x v reducesTo_S32768x3072_S_d0_1 h_S_) main_v4 main_c
  let main_v6 : FVec F S4x8x128x128 .f32 := Host.absf main_arg1
  let main_cst_0 : FVec F S_ .f32 := constant S_ .f32 0x7F800000#32
  let main_v7 : FVec F S4x8x128x128 .f32 := broadcastInDim S4x8x128x128 ![] bcast_S_S4x8x128x128 main_cst_0
  let main_v8 : IVec S4x8x128x128 1 := cmpf .olt main_v6 main_v7
  let main_c_1 : IVec S_ 1 := constantI S_ 1 1#1
  let main_v9 : IVec S_ 1 := (fun x v => Host.reduce IntOp.andi x v reducesTo_S4x8x128x128_S_d0_1_2_3 h_S_) main_v8 main_c_1
  let main_v10 : IVec S_ 1 := andi main_v5 main_v9
  main_v10
-- ==== Pre_some_rows.lean ====
abbrev S663552x128 : Shape := ⟨2, ![663552, 128]⟩
abbrev S32 : Shape := ⟨1, ![32]⟩
abbrev S2x32x1024x512 : Shape := ⟨4, ![2, 32, 1024, 512]⟩
abbrev S2x32x512x1024 : Shape := ⟨4, ![2, 32, 512, 1024]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S_ 1) (arg1 : IVec S_ 32) (arg2 : IVec S_ 32) : IVec S_ 32 :=
  let v0 : IVec S_ 32 := select arg0 arg1 arg2
  v0

def fn_floor_divide_1 {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where_2 (F := F) v7 v8 v1
  v9

def fn {F : FTy → Type} [FloatOps F] (main_arg0 : FVec F S663552x128 .f32) (main_arg1 : IVec S32 32) (main_arg2 : FVec F S2x32x1024x512 .f32) (main_arg3 : FVec F S2x32x1024x512 .f32) (main_arg4 : FVec F S2x32x512x1024 .f32) : IVec S_ 1 :=
  let main_c : IVec S_ 32 := constantI S_ 32 512#32
  let main_v0 : IVec S32 32 := broadcastInDim S32 ![] bcast_S_S32 main_c
  let main_v1 : IVec S32 32 := addi main_arg1 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 512#32
  let main_v5 : IVec S32 32 := broadcastInDim S32 ![] bcast_S_S32 main_c_2
  let main_v6 : IVec S32 32 := muli main_v4 main_v5
  let main_v7 : IVec S32 32 := fn_cumsum (F := F) main_v6
  let main_v8 : IVec S1 32 := (extractStridedSlice S1 ![31] · slices_S32_S1_31) main_v7
  let main_v9 : IVec S_ 32 := shapeCast S_ main_v8 shapeCasts_S1_S_
  let main_c_3 : IVec S_ 32 := constantI S_ 32 512#32
  let main_v10 : IVec S_ 32 := fn_floor_divide_1 (F := F) main_v9 main_c_3
  let main_c_4 : IVec S_ 32 := constantI S_ 32 1#32
  let main_v11 : IVec S_ 1 := cmpi .sge main_v10 main_c_4
  main_v11
-- ==== Kernel.lean ====
abbrev S32768x4608 : Shape := ⟨2, ![32768, 4608]⟩
abbrev S4x8x128x128 : Shape := ⟨4, ![4, 8, 128, 128]⟩
abbrev S1024 : Shape := ⟨1, ![1024]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S1x8 : Shape := ⟨2, ![1, 8]⟩
abbrev S256x8 : Shape := ⟨2, ![256, 8]⟩
abbrev S256x8x128 : Shape := ⟨3, ![256, 8, 128]⟩
abbrev S256x1024 : Shape := ⟨2, ![256, 1024]⟩
abbrev S8x1 : Shape := ⟨2, ![8, 1]⟩
abbrev S8x1x128 : Shape := ⟨3, ![8, 1, 128]⟩
abbrev S8x128 : Shape := ⟨2, ![8, 128]⟩
abbrev S1x1024 : Shape := ⟨2, ![1, 1024]⟩
abbrev S32768x1024 : Shape := ⟨2, ![32768, 1024]⟩
abbrev S1x8x128x128 : Shape := ⟨4, ![1, 8, 128, 128]⟩
abbrev S256x128 : Shape := ⟨2, ![256, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 70
  | .vmem => 19
  | .smem => 0
  | _ => 0

abbrev bufTy : (tb : Table) → Fin (tcTables nBuf tb) → BufTy
  | .hbm, ⟨0, _⟩ => ⟨S32768x4608, .bf16⟩
  | .hbm, ⟨1, _⟩ => ⟨S4x8x128x128, .f32⟩
  | .hbm, ⟨2, _⟩ => ⟨S1024, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S256, .f32⟩
  | .hbm, ⟨14, _⟩ => ⟨S256x1, .f32⟩
  | .hbm, ⟨15, _⟩ => ⟨S1x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S1x256x256, .f32⟩
  | .hbm, ⟨20, _⟩ => ⟨S_, .f32⟩
  | .hbm, ⟨21, _⟩ => ⟨S1x256x256, .f32⟩
  | .hbm, ⟨22, _⟩ => ⟨S1x256x256, .i1⟩
  | .hbm, ⟨23, _⟩ => ⟨S8x1x1, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S1x256x256, .f32⟩
  | .hbm, ⟨28, _⟩ => ⟨S8x256x256, .f32⟩
  | .hbm, ⟨29, _⟩ => ⟨S8x256x256, .f32⟩
  | .hbm, ⟨30, _⟩ => ⟨S8x256x256, .f32⟩
  | .hbm, ⟨31, _⟩ => ⟨S8x256x256, .f32⟩
  | .hbm, ⟨32, _⟩ => ⟨S_, .f32⟩
  | .hbm, ⟨33, _⟩ => ⟨S_, .f32⟩
  | .hbm, ⟨34, _⟩ => ⟨S8x256x256, .i1⟩
  | .hbm, ⟨35, _⟩ => ⟨S8x256x256, .f32⟩
  | .hbm, ⟨36, _⟩ => ⟨S8x256x256, .f32⟩
  | .hbm, ⟨37, _⟩ => ⟨S1x8, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256x1, .f32⟩
  | .hbm, ⟨42, _⟩ => ⟨S256x8, .f32⟩
  | .hbm, ⟨43, _⟩ => ⟨S256x8, .f32⟩
  | .hbm, ⟨44, _⟩ => ⟨S256x8, .f32⟩
  | .hbm, ⟨45, _⟩ => ⟨S256x8, .f32⟩
  | .hbm, ⟨46, _⟩ => ⟨S1x8, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256x1, .f32⟩
  | .hbm, ⟨51, _⟩ => ⟨S256x8, .f32⟩
  | .hbm, ⟨52, _⟩ => ⟨S256x8, .f32⟩
  | .hbm, ⟨53, _⟩ => ⟨S256x8, .f32⟩
  | .hbm, ⟨54, _⟩ => ⟨S256x8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S8, .f32⟩
  | .hbm, ⟨59, _⟩ => ⟨S256x8x128, .f32⟩
  | .hbm, ⟨60, _⟩ => ⟨S256x1024, .f32⟩
  | .hbm, ⟨61, _⟩ => ⟨S256x8x128, .f32⟩
  | .hbm, ⟨62, _⟩ => ⟨S256x1024, .f32⟩
  | .hbm, ⟨63, _⟩ => ⟨S8x1, .f32⟩
  | .hbm, ⟨64, _⟩ => ⟨S8x1x128, .f32⟩
  | .hbm, ⟨65, _⟩ => ⟨S8x128, .f32⟩
  | .hbm, ⟨66, _⟩ => ⟨S8x1x128, .f32⟩
  | .hbm, ⟨67, _⟩ => ⟨S1x1024, .f32⟩
  | .hbm, ⟨68, _⟩ => ⟨S32768x1024, .bf16⟩
  | .hbm, ⟨69, _⟩ => ⟨S4x8x128x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1x8x128x128, .f32⟩
  | .local _ .vmem, ⟨9, _⟩ => ⟨S1x8x128x128, .f32⟩
  | .local _ .vmem, ⟨10, _⟩ => ⟨S8x256x256, .f32⟩
  | .local _ .vmem, ⟨11, _⟩ => ⟨S256x1024, .f32⟩
  | .local _ .vmem, ⟨12, _⟩ => ⟨S256x1024, .f32⟩
  | .local _ .vmem, ⟨13, _⟩ => ⟨S8x1x128, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S1x8x128x128, .f32⟩
  | .local _ .vmem, ⟨18, _⟩ => ⟨S1x8x128x128, .f32⟩
  | _, _ => ⟨S32768x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54_0 : Ref sig .tc := ⟨.hbm, 68, rfl⟩
abbrev main_v54_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S32768x4608 : Shape := ⟨2, ![32768, 4608]⟩
abbrev S4x8x128x128 : Shape := ⟨4, ![4, 8, 128, 128]⟩
abbrev S1024 : Shape := ⟨1, ![1024]⟩
abbrev S4x8192x4608 : Shape := ⟨3, ![4, 8192, 4608]⟩
abbrev S4x8192x1024 : Shape := ⟨3, ![4, 8192, 1024]⟩
abbrev S4x8192x512 : Shape := ⟨3, ![4, 8192, 512]⟩
abbrev S4x8192x8x128 : Shape := ⟨4, ![4, 8192, 8, 128]⟩
abbrev S8 : Shape := ⟨1, ![8]⟩
abbrev S_ : Shape := ⟨0, ![]⟩
abbrev S4x128x64x8x128 : Shape := ⟨5, ![4, 128, 64, 8, 128]⟩
abbrev S128x4x64x8x128 : Shape := ⟨5, ![128, 4, 64, 8, 128]⟩
abbrev S1x4x64x8x128 : Shape := ⟨5, ![1, 4, 64, 8, 128]⟩
abbrev S4x64x8x128 : Shape := ⟨4, ![4, 64, 8, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x1x1 : Shape := ⟨3, ![8, 1, 1]⟩
abbrev S8x64x64 : Shape := ⟨3, ![8, 64, 64]⟩
abbrev S4x8x64x64 : Shape := ⟨4, ![4, 8, 64, 64]⟩
abbrev S1x8x64x64 : Shape := ⟨4, ![1, 8, 64, 64]⟩
abbrev S4x8x128x64 : Shape := ⟨4, ![4, 8, 128, 64]⟩
abbrev S1x8 : Shape := ⟨2, ![1, 8]⟩
abbrev S64x8 : Shape := ⟨2, ![64, 8]⟩
abbrev S1x64x8x1 : Shape := ⟨4, ![1, 64, 8, 1]⟩
abbrev S1x8x1x1 : Shape := ⟨4, ![1, 8, 1, 1]⟩
abbrev S4x8192x8 : Shape := ⟨3, ![4, 8192, 8]⟩
abbrev S4x8192x8x1 : Shape := ⟨4, ![4, 8192, 8, 1]⟩
abbrev S1x1x1024 : Shape := ⟨3, ![1, 1, 1024]⟩
abbrev S32768x1024 : Shape := ⟨2, ![32768, 1024]⟩

abbrev nBuf : Space → Nat
  | .hbm => 165
  | .vmem => 0
  | .smem => 0
  | _ => 0

abbrev hbmTy0_0 (i : Nat) : BufTy := match i % 128 with
  | 0 => ⟨S32768x4608, .bf16⟩
  | 1 => ⟨S4x8x128x128, .f32⟩
  | 2 => ⟨S1024, .f32⟩
  | 3 => ⟨S32768x4608, .f32⟩
  | 4 => ⟨S4x8192x4608, .f32⟩
  | 5 => ⟨S4x8192x1024, .f32⟩
  | 6 => ⟨S4x8192x1024, .f32⟩
  | 7 => ⟨S4x8192x1024, .f32⟩
  | 8 => ⟨S4x8192x1024, .f32⟩
  | 9 => ⟨S4x8192x512, .f32⟩
  | 10 => ⟨S4x8192x8x128, .f32⟩
  | 11 => ⟨S4x8192x8x128, .f32⟩
  | 12 => ⟨S4x8192x8x128, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S8, .f32⟩
  | 22 => ⟨S8, .f32⟩
  | 23 => ⟨S4x128x64x8x128, .f32⟩
  | 24 => ⟨S128x4x64x8x128, .f32⟩
  | 25 => ⟨S4x128x64x8x128, .f32⟩
  | 26 => ⟨S128x4x64x8x128, .f32⟩
  | 27 => ⟨S4x128x64x8x128, .f32⟩
  | 28 => ⟨S128x4x64x8x128, .f32⟩
  | 29 => ⟨S_, .f32⟩
  | 30 => ⟨S128x4x64x8x128, .f32⟩
  | 31 => ⟨S_, .i32⟩
  | 32 => ⟨S128x4x64x8x128, .f32⟩
  | 33 => ⟨S128x4x64x8x128, .f32⟩
  | 34 => ⟨S128x4x64x8x128, .f32⟩
  | 35 => ⟨S8, .f32⟩
  | 36 => ⟨S_, .i32⟩
  | 37 => ⟨S4x8x128x128, .f32⟩
  | 38 => ⟨S128x4x64x8x128, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x4x64x8x128, .f32⟩
  | 46 => ⟨S4x64x8x128, .f32⟩
  | 47 => ⟨S_, .i32⟩
  | 48 => ⟨S_, .i32⟩
  | 49 => ⟨S_, .i32⟩
  | 50 => ⟨S_, .i32⟩
  | 51 => ⟨S1x4x64x8x128, .f32⟩
  | 52 => ⟨S4x64x8x128, .f32⟩
  | 53 => ⟨S_, .i32⟩
  | 54 => ⟨S_, .i32⟩
  | 55 => ⟨S_, .i32⟩
  | 56 => ⟨S_, .i32⟩
  | 57 => ⟨S1x4x64x8x128, .f32⟩
  | 58 => ⟨S4x64x8x128, .f32⟩
  | 59 => ⟨S64, .f32⟩
  | 60 => ⟨S64x1, .f32⟩
  | 61 => ⟨S1x64, .f32⟩
  | 62 => ⟨S64x64, .f32⟩
  | 63 => ⟨S64x64, .f32⟩
  | 64 => ⟨S64x64, .f32⟩
  | 65 => ⟨S1x64x64, .f32⟩
  | 66 => ⟨S_, .f32⟩
  | 67 => ⟨S1x64x64, .f32⟩
  | 68 => ⟨S1x64x64, .i1⟩
  | 69 => ⟨S8x1x1, .f32⟩
  | 70 => ⟨S_, .f32⟩
  | 71 => ⟨S64x64, .f32⟩
  | 72 => ⟨S64x64, .f32⟩
  | 73 => ⟨S1x64x64, .f32⟩
  | 74 => ⟨S8x64x64, .f32⟩
  | 75 => ⟨S8x64x64, .f32⟩
  | 76 => ⟨S8x64x64, .f32⟩
  | 77 => ⟨S8x64x64, .f32⟩
  | 78 => ⟨S_, .f32⟩
  | 79 => ⟨S_, .f32⟩
  | 80 => ⟨S8x64x64, .i1⟩
  | 81 => ⟨S8x64x64, .f32⟩
  | 82 => ⟨S8x64x64, .f32⟩
  | 83 => ⟨S4x8x64x64, .f32⟩
  | 84 => ⟨S1x8x64x64, .f32⟩
  | 85 => ⟨S4x8x64x64, .f32⟩
  | 86 => ⟨S4x8x64x64, .f32⟩
  | 87 => ⟨S4x8x128x64, .f32⟩
  | 88 => ⟨S4x64x8x128, .f32⟩
  | 89 => ⟨S1x8, .f32⟩
  | 90 => ⟨S_, .f32⟩
  | 91 => ⟨S64, .f32⟩
  | 92 => ⟨S64, .f32⟩
  | 93 => ⟨S64x1, .f32⟩
  | 94 => ⟨S64x8, .f32⟩
  | 95 => ⟨S64x8, .f32⟩
  | 96 => ⟨S64x8, .f32⟩
  | 97 => ⟨S64x8, .f32⟩
  | 98 => ⟨S4x8x128x64, .f32⟩
  | 99 => ⟨S4x64x8x128, .f32⟩
  | 100 => ⟨S1x64x8x1, .f32⟩
  | 101 => ⟨S4x64x8x128, .f32⟩
  | 102 => ⟨S4x64x8x128, .f32⟩
  | 103 => ⟨S1x8, .f32⟩
  | 104 => ⟨S_, .f32⟩
  | 105 => ⟨S64, .f32⟩
  | 106 => ⟨S64, .f32⟩
  | 107 => ⟨S64x1, .f32⟩
  | 108 => ⟨S64x8, .f32⟩
  | 109 => ⟨S64x8, .f32⟩
  | 110 => ⟨S64x8, .f32⟩
  | 111 => ⟨S64x8, .f32⟩
  | 112 => ⟨S_, .f32⟩
  | 113 => ⟨S8, .f32⟩
  | 114 => ⟨S8, .f32⟩
  | 115 => ⟨S8, .f32⟩
  | 116 => ⟨S1x8x1x1, .f32⟩
  | 117 => ⟨S4x8x128x128, .f32⟩
  | 118 => ⟨S4x8x128x128, .f32⟩
  | 119 => ⟨S1x64x8x1, .f32⟩
  | 120 => ⟨S4x64x8x128, .f32⟩
  | 121 => ⟨S4x64x8x128, .f32⟩
  | 122 => ⟨S4x8x128x128, .f32⟩
  | 123 => ⟨S4x8x128x128, .f32⟩
  | 124 => ⟨S4x64x8x128, .f32⟩
  | 125 => ⟨S1x4x64x8x128, .f32⟩
  | 126 => ⟨S_, .i32⟩
  | 127 => ⟨S_, .i32⟩
  | _ => ⟨S32768x4608, .bf16⟩

abbrev hbmTy0_1 (i : Nat) : BufTy := match i % 128 with
  | 0 => ⟨S_, .i32⟩
  | 1 => ⟨S_, .i32⟩
  | 2 => ⟨S128x4x64x8x128, .f32⟩
  | 3 => ⟨S_, .i32⟩
  | 4 => ⟨S_, .i32⟩
  | 5 => ⟨S4x128x64x8x128, .f32⟩
  | 6 => ⟨S4x8192x8x128, .f32⟩
  | 7 => ⟨S_, .f32⟩
  | 8 => ⟨S4x8192x8, .f32⟩
  | 9 => ⟨S4x8192x8x1, .f32⟩
  | 10 => ⟨S_, .f32⟩
  | 11 => ⟨S4x8192x8x1, .f32⟩
  | 12 => ⟨S4x8192x8x1, .f32⟩
  | 13 => ⟨S4x8192x8x128, .f32⟩
  | 14 => ⟨S4x8192x8x128, .f32⟩
  | 15 => ⟨S4x8192x8x128, .f32⟩
  | 16 => ⟨S_, .f32⟩
  | 17 => ⟨S4x8192x8, .f32⟩
  | 18 => ⟨S4x8192x8x1, .f32⟩
  | 19 => ⟨S_, .f32⟩
  | 20 => ⟨S4x8192x8x1, .f32⟩
  | 21 => ⟨S4x8192x8x1, .f32⟩
  | 22 => ⟨S4x8192x8x128, .f32⟩
  | 23 => ⟨S4x8192x8x128, .f32⟩
  | 24 => ⟨S_, .f32⟩
  | 25 => ⟨S4x8192x8x1, .f32⟩
  | 26 => ⟨S4x8192x8x1, .f32⟩
  | 27 => ⟨S4x8192x8x1, .f32⟩
  | 28 => ⟨S4x8192x8x128, .f32⟩
  | 29 => ⟨S4x8192x8x128, .f32⟩
  | 30 => ⟨S4x8192x1024, .f32⟩
  | 31 => ⟨S1x1x1024, .f32⟩
  | 32 => ⟨S4x8192x1024, .f32⟩
  | 33 => ⟨S4x8192x1024, .f32⟩
  | 34 => ⟨S4x8192x1024, .f32⟩
  | 35 => ⟨S4x8192x1024, .bf16⟩
  | 36 => ⟨S32768x1024, .bf16⟩
  | _ => ⟨S32768x4608, .bf16⟩

abbrev hbmTy (i : Nat) : BufTy := match i / 128 with
  | 0 => hbmTy0_0 i
  | 1 => hbmTy0_1 i
  | _ => ⟨S32768x4608, .bf16⟩

abbrev bufTy : (tb : Table) → Fin (tcTables nBuf tb) → BufTy
  | .hbm, ⟨i, _⟩ => hbmTy i
  | _, _ => ⟨S32768x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_c : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev main_v25_4 : Ref sig .tc := ⟨.hbm, 36, rfl⟩
abbrev main_v25_5 : Ref sig .tc := ⟨.hbm, 37, rfl⟩
abbrev main_v25_6 : Ref sig .tc := ⟨.hbm, 38, rfl⟩
abbrev main_while0c_c_13 : Ref sig .tc := ⟨.hbm, 39, rfl⟩
abbrev main_while0c_v53 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_c_2 : Ref sig .tc := ⟨.hbm, 44, rfl⟩
abbrev main_while0b_call0_v0 : Ref sig .tc := ⟨.hbm, 45, rfl⟩
abbrev main_while0b_v53 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_c_2 : Ref sig .tc := ⟨.hbm, 50, rfl⟩
abbrev main_while0b_call1_v0 : Ref sig .tc := ⟨.hbm, 51, rfl⟩
abbrev main_while0b_v54 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v0 : Ref sig .tc := ⟨.hbm, 57, rfl⟩
abbrev main_while0b_v55 : Ref sig .tc := ⟨.hbm, 58, rfl⟩
abbrev main_while0b_v56 : Ref sig .tc := ⟨.hbm, 59, rfl⟩
abbrev main_while0b_v57 : Ref sig .tc := ⟨.hbm, 60, rfl⟩
abbrev main_while0b_v58 : Ref sig .tc := ⟨.hbm, 61, rfl⟩
abbrev main_while0b_v59 : Ref sig .tc := ⟨.hbm, 62, rfl⟩
abbrev main_while0b_v60 : Ref sig .tc := ⟨.hbm, 63, rfl⟩
abbrev main_while0b_v61 : Ref sig .tc := ⟨.hbm, 64, rfl⟩
abbrev main_while0b_v62 : Ref sig .tc := ⟨.hbm, 65, rfl⟩
abbrev main_while0b_cst_13 : Ref sig .tc := ⟨.hbm, 66, rfl⟩
abbrev main_while0b_v63 : Ref sig .tc := ⟨.hbm, 67, rfl⟩
abbrev main_while0b_v64 : Ref sig .tc := ⟨.hbm, 68, rfl⟩
abbrev main_while0b_v65 : Ref sig .tc := ⟨.hbm, 69, rfl⟩
abbrev main_while0b_cst_14 : Ref sig .tc := ⟨.hbm, 70, rfl⟩
abbrev main_while0b_v66 : Ref sig .tc := ⟨.hbm, 71, rfl⟩
abbrev main_while0b_v67 : Ref sig .tc := ⟨.hbm, 72, rfl⟩
abbrev main_while0b_v68 : Ref sig .tc := ⟨.hbm, 73, rfl⟩
abbrev main_while0b_v69 : Ref sig .tc := ⟨.hbm, 74, rfl⟩
abbrev main_while0b_v70 : Ref sig .tc := ⟨.hbm, 75, rfl⟩
abbrev main_while0b_v71 : Ref sig .tc := ⟨.hbm, 76, rfl⟩
abbrev main_while0b_v72 : Ref sig .tc := ⟨.hbm, 77, rfl⟩
abbrev main_while0b_cst_15 : Ref sig .tc := ⟨.hbm, 78, rfl⟩
abbrev main_while0b_call3_v0 : Ref sig .tc := ⟨.hbm, 79, rfl⟩
abbrev main_while0b_call3_v1 : Ref sig .tc := ⟨.hbm, 80, rfl⟩
abbrev main_while0b_call3_v2 : Ref sig .tc := ⟨.hbm, 81, rfl⟩
abbrev main_while0b_v73 : Ref sig .tc := ⟨.hbm, 82, rfl⟩
abbrev main_while0b_v74 : Ref sig .tc := ⟨.hbm, 83, rfl⟩
abbrev main_while0b_v75 : Ref sig .tc := ⟨.hbm, 84, rfl⟩
abbrev main_while0b_v76 : Ref sig .tc := ⟨.hbm, 85, rfl⟩
abbrev main_while0b_v77 : Ref sig .tc := ⟨.hbm, 86, rfl⟩
abbrev main_while0b_v78 : Ref sig .tc := ⟨.hbm, 87, rfl⟩
abbrev main_while0b_v79 : Ref sig .tc := ⟨.hbm, 88, rfl⟩
abbrev main_while0b_v80 : Ref sig .tc := ⟨.hbm, 89, rfl⟩
abbrev main_while0b_cst_16 : Ref sig .tc := ⟨.hbm, 90, rfl⟩
abbrev main_while0b_v81 : Ref sig .tc := ⟨.hbm, 91, rfl⟩
abbrev main_while0b_v82 : Ref sig .tc := ⟨.hbm, 92, rfl⟩
abbrev main_while0b_v83 : Ref sig .tc := ⟨.hbm, 93, rfl⟩
abbrev main_while0b_v84 : Ref sig .tc := ⟨.hbm, 94, rfl⟩
abbrev main_while0b_v85 : Ref sig .tc := ⟨.hbm, 95, rfl⟩
abbrev main_while0b_v86 : Ref sig .tc := ⟨.hbm, 96, rfl⟩
abbrev main_while0b_v87 : Ref sig .tc := ⟨.hbm, 97, rfl⟩
abbrev main_while0b_v88 : Ref sig .tc := ⟨.hbm, 98, rfl⟩
abbrev main_while0b_v89 : Ref sig .tc := ⟨.hbm, 99, rfl⟩
abbrev main_while0b_v90 : Ref sig .tc := ⟨.hbm, 100, rfl⟩
abbrev main_while0b_v91 : Ref sig .tc := ⟨.hbm, 101, rfl⟩
abbrev main_while0b_v92 : Ref sig .tc := ⟨.hbm, 102, rfl⟩
abbrev main_while0b_v93 : Ref sig .tc := ⟨.hbm, 103, rfl⟩
abbrev main_while0b_cst_17 : Ref sig .tc := ⟨.hbm, 104, rfl⟩
abbrev main_while0b_v94 : Ref sig .tc := ⟨.hbm, 105, rfl⟩
abbrev main_while0b_v95 : Ref sig .tc := ⟨.hbm, 106, rfl⟩
abbrev main_while0b_v96 : Ref sig .tc := ⟨.hbm, 107, rfl⟩
abbrev main_while0b_v97 : Ref sig .tc := ⟨.hbm, 108, rfl⟩
abbrev main_while0b_v98 : Ref sig .tc := ⟨.hbm, 109, rfl⟩
abbrev main_while0b_v99 : Ref sig .tc := ⟨.hbm, 110, rfl⟩
abbrev main_while0b_v100 : Ref sig .tc := ⟨.hbm, 111, rfl⟩
abbrev main_while0b_cst_18 : Ref sig .tc := ⟨.hbm, 112, rfl⟩
abbrev main_while0b_v101 : Ref sig .tc := ⟨.hbm, 113, rfl⟩
abbrev main_while0b_v102 : Ref sig .tc := ⟨.hbm, 114, rfl⟩
abbrev main_while0b_v103 : Ref sig .tc := ⟨.hbm, 115, rfl⟩
abbrev main_while0b_v104 : Ref sig .tc := ⟨.hbm, 116, rfl⟩
abbrev main_while0b_v105 : Ref sig .tc := ⟨.hbm, 117, rfl⟩
abbrev main_while0b_v106 : Ref sig .tc := ⟨.hbm, 118, rfl⟩
abbrev main_while0b_v107 : Ref sig .tc := ⟨.hbm, 119, rfl⟩
abbrev main_while0b_v108 : Ref sig .tc := ⟨.hbm, 120, rfl⟩
abbrev main_while0b_v109 : Ref sig .tc := ⟨.hbm, 121, rfl⟩
abbrev main_while0b_v110 : Ref sig .tc := ⟨.hbm, 122, rfl⟩
abbrev main_while0b_v111 : Ref sig .tc := ⟨.hbm, 123, rfl⟩
abbrev main_while0b_v112 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_v113 : Ref sig .tc := ⟨.hbm, 130, rfl⟩
abbrev main_while0b_c_19 : Ref sig .tc := ⟨.hbm, 131, rfl⟩
abbrev main_while0b_v114 : Ref sig .tc := ⟨.hbm, 132, rfl⟩
abbrev main_v26 : Ref sig .tc := ⟨.hbm, 133, rfl⟩
abbrev main_v27 : Ref sig .tc := ⟨.hbm, 134, rfl⟩
abbrev main_cst_2 : Ref sig .tc := ⟨.hbm, 135, rfl⟩
abbrev main_v28 : Ref sig .tc := ⟨.hbm, 136, rfl⟩
abbrev main_v29 : Ref sig .tc := ⟨.hbm, 137, rfl⟩
abbrev main_cst_3 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_cst_4 : Ref sig .tc := ⟨.hbm, 144, rfl⟩
abbrev main_v35 : Ref sig .tc := ⟨.hbm, 145, rfl⟩
abbrev main_v36 : Ref sig .tc := ⟨.hbm, 146, rfl⟩
abbrev main_cst_5 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_cst_6 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩

abbrev nD : Nat := 1
abbrev τ : Topo := Topo.v7x

variable {F : FTy → Type} [FloatOps F]

abbrev main_while0_count : Scf.Loop 32 := ⟨0#32, 128#32, 1#32⟩
-- ==== InRet.lean ====
abbrev S4x8192x1024 : Shape := ⟨3, ![4, 8192, 1024]⟩
abbrev S1024 : Shape := ⟨1, ![1024]⟩
abbrev S1024x4608 : Shape := ⟨2, ![1024, 4608]⟩
abbrev S128 : Shape := ⟨1, ![128]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128x1 : Shape := ⟨2, ![128, 1]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S8192x64 : Shape := ⟨2, ![8192, 64]⟩
abbrev S8192x128 : Shape := ⟨2, ![8192, 128]⟩
abbrev S2048 : Shape := ⟨1, ![2048]⟩
abbrev S1x128 : Shape := ⟨2, ![1, 128]⟩
abbrev S4x128 : Shape := ⟨2, ![4, 128]⟩
abbrev S512 : Shape := ⟨1, ![512]⟩
abbrev S4608 : Shape := ⟨1, ![4608]⟩
abbrev S32768x1024 : Shape := ⟨2, ![32768, 1024]⟩
abbrev S1x1024 : Shape := ⟨2, ![1, 1024]⟩
abbrev S1x4608 : Shape := ⟨2, ![1, 4608]⟩
abbrev S32768x4608 : Shape := ⟨2, ![32768, 4608]⟩
abbrev S1024x1024 : Shape := ⟨2, ![1024, 1024]⟩
abbrev S1024x128 : Shape := ⟨2, ![1024, 128]⟩
abbrev S1024x1 : Shape := ⟨2, ![1024, 1]⟩
abbrev S1024x512 : Shape := ⟨2, ![1024, 512]⟩

abbrev nBuf : Space → Nat
  | .hbm => 84
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4608, .f32⟩
  | .hbm, ⟨3, _⟩ => ⟨S128, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .f32⟩
  | .hbm, ⟨20, _⟩ => ⟨S64x1, .f32⟩
  | .hbm, ⟨21, _⟩ => ⟨S1x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S128, .i32⟩
  | .hbm, ⟨28, _⟩ => ⟨S128, .f32⟩
  | .hbm, ⟨29, _⟩ => ⟨S128x1, .f32⟩
  | .hbm, ⟨30, _⟩ => ⟨S1x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S64x1x64, .f32⟩
  | .hbm, ⟨37, _⟩ => ⟨S1x128x64, .f32⟩
  | .hbm, ⟨38, _⟩ => ⟨S64x128x64, .f32⟩
  | .hbm, ⟨39, _⟩ => ⟨S64x128x64, .f32⟩
  | .hbm, ⟨40, _⟩ => ⟨S64x128x64, .f32⟩
  | .hbm, ⟨41, _⟩ => ⟨S64x1x64, .f32⟩
  | .hbm, ⟨42, _⟩ => ⟨S1x128x64, .f32⟩
  | .hbm, ⟨43, _⟩ => ⟨S64x128x64, .f32⟩
  | .hbm, ⟨44, _⟩ => ⟨S64x128x64, .f32⟩
  | .hbm, ⟨45, _⟩ => ⟨S64x128x64, .f32⟩
  | .hbm, ⟨46, _⟩ => ⟨S64x128x64, .f32⟩
  | .hbm, ⟨47, _⟩ => ⟨S8192x64, .f32⟩
  | .hbm, ⟨48, _⟩ => ⟨S64x1x64, .f32⟩
  | .hbm, ⟨49, _⟩ => ⟨S1x128x64, .f32⟩
  | .hbm, ⟨50, _⟩ => ⟨S64x128x64, .f32⟩
  | .hbm, ⟨51, _⟩ => ⟨S64x128x64, .f32⟩
  | .hbm, ⟨52, _⟩ => ⟨S64x128x64, .f32⟩
  | .hbm, ⟨53, _⟩ => ⟨S64x1x64, .f32⟩
  | .hbm, ⟨54, _⟩ => ⟨S1x128x64, .f32⟩
  | .hbm, ⟨55, _⟩ => ⟨S64x128x64, .f32⟩
  | .hbm, ⟨56, _⟩ => ⟨S64x128x64, .f32⟩
  | .hbm, ⟨57, _⟩ => ⟨S64x128x64, .f32⟩
  | .hbm, ⟨58, _⟩ => ⟨S64x128x64, .f32⟩
  | .hbm, ⟨59, _⟩ => ⟨S8192x64, .f32⟩
  | .hbm, ⟨60, _⟩ => ⟨S8192x128, .f32⟩
  | .hbm, ⟨61, _⟩ => ⟨S8192x64, .f32⟩
  | .hbm, ⟨62, _⟩ => ⟨S8192x128, .f32⟩
  | .hbm, ⟨63, _⟩ => ⟨S_, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S_, .f32⟩
  | .hbm, ⟨71, _⟩ => ⟨S2048, .f32⟩
  | .hbm, ⟨72, _⟩ => ⟨S1x128, .f32⟩
  | .hbm, ⟨73, _⟩ => ⟨S4x128, .f32⟩
  | .hbm, ⟨74, _⟩ => ⟨S512, .f32⟩
  | .hbm, ⟨75, _⟩ => ⟨S_, .f32⟩
  | .hbm, ⟨76, _⟩ => ⟨S512, .f32⟩
  | .hbm, ⟨77, _⟩ => ⟨S512, .f32⟩
  | .hbm, ⟨78, _⟩ => ⟨S4608, .f32⟩
  | .hbm, ⟨79, _⟩ => ⟨S32768x1024, .f32⟩
  | .hbm, ⟨80, _⟩ => ⟨S1024x4608, .bf16⟩
  | .hbm, ⟨81, _⟩ => ⟨S1x1024, .f32⟩
  | .hbm, ⟨82, _⟩ => ⟨S1x4608, .f32⟩
  | .hbm, ⟨83, _⟩ => ⟨S32768x4608, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4608, .bf16⟩
  | .local _ .vmem, ⟨4, _⟩ => ⟨S1x4608, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x4608, .bf16⟩
  | .local _ .vmem, ⟨10, _⟩ => ⟨S1024x4608, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_2 : Ref sig .tc := ⟨.hbm, 63, rfl⟩
abbrev main_v55 : Ref sig .tc := ⟨.hbm, 64, rfl⟩
abbrev main_cst_3 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InRetRefIdeal.lean ====
abbrev S4x8192x1024 : Shape := ⟨3, ![4, 8192, 1024]⟩
abbrev S1024 : Shape := ⟨1, ![1024]⟩
abbrev S1024x4608 : Shape := ⟨2, ![1024, 4608]⟩
abbrev S128 : Shape := ⟨1, ![128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4608 : Shape := ⟨3, ![4, 8192, 4608]⟩
abbrev S4x8192x512 : Shape := ⟨3, ![4, 8192, 512]⟩
abbrev S8192 : Shape := ⟨1, ![8192]⟩
abbrev S4x8192x8x128 : Shape := ⟨4, ![4, 8192, 8, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S4x8192x8x64 : Shape := ⟨4, ![4, 8192, 8, 64]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x4608 : Shape := ⟨2, ![32768, 4608]⟩

abbrev nBuf : Space → Nat
  | .hbm => 129
  | .vmem => 0
  | .smem => 0
  | _ => 0

abbrev hbmTy0_0 (i : Nat) : BufTy := match i % 128 with
  | 0 => ⟨S4x8192x1024, .f32⟩
  | 1 => ⟨S1024, .f32⟩
  | 2 => ⟨S1024x4608, .f32⟩
  | 3 => ⟨S128, .f32⟩
  | 4 => ⟨S4x8192x1024, .f32⟩
  | 5 => ⟨S_, .f32⟩
  | 6 => ⟨S4x8192, .f32⟩
  | 7 => ⟨S4x8192x1, .f32⟩
  | 8 => ⟨S_, .f32⟩
  | 9 => ⟨S4x8192x1, .f32⟩
  | 10 => ⟨S4x8192x1, .f32⟩
  | 11 => ⟨S_, .f32⟩
  | 12 => ⟨S4x8192x1, .f32⟩
  | 13 => ⟨S4x8192x1, .f32⟩
  | 14 => ⟨S4x8192x1, .f32⟩
  | 15 => ⟨S4x8192x1024, .f32⟩
  | 16 => ⟨S4x8192x1024, .f32⟩
  | 17 => ⟨S1x1x1024, .f32⟩
  | 18 => ⟨S4x8192x1024, .f32⟩
  | 19 => ⟨S4x8192x1024, .f32⟩
  | 20 => ⟨S4x8192x4608, .f32⟩
  | 21 => ⟨S4x8192x1024, .f32⟩
  | 22 => ⟨S4x8192x1024, .f32⟩
  | 23 => ⟨S4x8192x1024, .f32⟩
  | 24 => ⟨S4x8192x1024, .f32⟩
  | 25 => ⟨S4x8192x512, .f32⟩
  | 26 => ⟨S8192, .i32⟩
  | 27 => ⟨S4x8192x8x128, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S8192, .f32⟩
  | 37 => ⟨S8192x1, .f32⟩
  | 38 => ⟨S1x64, .f32⟩
  | 39 => ⟨S8192x64, .f32⟩
  | 40 => ⟨S8192x64, .f32⟩
  | 41 => ⟨S8192x64, .f32⟩
  | 42 => ⟨S8192x64, .f32⟩
  | 43 => ⟨S1x8192x1x64, .f32⟩
  | 44 => ⟨S8192x64, .f32⟩
  | 45 => ⟨S1x8192x1x64, .f32⟩
  | 46 => ⟨S4x8192x8x64, .f32⟩
  | 47 => ⟨S4x8192x8x64, .f32⟩
  | 48 => ⟨S4x8192x8x64, .f32⟩
  | 49 => ⟨S4x8192x8x64, .f32⟩
  | 50 => ⟨S4x8192x8x64, .f32⟩
  | 51 => ⟨S4x8192x8x64, .f32⟩
  | 52 => ⟨S4x8192x8x64, .f32⟩
  | 53 => ⟨S4x8192x8x64, .f32⟩
  | 54 => ⟨S4x8192x8x64, .f32⟩
  | 55 => ⟨S4x8192x8x64, .f32⟩
  | 56 => ⟨S4x8192x8x64, .f32⟩
  | 57 => ⟨S4x8192x8x64, .f32⟩
  | 58 => ⟨S4x8192x8x128, .f32⟩
  | 59 => ⟨S4x8192x8x128, .f32⟩
  | 60 => ⟨S64, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S8192, .f32⟩
  | 69 => ⟨S8192x1, .f32⟩
  | 70 => ⟨S1x64, .f32⟩
  | 71 => ⟨S8192x64, .f32⟩
  | 72 => ⟨S8192x64, .f32⟩
  | 73 => ⟨S8192x64, .f32⟩
  | 74 => ⟨S8192x64, .f32⟩
  | 75 => ⟨S1x8192x1x64, .f32⟩
  | 76 => ⟨S8192x64, .f32⟩
  | 77 => ⟨S1x8192x1x64, .f32⟩
  | 78 => ⟨S4x8192x8x64, .f32⟩
  | 79 => ⟨S4x8192x8x64, .f32⟩
  | 80 => ⟨S4x8192x8x64, .f32⟩
  | 81 => ⟨S4x8192x8x64, .f32⟩
  | 82 => ⟨S4x8192x8x64, .f32⟩
  | 83 => ⟨S4x8192x8x64, .f32⟩
  | 84 => ⟨S4x8192x8x64, .f32⟩
  | 85 => ⟨S4x8192x8x64, .f32⟩
  | 86 => ⟨S4x8192x8x64, .f32⟩
  | 87 => ⟨S4x8192x8x64, .f32⟩
  | 88 => ⟨S4x8192x8x64, .f32⟩
  | 89 => ⟨S4x8192x8x64, .f32⟩
  | 90 => ⟨S4x8192x8x128, .f32⟩
  | 91 => ⟨S_, .f32⟩
  | 92 => ⟨S4x8192x8x128, .f32⟩
  | 93 => ⟨S4x8192x8x128, .f32⟩
  | 94 => ⟨S4x8192x4x128, .f32⟩
  | 95 => ⟨S4x8192x4x128, .f32⟩
  | 96 => ⟨S_, .f32⟩
  | 97 => ⟨S4x8192x4, .f32⟩
  | 98 => ⟨S4x8192x4x1, .f32⟩
  | 99 => ⟨S_, .f32⟩
  | 100 => ⟨S4x8192x4x1, .f32⟩
  | 101 => ⟨S4x8192x4x1, .f32⟩
  | 102 => ⟨S_, .f32⟩
  | 103 => ⟨S4x8192x4x1, .f32⟩
  | 104 => ⟨S4x8192x4x1, .f32⟩
  | 105 => ⟨S4x8192x4x1, .f32⟩
  | 106 => ⟨S4x8192x4x128, .f32⟩
  | 107 => ⟨S4x8192x4x128, .f32⟩
  | 108 => ⟨S1x1x1x128, .f32⟩
  | 109 => ⟨S4x8192x4x128, .f32⟩
  | 110 => ⟨S4x8192x4x128, .f32⟩
  | 111 => ⟨S_, .f32⟩
  | 112 => ⟨S4x8192x4x128, .f32⟩
  | 113 => ⟨S4x8192x4x128, .f32⟩
  | 114 => ⟨S4x8192x1024, .f32⟩
  | 115 => ⟨S4x8192x1024, .f32⟩
  | 116 => ⟨S4x8192x1024, .f32⟩
  | 117 => ⟨S4x8192x1024, .f32⟩
  | 118 => ⟨S_, .f32⟩
  | 119 => ⟨S4x8192x1024, .f32⟩
  | 120 => ⟨S4x8192x1024, .f32⟩
  | 121 => ⟨S_, .f32⟩
  | 122 => ⟨S4x8192x1024, .f32⟩
  | 123 => ⟨S4x8192x1024, .f32⟩
  | 124 => ⟨S4x8192x1024, .f32⟩
  | 125 => ⟨S4x8192x512, .f32⟩
  | 126 => ⟨S4x8192x4608, .f32⟩
  | 127 => ⟨S32768x4608, .f32⟩
  | _ => ⟨S4x8192x1024, .f32⟩

abbrev hbmTy0_1 (i : Nat) : BufTy := match i % 128 with
  | 0 => ⟨S32768x4608, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_cst_6 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_7 : Ref sig .tc := ⟨.hbm, 96, rfl⟩
abbrev main_v84 : Ref sig .tc := ⟨.hbm, 97, rfl⟩
abbrev main_v85 : Ref sig .tc := ⟨.hbm, 98, rfl⟩
abbrev main_cst_8 : Ref sig .tc := ⟨.hbm, 99, rfl⟩
abbrev main_v86 : Ref sig .tc := ⟨.hbm, 100, rfl⟩
abbrev main_v87 : Ref sig .tc := ⟨.hbm, 101, rfl⟩
abbrev main_cst_9 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_10 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_call0_v0 : Ref sig .tc := ⟨.hbm, 116, rfl⟩
abbrev main_call0_v1 : Ref sig .tc := ⟨.hbm, 117, rfl⟩
abbrev main_call0_cst : Ref sig .tc := ⟨.hbm, 118, rfl⟩
abbrev main_call0_v2 : Ref sig .tc := ⟨.hbm, 119, rfl⟩
abbrev main_call0_v3 : Ref sig .tc := ⟨.hbm, 120, rfl⟩
abbrev main_call0_cst_0 : Ref sig .tc := ⟨.hbm, 121, rfl⟩
abbrev main_call0_v4 : Ref sig .tc := ⟨.hbm, 122, rfl⟩
abbrev main_call0_v5 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩

abbrev nD : Nat := 1
abbrev τ : Topo := Topo.v7x

variable {F : FTy → Type} [FloatOps F]
-- ==== InAtt.lean ====
abbrev S4x8192x1024 : Shape := ⟨3, ![4, 8192, 1024]⟩
abbrev S1024 : Shape := ⟨1, ![1024]⟩
abbrev S1024x3584 : Shape := ⟨2, ![1024, 3584]⟩
abbrev S128 : Shape := ⟨1, ![128]⟩
abbrev S32768x1024 : Shape := ⟨2, ![32768, 1024]⟩
abbrev S1x128 : Shape := ⟨2, ![1, 128]⟩
abbrev S8x128 : Shape := ⟨2, ![8, 128]⟩
abbrev S_ : Shape := ⟨0, ![]⟩
abbrev S4x128 : Shape := ⟨2, ![4, 128]⟩
abbrev S512 : Shape := ⟨1, ![512]⟩
abbrev S3584 : Shape := ⟨1, ![3584]⟩
abbrev S1x1024 : Shape := ⟨2, ![1, 1024]⟩
abbrev S1x3584 : Shape := ⟨2, ![1, 3584]⟩
abbrev S32768x3584 : Shape := ⟨2, ![32768, 3584]⟩
abbrev S1024x1024 : Shape := ⟨2, ![1024, 1024]⟩
abbrev S1024x1 : Shape := ⟨2, ![1024, 1]⟩
abbrev S1024x128 : Shape := ⟨2, ![1024, 128]⟩
abbrev S1024x512 : Shape := ⟨2, ![1024, 512]⟩

abbrev nBuf : Space → Nat
  | .hbm => 29
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3584, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32768x1024, .f32⟩
  | .hbm, ⟨7, _⟩ => ⟨S1024x3584, .bf16⟩
  | .hbm, ⟨8, _⟩ => ⟨S1x128, .f32⟩
  | .hbm, ⟨9, _⟩ => ⟨S8x128, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1x128, .f32⟩
  | .hbm, ⟨15, _⟩ => ⟨S8x128, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1x128, .f32⟩
  | .hbm, ⟨20, _⟩ => ⟨S4x128, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S3584, .f32⟩
  | .hbm, ⟨26, _⟩ => ⟨S1x1024, .f32⟩
  | .hbm, ⟨27, _⟩ => ⟨S1x3584, .f32⟩
  | .hbm, ⟨28, _⟩ => ⟨S32768x3584, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1x3584, .f32⟩
  | .local _ .vmem, ⟨5, _⟩ => ⟨S1024x3584, .bf16⟩
  | .local _ .vmem, ⟨6, _⟩ => ⟨S1024x3584, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InAttRefIdeal.lean ====
abbrev S4x8192x1024 : Shape := ⟨3, ![4, 8192, 1024]⟩
abbrev S1024 : Shape := ⟨1, ![1024]⟩
abbrev S1024x3584 : Shape := ⟨2, ![1024, 3584]⟩
abbrev S128 : Shape := ⟨1, ![128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3584 : Shape := ⟨3, ![4, 8192, 3584]⟩
abbrev S4x8192x512 : Shape := ⟨3, ![4, 8192, 512]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S32768x3584 : Shape := ⟨2, ![32768, 3584]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3584, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x3584, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x512, .f32⟩
  | .hbm, ⟨27, _⟩ => ⟨S4x8192x8x128, .f32⟩
  | .hbm, ⟨28, _⟩ => ⟨S4x8192x8x128, .f32⟩
  | .hbm, ⟨29, _⟩ => ⟨S_, .f32⟩
  | .hbm, ⟨30, _⟩ => ⟨S4x8192x8, .f32⟩
  | .hbm, ⟨31, _⟩ => ⟨S4x8192x8x1, .f32⟩
  | .hbm, ⟨32, _⟩ => ⟨S_, .f32⟩
  | .hbm, ⟨33, _⟩ => ⟨S4x8192x8x1, .f32⟩
  | .hbm, ⟨34, _⟩ => ⟨S4x8192x8x1, .f32⟩
  | .hbm, ⟨35, _⟩ => ⟨S_, .f32⟩
  | .hbm, ⟨36, _⟩ => ⟨S4x8192x8x1, .f32⟩
  | .hbm, ⟨37, _⟩ => ⟨S4x8192x8x1, .f32⟩
  | .hbm, ⟨38, _⟩ => ⟨S4x8192x8x1, .f32⟩
  | .hbm, ⟨39, _⟩ => ⟨S4x8192x8x128, .f32⟩
  | .hbm, ⟨40, _⟩ => ⟨S4x8192x8x128, .f32⟩
  | .hbm, ⟨41, _⟩ => ⟨S1x1x1x128, .f32⟩
  | .hbm, ⟨42, _⟩ => ⟨S4x8192x8x128, .f32⟩
  | .hbm, ⟨43, _⟩ => ⟨S4x8192x8x128, .f32⟩
  | .hbm, ⟨44, _⟩ => ⟨S_, .f32⟩
  | .hbm, ⟨45, _⟩ => ⟨S4x8192x8x128, .f32⟩
  | .hbm, ⟨46, _⟩ => ⟨S4x8192x8x128, .f32⟩
  | .hbm, ⟨47, _⟩ => ⟨S4x8192x8x128, .f32⟩
  | .hbm, ⟨48, _⟩ => ⟨S4x8192x8x128, .f32⟩
  | .hbm, ⟨49, _⟩ => ⟨S_, .f32⟩
  | .hbm, ⟨50, _⟩ => ⟨S4x8192x8, .f32⟩
  | .hbm, ⟨51, _⟩ => ⟨S4x8192x8x1, .f32⟩
  | .hbm, ⟨52, _⟩ => ⟨S_, .f32⟩
  | .hbm, ⟨53, _⟩ => ⟨S4x8192x8x1, .f32⟩
  | .hbm, ⟨54, _⟩ => ⟨S4x8192x8x1, .f32⟩
  | .hbm, ⟨55, _⟩ => ⟨S_, .f32⟩
  | .hbm, ⟨56, _⟩ => ⟨S4x8192x8x1, .f32⟩
  | .hbm, ⟨57, _⟩ => ⟨S4x8192x8x1, .f32⟩
  | .hbm, ⟨58, _⟩ => ⟨S4x8192x8x1, .f32⟩
  | .hbm, ⟨59, _⟩ => ⟨S4x8192x8x128, .f32⟩
  | .hbm, ⟨60, _⟩ => ⟨S4x8192x8x128, .f32⟩
  | .hbm, ⟨61, _⟩ => ⟨S1x1x1x128, .f32⟩
  | .hbm, ⟨62, _⟩ => ⟨S4x8192x8x128, .f32⟩
  | .hbm, ⟨63, _⟩ => ⟨S4x8192x8x128, .f32⟩
  | .hbm, ⟨64, _⟩ => ⟨S4x8192x4x128, .f32⟩
  | .hbm, ⟨65, _⟩ => ⟨S4x8192x4x128, .f32⟩
  | .hbm, ⟨66, _⟩ => ⟨S_, .f32⟩
  | .hbm, ⟨67, _⟩ => ⟨S4x8192x4, .f32⟩
  | .hbm, ⟨68, _⟩ => ⟨S4x8192x4x1, .f32⟩
  | .hbm, ⟨69, _⟩ => ⟨S_, .f32⟩
  | .hbm, ⟨70, _⟩ => ⟨S4x8192x4x1, .f32⟩
  | .hbm, ⟨71, _⟩ => ⟨S4x8192x4x1, .f32⟩
  | .hbm, ⟨72, _⟩ => ⟨S_, .f32⟩
  | .hbm, ⟨73, _⟩ => ⟨S4x8192x4x1, .f32⟩
  | .hbm, ⟨74, _⟩ => ⟨S4x8192x4x1, .f32⟩
  | .hbm, ⟨75, _⟩ => ⟨S4x8192x4x1, .f32⟩
  | .hbm, ⟨76, _⟩ => ⟨S4x8192x4x128, .f32⟩
  | .hbm, ⟨77, _⟩ => ⟨S4x8192x4x128, .f32⟩
  | .hbm, ⟨78, _⟩ => ⟨S1x1x1x128, .f32⟩
  | .hbm, ⟨79, _⟩ => ⟨S4x8192x4x128, .f32⟩
  | .hbm, ⟨80, _⟩ => ⟨S4x8192x4x128, .f32⟩
  | .hbm, ⟨81, _⟩ => ⟨S_, .f32⟩
  | .hbm, ⟨82, _⟩ => ⟨S4x8192x4x128, .f32⟩
  | .hbm, ⟨83, _⟩ => ⟨S4x8192x4x128, .f32⟩
  | .hbm, ⟨84, _⟩ => ⟨S4x8192x1024, .f32⟩
  | .hbm, ⟨85, _⟩ => ⟨S4x8192x1024, .f32⟩
  | .hbm, ⟨86, _⟩ => ⟨S4x8192x512, .f32⟩
  | .hbm, ⟨87, _⟩ => ⟨S4x8192x3584, .f32⟩
  | .hbm, ⟨88, _⟩ => ⟨S32768x3584, .f32⟩
  | .hbm, ⟨89, _⟩ => ⟨S32768x3584, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== BandKv.lean ====
abbrev S4x8192x1024 : Shape := ⟨3, ![4, 8192, 1024]⟩
abbrev S1024 : Shape := ⟨1, ![1024]⟩
abbrev S1024x3584 : Shape := ⟨2, ![1024, 3584]⟩
abbrev S128 : Shape := ⟨1, ![128]⟩
abbrev S32768x1024 : Shape := ⟨2, ![32768, 1024]⟩
abbrev S1024x2048 : Shape := ⟨2, ![1024, 2048]⟩
abbrev S1x128 : Shape := ⟨2, ![1, 128]⟩
abbrev S8x128 : Shape := ⟨2, ![8, 128]⟩
abbrev S_ : Shape := ⟨0, ![]⟩
abbrev S4x128 : Shape := ⟨2, ![4, 128]⟩
abbrev S512 : Shape := ⟨1, ![512]⟩
abbrev S3584 : Shape := ⟨1, ![3584]⟩
abbrev S2048 : Shape := ⟨1, ![2048]⟩
abbrev S1x1024 : Shape := ⟨2, ![1, 1024]⟩
abbrev S1x2048 : Shape := ⟨2, ![1, 2048]⟩
abbrev S2048x2048 : Shape := ⟨2, ![2048, 2048]⟩
abbrev S512x1024 : Shape := ⟨2, ![512, 1024]⟩
abbrev S512x2048 : Shape := ⟨2, ![512, 2048]⟩
abbrev S512x1 : Shape := ⟨2, ![512, 1]⟩
abbrev S1024x1024 : Shape := ⟨2, ![1024, 1024]⟩
abbrev S512x128 : Shape := ⟨2, ![512, 128]⟩

abbrev nBuf : Space → Nat
  | .hbm => 31
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3584, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32768x1024, .f32⟩
  | .hbm, ⟨7, _⟩ => ⟨S1024x3584, .bf16⟩
  | .hbm, ⟨8, _⟩ => ⟨S1024x2048, .bf16⟩
  | .hbm, ⟨9, _⟩ => ⟨S1x128, .f32⟩
  | .hbm, ⟨10, _⟩ => ⟨S8x128, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1x128, .f32⟩
  | .hbm, ⟨16, _⟩ => ⟨S8x128, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1x128, .f32⟩
  | .hbm, ⟨21, _⟩ => ⟨S4x128, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S3584, .f32⟩
  | .hbm, ⟨27, _⟩ => ⟨S2048, .f32⟩
  | .hbm, ⟨28, _⟩ => ⟨S1x1024, .f32⟩
  | .hbm, ⟨29, _⟩ => ⟨S1x2048, .f32⟩
  | .hbm, ⟨30, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let c0_i32 : BitVec 32 := 0#32
  let c0_i32_1 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BandKvRefIdeal.lean ====
abbrev S4x8192x1024 : Shape := ⟨3, ![4, 8192, 1024]⟩
abbrev S1024 : Shape := ⟨1, ![1024]⟩
abbrev S1024x3584 : Shape := ⟨2, ![1024, 3584]⟩
abbrev S128 : Shape := ⟨1, ![128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3584 : Shape := ⟨3, ![4, 8192, 3584]⟩
abbrev S4x8192x512 : Shape := ⟨3, ![4, 8192, 512]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x512x8x128 : Shape := ⟨4, ![4, 512, 8, 128]⟩
abbrev S2048x1024 : Shape := ⟨2, ![2048, 1024]⟩
abbrev S2048x2048 : Shape := ⟨2, ![2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3584, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x3584, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x512, .f32⟩
  | .hbm, ⟨27, _⟩ => ⟨S4x8192x8x128, .f32⟩
  | .hbm, ⟨28, _⟩ => ⟨S4x8192x8x128, .f32⟩
  | .hbm, ⟨29, _⟩ => ⟨S_, .f32⟩
  | .hbm, ⟨30, _⟩ => ⟨S4x8192x8, .f32⟩
  | .hbm, ⟨31, _⟩ => ⟨S4x8192x8x1, .f32⟩
  | .hbm, ⟨32, _⟩ => ⟨S_, .f32⟩
  | .hbm, ⟨33, _⟩ => ⟨S4x8192x8x1, .f32⟩
  | .hbm, ⟨34, _⟩ => ⟨S4x8192x8x1, .f32⟩
  | .hbm, ⟨35, _⟩ => ⟨S_, .f32⟩
  | .hbm, ⟨36, _⟩ => ⟨S4x8192x8x1, .f32⟩
  | .hbm, ⟨37, _⟩ => ⟨S4x8192x8x1, .f32⟩
  | .hbm, ⟨38, _⟩ => ⟨S4x8192x8x1, .f32⟩
  | .hbm, ⟨39, _⟩ => ⟨S4x8192x8x128, .f32⟩
  | .hbm, ⟨40, _⟩ => ⟨S4x8192x8x128, .f32⟩
  | .hbm, ⟨41, _⟩ => ⟨S1x1x1x128, .f32⟩
  | .hbm, ⟨42, _⟩ => ⟨S4x8192x8x128, .f32⟩
  | .hbm, ⟨43, _⟩ => ⟨S4x8192x8x128, .f32⟩
  | .hbm, ⟨44, _⟩ => ⟨S4x8192x8x128, .f32⟩
  | .hbm, ⟨45, _⟩ => ⟨S4x512x8x128, .f32⟩
  | .hbm, ⟨46, _⟩ => ⟨S4x512x8x128, .f32⟩
  | .hbm, ⟨47, _⟩ => ⟨S2048x1024, .f32⟩
  | .hbm, ⟨48, _⟩ => ⟨S2048x1024, .f32⟩
  | .hbm, ⟨49, _⟩ => ⟨S2048x2048, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== MemKv.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S1x128 : Shape := ⟨2, ![1, 128]⟩
abbrev S4x128 : Shape := ⟨2, ![4, 128]⟩
abbrev S512 : Shape := ⟨1, ![512]⟩
abbrev S_ : Shape := ⟨0, ![]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩

abbrev nBuf : Space → Nat
  | .hbm => 15
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S1x128, .f32⟩
  | .hbm, ⟨5, _⟩ => ⟨S4x128, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S4x256x1024 : Shape := ⟨3, ![4, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x4x128 : Shape := ⟨4, ![4, 256, 4, 128]⟩
abbrev S4x256x4 : Shape := ⟨3, ![4, 256, 4]⟩
abbrev S4x256x4x1 : Shape := ⟨4, ![4, 256, 4, 1]⟩
abbrev S1x1x1x128 : Shape := ⟨4, ![1, 1, 1, 128]⟩
abbrev S1024x512 : Shape := ⟨2, ![1024, 512]⟩

abbrev nBuf : Space → Nat
  | .hbm => 43
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S128, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x1024, .f32⟩
  | .hbm, ⟨21, _⟩ => ⟨S4x256x512, .f32⟩
  | .hbm, ⟨22, _⟩ => ⟨S4x256x512, .f32⟩
  | .hbm, ⟨23, _⟩ => ⟨S4x256x4x128, .f32⟩
  | .hbm, ⟨24, _⟩ => ⟨S4x256x4x128, .f32⟩
  | .hbm, ⟨25, _⟩ => ⟨S_, .f32⟩
  | .hbm, ⟨26, _⟩ => ⟨S4x256x4, .f32⟩
  | .hbm, ⟨27, _⟩ => ⟨S4x256x4x1, .f32⟩
  | .hbm, ⟨28, _⟩ => ⟨S_, .f32⟩
  | .hbm, ⟨29, _⟩ => ⟨S4x256x4x1, .f32⟩
  | .hbm, ⟨30, _⟩ => ⟨S4x256x4x1, .f32⟩
  | .hbm, ⟨31, _⟩ => ⟨S_, .f32⟩
  | .hbm, ⟨32, _⟩ => ⟨S4x256x4x1, .f32⟩
  | .hbm, ⟨33, _⟩ => ⟨S4x256x4x1, .f32⟩
  | .hbm, ⟨34, _⟩ => ⟨S4x256x4x1, .f32⟩
  | .hbm, ⟨35, _⟩ => ⟨S4x256x4x128, .f32⟩
  | .hbm, ⟨36, _⟩ => ⟨S4x256x4x128, .f32⟩
  | .hbm, ⟨37, _⟩ => ⟨S1x1x1x128, .f32⟩
  | .hbm, ⟨38, _⟩ => ⟨S4x256x4x128, .f32⟩
  | .hbm, ⟨39, _⟩ => ⟨S4x256x4x128, .f32⟩
  | .hbm, ⟨40, _⟩ => ⟨S1024x512, .f32⟩
  | .hbm, ⟨41, _⟩ => ⟨S1024x512, .f32⟩
  | .hbm, ⟨42, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Experts.lean ====
abbrev S663552x128 : Shape := ⟨2, ![663552, 128]⟩
abbrev S32 : Shape := ⟨1, ![32]⟩
abbrev S2x32x1024x512 : Shape := ⟨4, ![2, 32, 1024, 512]⟩
abbrev S2x32x512x1024 : Shape := ⟨4, ![2, 32, 512, 1024]⟩
abbrev S_ : Shape := ⟨0, ![]⟩
abbrev S162 : Shape := ⟨1, ![162]⟩
abbrev S162x1 : Shape := ⟨2, ![162, 1]⟩
abbrev S1x32 : Shape := ⟨2, ![1, 32]⟩
abbrev S162x32 : Shape := ⟨2, ![162, 32]⟩
abbrev S1 : Shape := ⟨1, ![1]⟩
abbrev S4096x128 : Shape := ⟨2, ![4096, 128]⟩
abbrev S1x1x1024x512 : Shape := ⟨4, ![1, 1, 1024, 512]⟩
abbrev S1x1x512x1024 : Shape := ⟨4, ![1, 1, 512, 1024]⟩
abbrev S512x128 : Shape := ⟨2, ![512, 128]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 68
  | .vmem => 10
  | .smem => 2
  | _ => 0

abbrev bufTy : (tb : Table) → Fin (tcTables nBuf tb) → BufTy
  | .hbm, ⟨0, _⟩ => ⟨S663552x128, .f32⟩
  | .hbm, ⟨1, _⟩ => ⟨S32, .i32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S162x1, .i32⟩
  | .hbm, ⟨40, _⟩ => ⟨S1x32, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S663552x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S4096x128, .f32⟩
  | .local _ .vmem, ⟨9, _⟩ => ⟨S4096x128, .f32⟩
  | .local _ .smem, ⟨0, _⟩ => ⟨S162, .i32⟩
  | .local _ .smem, ⟨1, _⟩ => ⟨S1, .i32⟩
  | _, _ => ⟨S663552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S663552x128 : Shape := ⟨2, ![663552, 128]⟩
abbrev S32 : Shape := ⟨1, ![32]⟩
abbrev S2x32x1024x512 : Shape := ⟨4, ![2, 32, 1024, 512]⟩
abbrev S2x32x512x1024 : Shape := ⟨4, ![2, 32, 512, 1024]⟩
abbrev S_ : Shape := ⟨0, ![]⟩
abbrev S1x32 : Shape := ⟨2, ![1, 32]⟩
abbrev S162 : Shape := ⟨1, ![162]⟩
abbrev S162x1 : Shape := ⟨2, ![162, 1]⟩
abbrev S162x32 : Shape := ⟨2, ![162, 32]⟩
abbrev S162x512x1024 : Shape := ⟨3, ![162, 512, 1024]⟩
abbrev S162x4 : Shape := ⟨2, ![162, 4]⟩
abbrev S162x1x1x1024x512 : Shape := ⟨5, ![162, 1, 1, 1024, 512]⟩
abbrev S162x1024x512 : Shape := ⟨3, ![162, 1024, 512]⟩
abbrev S162x512x512 : Shape := ⟨3, ![162, 512, 512]⟩
abbrev S162x1x1x512x1024 : Shape := ⟨5, ![162, 1, 1, 512, 1024]⟩
abbrev S1 : Shape := ⟨1, ![1]⟩
abbrev S162x1x1 : Shape := ⟨3, ![162, 1, 1]⟩

abbrev nBuf : Space → Nat
  | .hbm => 203
  | .vmem => 0
  | .smem => 0
  | _ => 0

abbrev hbmTy0_0 (i : Nat) : BufTy := match i % 128 with
  | 0 => ⟨S663552x128, .f32⟩
  | 1 => ⟨S32, .i32⟩
  | 2 => ⟨S2x32x1024x512, .f32⟩
  | 3 => ⟨S2x32x1024x512, .f32⟩
  | 4 => ⟨S2x32x512x1024, .f32⟩
  | 5 => ⟨S_, .i32⟩
  | 6 => ⟨S32, .i32⟩
  | 7 => ⟨S32, .i32⟩
  | 8 => ⟨S_, .i32⟩
  | 9 => ⟨S32, .i32⟩
  | 10 => ⟨S32, .i32⟩
  | 11 => ⟨S_, .i32⟩
  | 12 => ⟨S_, .i32⟩
  | 13 => ⟨S32, .i32⟩
  | 14 => ⟨S32, .i32⟩
  | 15 => ⟨S32, .i32⟩
  | 16 => ⟨S_, .i32⟩
  | 17 => ⟨S32, .i32⟩
  | 18 => ⟨S32, .i1⟩
  | 19 => ⟨S32, .i32⟩
  | 20 => ⟨S32, .i32⟩
  | 21 => ⟨S_, .i32⟩
  | 22 => ⟨S32, .i32⟩
  | 23 => ⟨S32, .i1⟩
  | 24 => ⟨S32, .i1⟩
  | 25 => ⟨S_, .i32⟩
  | 26 => ⟨S32, .i32⟩
  | 27 => ⟨S32, .i32⟩
  | 28 => ⟨S32, .i32⟩
  | 29 => ⟨S_, .i32⟩
  | 30 => ⟨S32, .i32⟩
  | 31 => ⟨S32, .i32⟩
  | 32 => ⟨S_, .i32⟩
  | 33 => ⟨S_, .i32⟩
  | 34 => ⟨S32, .i32⟩
  | 35 => ⟨S1x32, .i32⟩
  | 36 => ⟨S162, .i32⟩
  | 37 => ⟨S_, .i32⟩
  | 38 => ⟨S162, .i32⟩
  | 39 => ⟨S162, .i32⟩
  | 40 => ⟨S162x1, .i32⟩
  | 41 => ⟨S162x32, .i32⟩
  | 42 => ⟨S162x32, .i32⟩
  | 43 => ⟨S162x32, .i1⟩
  | 44 => ⟨S162x32, .i32⟩
  | 45 => ⟨S_, .i32⟩
  | 46 => ⟨S162, .i32⟩
  | 47 => ⟨S_, .i32⟩
  | 48 => ⟨S162, .i32⟩
  | 49 => ⟨S162, .i32⟩
  | 50 => ⟨S162x512x1024, .f32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S162, .i32⟩
  | 61 => ⟨S162, .i1⟩
  | 62 => ⟨S_, .i32⟩
  | 63 => ⟨S162, .i32⟩
  | 64 => ⟨S162, .i32⟩
  | 65 => ⟨S162, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S162x1, .i32⟩
  | 83 => ⟨S162x1, .i32⟩
  | 84 => ⟨S162x1, .i32⟩
  | 85 => ⟨S162x1, .i32⟩
  | 86 => ⟨S162x4, .i32⟩
  | 87 => ⟨S162x1x1x1024x512, .f32⟩
  | 88 => ⟨S162x1024x512, .f32⟩
  | 89 => ⟨S162x512x512, .f32⟩
  | 90 => ⟨S162x512x512, .f32⟩
  | 91 => ⟨S162x512x512, .f32⟩
  | 92 => ⟨S_, .f32⟩
  | 93 => ⟨S162x512x512, .f32⟩
  | 94 => ⟨S162x512x512, .f32⟩
  | 95 => ⟨S_, .f32⟩
  | 96 => ⟨S162x512x512, .f32⟩
  | 97 => ⟨S162x512x512, .f32⟩
  | 98 => ⟨S162x512x512, .f32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S162, .i32⟩
  | 109 => ⟨S162, .i1⟩
  | 110 => ⟨S_, .i32⟩
  | 111 => ⟨S162, .i32⟩
  | 112 => ⟨S162, .i32⟩
  | 113 => ⟨S162, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S663552x128, .f32⟩

abbrev hbmTy0_1 (i : Nat) : BufTy := match i % 128 with
  | 0 => ⟨S_, .i32⟩
  | 1 => ⟨S_, .i32⟩
  | 2 => ⟨S162x1, .i32⟩
  | 3 => ⟨S162x1, .i32⟩
  | 4 => ⟨S162x1, .i32⟩
  | 5 => ⟨S162x1, .i32⟩
  | 6 => ⟨S162x4, .i32⟩
  | 7 => ⟨S162x1x1x1024x512, .f32⟩
  | 8 => ⟨S162x1024x512, .f32⟩
  | 9 => ⟨S162x512x512, .f32⟩
  | 10 => ⟨S162x512x512, .f32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S162, .i32⟩
  | 21 => ⟨S162, .i1⟩
  | 22 => ⟨S_, .i32⟩
  | 23 => ⟨S162, .i32⟩
  | 24 => ⟨S162, .i32⟩
  | 25 => ⟨S162, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S162x1, .i32⟩
  | 43 => ⟨S162x1, .i32⟩
  | 44 => ⟨S162x1, .i32⟩
  | 45 => ⟨S162x1, .i32⟩
  | 46 => ⟨S162x4, .i32⟩
  | 47 => ⟨S162x1x1x512x1024, .f32⟩
  | 48 => ⟨S162x512x1024, .f32⟩
  | 49 => ⟨S162x512x1024, .f32⟩
  | 50 => ⟨S162, .i32⟩
  | 51 => ⟨S1, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i1⟩
  | 62 => ⟨S_, .i1⟩
  | 63 => ⟨S_, .i32⟩
  | 64 => ⟨S_, .i32⟩
  | 65 => ⟨S_, .i32⟩
  | 66 => ⟨S162, .i32⟩
  | 67 => ⟨S162, .i1⟩
  | 68 => ⟨S162x1x1, .i1⟩
  | 69 => ⟨S_, .f32⟩
  | 70 => ⟨S_, .f32⟩
  | 71 => ⟨S162x512x1024, .i1⟩
  | 72 => ⟨S162x512x1024, .f32⟩
  | 73 => ⟨S162x512x1024, .f32⟩
  | 74 => ⟨S663552x128, .f32⟩
  | _ => ⟨S663552x128, .f32⟩

abbrev hbmTy (i : Nat) : BufTy := match i / 128 with
  | 0 => hbmTy0_0 i
  | 1 => hbmTy0_1 i
  | _ => ⟨S663552x128, .f32⟩

abbrev bufTy : (tb : Table) → Fin (tcTables nBuf tb) → BufTy
  | .hbm, ⟨i, _⟩ => hbmTy i
  | _, _ => ⟨S663552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_6 : Ref sig .tc := ⟨.hbm, 51, rfl⟩
abbrev main_c_7 : Ref sig .tc := ⟨.hbm, 52, rfl⟩
abbrev main_v21 : Ref sig .tc := ⟨.hbm, 53, rfl⟩
abbrev main_c_8 : Ref sig .tc := ⟨.hbm, 54, rfl⟩
abbrev main_c_9 : Ref sig .tc := ⟨.hbm, 55, rfl⟩
abbrev main_v22 : Ref sig .tc := ⟨.hbm, 56, rfl⟩
abbrev main_c_10 : Ref sig .tc := ⟨.hbm, 57, rfl⟩
abbrev main_v23 : Ref sig .tc := ⟨.hbm, 58, rfl⟩
abbrev main_c_11 : Ref sig .tc := ⟨.hbm, 59, rfl⟩
abbrev main_v24 : Ref sig .tc := ⟨.hbm, 60, rfl⟩
abbrev main_v25 : Ref sig .tc := ⟨.hbm, 61, rfl⟩
abbrev main_c_12 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_13 : Ref sig .tc := ⟨.hbm, 66, rfl⟩
abbrev main_c_14 : Ref sig .tc := ⟨.hbm, 67, rfl⟩
abbrev main_v29 : Ref sig .tc := ⟨.hbm, 68, rfl⟩
abbrev main_c_15 : Ref sig .tc := ⟨.hbm, 69, rfl⟩
abbrev main_c_16 : Ref sig .tc := ⟨.hbm, 70, rfl⟩
abbrev main_v30 : Ref sig .tc := ⟨.hbm, 71, rfl⟩
abbrev main_c_17 : Ref sig .tc := ⟨.hbm, 72, rfl⟩
abbrev main_v31 : Ref sig .tc := ⟨.hbm, 73, rfl⟩
abbrev main_c_18 : Ref sig .tc := ⟨.hbm, 74, rfl⟩
abbrev main_c_19 : Ref sig .tc := ⟨.hbm, 75, rfl⟩
abbrev main_v32 : Ref sig .tc := ⟨.hbm, 76, rfl⟩
abbrev main_c_20 : Ref sig .tc := ⟨.hbm, 77, rfl⟩
abbrev main_c_21 : Ref sig .tc := ⟨.hbm, 78, rfl⟩
abbrev main_v33 : Ref sig .tc := ⟨.hbm, 79, rfl⟩
abbrev main_c_22 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v43 : Ref sig .tc := ⟨.hbm, 98, rfl⟩
abbrev main_c_23 : Ref sig .tc := ⟨.hbm, 99, rfl⟩
abbrev main_c_24 : Ref sig .tc := ⟨.hbm, 100, rfl⟩
abbrev main_v44 : Ref sig .tc := ⟨.hbm, 101, rfl⟩
abbrev main_c_25 : Ref sig .tc := ⟨.hbm, 102, rfl⟩
abbrev main_c_26 : Ref sig .tc := ⟨.hbm, 103, rfl⟩
abbrev main_v45 : Ref sig .tc := ⟨.hbm, 104, rfl⟩
abbrev main_c_27 : Ref sig .tc := ⟨.hbm, 105, rfl⟩
abbrev main_v46 : Ref sig .tc := ⟨.hbm, 106, rfl⟩
abbrev main_c_28 : Ref sig .tc := ⟨.hbm, 107, rfl⟩
abbrev main_v47 : Ref sig .tc := ⟨.hbm, 108, rfl⟩
abbrev main_v48 : Ref sig .tc := ⟨.hbm, 109, rfl⟩
abbrev main_c_29 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_c_30 : Ref sig .tc := ⟨.hbm, 114, rfl⟩
abbrev main_c_31 : Ref sig .tc := ⟨.hbm, 115, rfl⟩
abbrev main_v52 : Ref sig .tc := ⟨.hbm, 116, rfl⟩
abbrev main_c_32 : Ref sig .tc := ⟨.hbm, 117, rfl⟩
abbrev main_c_33 : Ref sig .tc := ⟨.hbm, 118, rfl⟩
abbrev main_v53 : Ref sig .tc := ⟨.hbm, 119, rfl⟩
abbrev main_c_34 : Ref sig .tc := ⟨.hbm, 120, rfl⟩
abbrev main_v54 : Ref sig .tc := ⟨.hbm, 121, rfl⟩
abbrev main_c_35 : Ref sig .tc := ⟨.hbm, 122, rfl⟩
abbrev main_c_36 : Ref sig .tc := ⟨.hbm, 123, rfl⟩
abbrev main_v55 : Ref sig .tc := ⟨.hbm, 124, rfl⟩
abbrev main_c_37 : Ref sig .tc := ⟨.hbm, 125, rfl⟩
abbrev main_c_38 : Ref sig .tc := ⟨.hbm, 126, rfl⟩
abbrev main_v56 : Ref sig .tc := ⟨.hbm, 127, rfl⟩
abbrev main_c_39 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_c_40 : Ref sig .tc := ⟨.hbm, 139, rfl⟩
abbrev main_c_41 : Ref sig .tc := ⟨.hbm, 140, rfl⟩
abbrev main_v67 : Ref sig .tc := ⟨.hbm, 141, rfl⟩
abbrev main_c_42 : Ref sig .tc := ⟨.hbm, 142, rfl⟩
abbrev main_c_43 : Ref sig .tc := ⟨.hbm, 143, rfl⟩
abbrev main_v68 : Ref sig .tc := ⟨.hbm, 144, rfl⟩
abbrev main_c_44 : Ref sig .tc := ⟨.hbm, 145, rfl⟩
abbrev main_v69 : Ref sig .tc := ⟨.hbm, 146, rfl⟩
abbrev main_c_45 : Ref sig .tc := ⟨.hbm, 147, rfl⟩
abbrev main_v70 : Ref sig .tc := ⟨.hbm, 148, rfl⟩
abbrev main_v71 : Ref sig .tc := ⟨.hbm, 149, rfl⟩
abbrev main_c_46 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_c_47 : Ref sig .tc := ⟨.hbm, 154, rfl⟩
abbrev main_c_48 : Ref sig .tc := ⟨.hbm, 155, rfl⟩
abbrev main_v75 : Ref sig .tc := ⟨.hbm, 156, rfl⟩
abbrev main_c_49 : Ref sig .tc := ⟨.hbm, 157, rfl⟩
abbrev main_c_50 : Ref sig .tc := ⟨.hbm, 158, rfl⟩
abbrev main_v76 : Ref sig .tc := ⟨.hbm, 159, rfl⟩
abbrev main_c_51 : Ref sig .tc := ⟨.hbm, 160, rfl⟩
abbrev main_v77 : Ref sig .tc := ⟨.hbm, 161, rfl⟩
abbrev main_c_52 : Ref sig .tc := ⟨.hbm, 162, rfl⟩
abbrev main_c_53 : Ref sig .tc := ⟨.hbm, 163, rfl⟩
abbrev main_v78 : Ref sig .tc := ⟨.hbm, 164, rfl⟩
abbrev main_c_54 : Ref sig .tc := ⟨.hbm, 165, rfl⟩
abbrev main_c_55 : Ref sig .tc := ⟨.hbm, 166, rfl⟩
abbrev main_v79 : Ref sig .tc := ⟨.hbm, 167, rfl⟩
abbrev main_c_56 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_c_57 : Ref sig .tc := ⟨.hbm, 181, rfl⟩
abbrev main_call3_v0 : Ref sig .tc := ⟨.hbm, 182, rfl⟩
abbrev main_call3_v1 : Ref sig .tc := ⟨.hbm, 183, rfl⟩
abbrev main_call3_v2 : Ref sig .tc := ⟨.hbm, 184, rfl⟩
abbrev main_call3_v3 : Ref sig .tc := ⟨.hbm, 185, rfl⟩
abbrev main_call3_v4 : Ref sig .tc := ⟨.hbm, 186, rfl⟩
abbrev main_call3_v5 : Ref sig .tc := ⟨.hbm, 187, rfl⟩
abbrev main_call3_c : Ref sig .tc := ⟨.hbm, 188, rfl⟩
abbrev main_call3_v6 : Ref sig .tc := ⟨.hbm, 189, rfl⟩
abbrev main_call3_v7 : Ref sig .tc := ⟨.hbm, 190, rfl⟩
abbrev main_call3_c_0 : Ref sig .tc := ⟨.hbm, 191, rfl⟩
abbrev main_call3_v8 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_cst : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_v96 : Ref sig .tc := ⟨.hbm, 201, rfl⟩
abbrev main_v97 : Ref sig .tc := ⟨.hbm, 202, rfl⟩

abbrev nD : Nat := 1
abbrev τ : Topo := Topo.v7x

variable {F : FTy → Type} [FloatOps F]
-- ==== Proof.RetMath.lean ====
module

public import Idealize.ShloMosaic.Lib.Pointwise
public import Idealize.ShloMosaic.Lib.Pipeline.ValueKit

@[expose] public section

noncomputable section

namespace Cert.RetMath

/-- The recurrence of one head: the state before position `n`. -/
def SR (g : ℝ) (k v : ℕ → Fin 128 → ℝ) (S0 : Fin 128 → Fin 128 → ℝ) : ℕ → Fin 128 → Fin 128 → ℝ
  | 0, d, e => S0 d e
  | n + 1, d, e => Real.exp g * SR g k v S0 n d e + k n d * v n e

variable (g : ℝ) (q k v : ℕ → Fin 128 → ℝ) (S0 : Fin 128 → Fin 128 → ℝ)

/-- The state `j` positions on. -/
theorem SR_add (b j : ℕ) (d e : Fin 128) :
    SR g k v S0 (b + j) d e = Real.exp (g * j) * SR g k v S0 b d e + ∑ s ∈ Finset.range j, k (b + s) d * Real.exp (g * ((j : ℝ) - 1 - s)) * v (b + s) e := by
  induction j with
  | zero => simp
  | succ j ih =>
    rw [← Nat.add_assoc, SR, ih, Finset.sum_range_succ, mul_add, Finset.mul_sum, ← mul_assoc, ← Real.exp_add]
    have h1 : g + g * (j : ℝ) = g * ((j + 1 : ℕ) : ℝ) := by push_cast; ring
    rw [h1, add_assoc]
    congr 1
    congr 1
    · refine Finset.sum_congr rfl fun s _ => ?_
      have h2 : Real.exp (g * (((j + 1 : ℕ) : ℝ) - 1 - s)) = Real.exp g * Real.exp (g * ((j : ℝ) - 1 - s)) := by
        rw [← Real.exp_add]; congr 1; push_cast; ring
      rw [h2]; ring
    · have h3 : Real.exp (g * (((j + 1 : ℕ) : ℝ) - 1 - j)) = 1 := by
        rw [show g * (((j + 1 : ℕ) : ℝ) - 1 - j) = 0 by push_cast; ring, Real.exp_zero]
      rw [h3]; ring

/-- One chunk's state. -/
theorem state_real (C b : ℕ) (d e : Fin 128) :
    Real.exp (g * C) * SR g k v S0 b d e + ∑ l : Fin C, k (b + l) d * Real.exp (g * ((C : ℝ) - 1 - (l.val : ℝ))) * v (b + l) e = SR g k v S0 (b + C) d e := by
  rw [SR_add g k v S0 b C, Finset.sum_range]

/-- One chunk's output. -/
theorem out_real (C b : ℕ) (l : Fin C) (e : Fin 128) :
    ∑ m : Fin C, (∑ d, q (b + l) d * k (b + m) d) * (if m.val ≤ l.val then Real.exp (g * ((l.val : ℝ) - m.val)) else 0) * v (b + m) e
      + (∑ d, q (b + l) d * SR g k v S0 b d e) * Real.exp (g * ((l.val : ℝ) + 1))
      = ∑ d, q (b + l) d * SR g k v S0 (b + l + 1) d e := by
  have h : ∀ d, SR g k v S0 (b + l + 1) d e = Real.exp (g * ((l.val : ℝ) + 1)) * SR g k v S0 b d e
      + ∑ m : Fin C, k (b + m) d * (if m.val ≤ l.val then Real.exp (g * ((l.val : ℝ) - m.val)) else 0) * v (b + m) e := by
    intro d
    rw [Nat.add_assoc, SR_add g k v S0 b (l.val + 1)]
    congr 1
    · push_cast; rfl
    · rw [← Fin.sum_univ_eq_sum_range (fun s => k (b + s) d * Real.exp (g * (((l.val + 1 : ℕ) : ℝ) - 1 - s)) * v (b + s) e) (l.val + 1)]
      rw [Fin.sum_univ_eq_sum_range (fun s => k (b + s) d * Real.exp (g * (((l.val + 1 : ℕ) : ℝ) - 1 - s)) * v (b + s) e) (l.val + 1),
        Fin.sum_univ_eq_sum_range (fun s => k (b + s) d * (if s ≤ l.val then Real.exp (g * ((l.val : ℝ) - s)) else 0) * v (b + s) e) C]
      have hs : Finset.range (l.val + 1) ⊆ Finset.range C := Finset.range_subset_range.mpr l.isLt
      rw [← Finset.sum_subset hs]
      · refine Finset.sum_congr rfl fun s hs => ?_
        rw [if_pos (Nat.lt_succ_iff.mp (Finset.mem_range.mp hs))]
        push_cast
        congr 4
        ring
      · intro s _ hs
        rw [if_neg (fun h => hs (Finset.mem_range.mpr (Nat.lt_succ_of_le h))), mul_zero, zero_mul]
  simp only [h, mul_add, Finset.sum_add_distrib, Finset.mul_sum, Finset.sum_mul]
  rw [add_comm]
  congr 1
  · refine Finset.sum_congr rfl fun d _ => by ring
  · rw [Finset.sum_comm]
    refine Finset.sum_congr rfl fun d _ => Finset.sum_congr rfl fun m _ => by ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One chunk's state, over finite extended reals. -/
theorem state_chunk (C b : ℕ) (d e : Fin 128) (gc S : EReal) (K kd W : Fin C → EReal)
    (hg : gc = (Real.exp (g * C) : ℝ)) (hS : S = (SR g k v S0 b d e : ℝ)) (hK : ∀ l, K l = (k (b + l) d : ℝ))
    (hkd : ∀ l, kd l = (Real.exp (g * ((C : ℝ) - 1 - (l.val : ℝ))) : ℝ)) (hW : ∀ l, W l = (v (b + l) e : ℝ)) :
    gc * S + ∑ l, K l * kd l * W l = (SR g k v S0 (b + C) d e : ℝ) := by
  simp only [hg, hS, hK, hkd, hW, ← EReal.coe_mul, ← coe_sum, ← EReal.coe_add, state_real]

/-- One chunk's output, over finite extended reals. -/
theorem out_chunk (C b : ℕ) (l : Fin C) (e : Fin 128) (Q : Fin 128 → EReal) (K : Fin C → Fin 128 → EReal) (D W : Fin C → EReal) (S : Fin 128 → EReal) (qd : EReal)
    (hQ : ∀ d, Q d = (q (b + l) d : ℝ)) (hK : ∀ m d, K m d = (k (b + m) d : ℝ))
    (hD : ∀ m : Fin C, D m = ((if m.val ≤ l.val then Real.exp (g * ((l.val : ℝ) - m.val)) else 0 : ℝ) : EReal))
    (hW : ∀ m, W m = (v (b + m) e : ℝ)) (hS : ∀ d, S d = (SR g k v S0 b d e : ℝ)) (hq : qd = (Real.exp (g * ((l.val : ℝ) + 1)) : ℝ)) :
    ∑ m, (∑ d, Q d * K m d) * D m * W m + (∑ d, Q d * S d) * qd = ((∑ d, q (b + l) d * SR g k v S0 (b + l + 1) d e : ℝ) : EReal) := by
  simp only [hQ, hK, hD, hW, hS, hq, ← EReal.coe_mul, ← coe_sum, ← EReal.coe_add, out_real]

open Idealize.ShloMosaic

/-- A small number as the program's float. -/
def fi (n : Nat) : EReal := FloatOps.sitofp (F := Ideal) .f32 (BitVec.ofNat 32 n)

/-- The logarithm of a head's decay. -/
def LG (h : Fin 8) : EReal := Ideal.log1p (-(Ideal.exp (Ideal.ofBits .f32 0x3F317218#32 * (Ideal.ofBits .f32 0xC0A00000#32 - fi h))))

theorem fi_coe (n : Nat) (hn : n < 1000) : fi n = ((n : ℝ) : EReal) := by
  show (((BitVec.ofNat 32 n).toInt : ℝ) : EReal) = _
  have : (BitVec.ofNat 32 n).toInt = (n : Int) := by
    simp only [BitVec.toInt_eq_toNat_cond, BitVec.toNat_ofNat]; omega
  rw [this]; norm_cast

theorem c64 : Ideal.ofBits .f32 0x42800000#32 = ((64 : ℝ) : EReal) := by
  simp [Ideal.ofBits, Ideal.ieee, -EReal.coe_mul]; norm_num
theorem c63 : Ideal.ofBits .f32 0x427C0000#32 = ((63 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c255 : Ideal.ofBits .f32 0x437F0000#32 = ((255 : ℝ) : EReal) := by
  simp [Ideal.ofBits, Ideal.ieee, -EReal.coe_mul]; norm_num
theorem cm5 : Ideal.ofBits .f32 0xC0A00000#32 = ((-5 : ℝ) : EReal) := by
  simp [Ideal.ofBits, Ideal.ieee, -EReal.coe_mul, -EReal.coe_neg]; norm_num
theorem cln : ∃ r : ℝ, 0 < r ∧ Ideal.ofBits .f32 0x3F317218#32 = (r : EReal) := by
  refine ⟨11629080 * (2 ^ 24)⁻¹, by norm_num, ?_⟩
  simp [Ideal.ofBits, Ideal.ieee, -EReal.coe_mul]

/-- The logarithm of a head's decay is a real. -/
theorem LG_real (h : Fin 8) : ∃ g : ℝ, LG h = (g : EReal) := by
  obtain ⟨r, hr, hc⟩ := cln
  unfold LG
  rw [hc, cm5, fi_coe _ (by omega), ← EReal.coe_sub, ← EReal.coe_mul, Ideal.exp_coe, ← EReal.coe_neg]
  unfold Ideal.log1p
  rw [show (1 : EReal) = ((1 : ℝ) : EReal) by norm_cast, ← EReal.coe_add, Ideal.log_coe, if_neg]
  · exact ⟨_, rfl⟩
  · have : Real.exp (r * (-5 - (h.val : ℝ))) < 1 := by
      rw [Real.exp_lt_one_iff]
      have : (0 : ℝ) ≤ h.val := by positivity
      nlinarith
    linarith

/-- The logarithm of a head's decay, as a real. -/
def gam (h : Fin 8) : ℝ := (LG h).toReal

theorem LG_eq (h : Fin 8) : LG h = (gam h : EReal) := by
  obtain ⟨g, hg⟩ := LG_real h
  unfold gam; rw [hg, EReal.toReal_coe]

/-- The decay from one place of a chunk to another. -/
theorem decay_coe (h : Fin 8) (l k : Nat) (hl : l < 1000) (hk : k < 1000) :
    (if 0 ≤ fi l - fi k then Ideal.exp (LG h * max (fi l - fi k) 0) else 0 : EReal)
      = ((if k ≤ l then Real.exp (gam h * ((l : ℝ) - k)) else 0 : ℝ) : EReal) := by
  rw [fi_coe l hl, fi_coe k hk, LG_eq, ← EReal.coe_sub]
  by_cases hkl : k ≤ l
  · have h0 : (0 : ℝ) ≤ (l : ℝ) - k := by have : (k : ℝ) ≤ l := by exact_mod_cast hkl
                                          linarith
    rw [if_pos (by exact_mod_cast h0), if_pos hkl, max_eq_left (by exact_mod_cast h0), ← EReal.coe_mul, Ideal.exp_coe]
  · have h0 : (l : ℝ) - k < 0 := by have : (l : ℝ) < k := by exact_mod_cast Nat.lt_of_not_le hkl
                                    linarith
    rw [if_neg (by rw [not_le]; exact_mod_cast h0), if_neg hkl]; rfl

theorem dec_up (h : Fin 8) (l : Nat) (hl : l < 1000) : Ideal.exp (LG h * (fi l + 1)) = ((Real.exp (gam h * ((l : ℝ) + 1)) : ℝ) : EReal) := by
  rw [fi_coe l hl, LG_eq, show (1 : EReal) = ((1 : ℝ) : EReal) by norm_cast, ← EReal.coe_add, ← EReal.coe_mul, Ideal.exp_coe]

theorem dec_down (h : Fin 8) (l : Nat) (hl : l < 1000) (c : ℝ) : Ideal.exp (LG h * ((c : EReal) - fi l)) = ((Real.exp (gam h * (c - (l : ℝ))) : ℝ) : EReal) := by
  rw [fi_coe l hl, LG_eq, ← EReal.coe_sub, ← EReal.coe_mul, Ideal.exp_coe]

theorem dec_all (h : Fin 8) (c : ℝ) : Ideal.exp (LG h * (c : EReal)) = ((Real.exp (gam h * c) : ℝ) : EReal) := by
  rw [LG_eq, ← EReal.coe_mul, Ideal.exp_coe]

/-- A head's part of a column group of the projection, along one sequence. -/
def tr (P : FVec Ideal ⟨2, ![32768, 4608]⟩ .bf16) (off : Nat) (b : Fin 4) (h : Fin 8) (n : Nat) (d : Fin 128) : ℝ :=
  (P (ix2 ⟨(8192 * b + n) % 32768, Nat.mod_lt _ (by decide)⟩ ⟨(off + 128 * h + d) % 4608, Nat.mod_lt _ (by decide)⟩)).toReal

/-- A head's state at the start. -/
def s0r (S : FVec Ideal ⟨4, ![4, 8, 128, 128]⟩ .f32) (b : Fin 4) (h : Fin 8) (d e : Fin 128) : ℝ := (S (ix4 b h d e)).toReal

/-- The state of one head before position `n`. -/
def stR (P : FVec Ideal ⟨2, ![32768, 4608]⟩ .bf16) (S : FVec Ideal ⟨4, ![4, 8, 128, 128]⟩ .f32) (b : Fin 4) (h : Fin 8) (n : Nat) (d e : Fin 128) : ℝ :=
  SR (gam h) (tr P 1024 b h) (tr P 2048 b h) (s0r S b h) n d e

/-- What one head reads out at position `n`. -/
def ouR (P : FVec Ideal ⟨2, ![32768, 4608]⟩ .bf16) (S : FVec Ideal ⟨4, ![4, 8, 128, 128]⟩ .f32) (b : Fin 4) (h : Fin 8) (n : Nat) (e : Fin 128) : ℝ :=
  ∑ d, tr P 0 b h n d * stR P S b h (n + 1) d e

/-- The queries, keys and values are finite. -/
def Fin3 (P : FVec Ideal ⟨2, ![32768, 4608]⟩ .bf16) : Prop := ∀ i j, j.val < 3072 → P (ix2 i j) ≠ ⊤ ∧ P (ix2 i j) ≠ ⊥

/-- The starting states are finite. -/
def FinS (S : FVec Ideal ⟨4, ![4, 8, 128, 128]⟩ .f32) : Prop := ∀ b h d e, S (ix4 b h d e) ≠ ⊤ ∧ S (ix4 b h d e) ≠ ⊥

theorem tr_coe (P : FVec Ideal ⟨2, ![32768, 4608]⟩ .bf16) (hP : Fin3 P) (off : Nat) (b : Fin 4) (h : Fin 8) (n : Nat) (d : Fin 128)
    (i : Fin 32768) (j : Fin 4608) (hi : i.val = 8192 * b.val + n) (hj : j.val = off + 128 * h + d) (hoff : off ≤ 2048) : P (ix2 i j) = (tr P off b h n d : EReal) := by
  unfold tr
  have e1 : (⟨(8192 * b + n) % 32768, Nat.mod_lt _ (by decide)⟩ : Fin 32768) = i := Fin.ext (by show (8192 * b + n) % 32768 = i.val; omega)
  have e2 : (⟨(off + 128 * h + d) % 4608, Nat.mod_lt _ (by decide)⟩ : Fin 4608) = j := Fin.ext (by show (off + 128 * h + d) % 4608 = j.val; omega)
  rw [e1, e2, EReal.coe_toReal (hP i j (by omega)).1 (hP i j (by omega)).2]

theorem s0_coe (S : FVec Ideal ⟨4, ![4, 8, 128, 128]⟩ .f32) (hS : FinS S) (b : Fin 4) (h : Fin 8) (d e : Fin 128) : S (ix4 b h d e) = (s0r S b h d e : EReal) := by
  unfold s0r
  rw [EReal.coe_toReal (hS b h d e).1 (hS b h d e).2]

/-- The mean of a head. -/
def MU (f : Fin 128 → EReal) : EReal := Ideal.div (∑ x, f x) (Ideal.ofBits .f32 1124073472#32)

/-- The group norm of a head, before the gains. -/
def GN (f : Fin 128 → EReal) (e : Fin 128) : EReal :=
  (f e - MU f) * Ideal.rsqrt (Ideal.div (∑ x, (f x - MU f) * (f x - MU f)) (Ideal.ofBits .f32 1124073472#32) + Ideal.ofBits .f32 897988541#32)

/-- The gated output, by row and column. -/
def outV (P : FVec Ideal ⟨2, ![32768, 4608]⟩ .bf16) (S : FVec Ideal ⟨4, ![4, 8, 128, 128]⟩ .f32) (gn : FVec Ideal ⟨1, ![1024]⟩ .f32)
    (i : Fin 32768) (j : Fin 1024) : EReal :=
  GN (fun e => ((ouR P S ⟨i.val / 8192, by omega⟩ ⟨j.val / 128, by omega⟩ (i.val % 8192) e : ℝ) : EReal)) ⟨j.val % 128, Nat.mod_lt _ (by decide)⟩
    * gn (ix1 j) * P (ix2 i ⟨3072 + j.val, by omega⟩)

/-- The gated output as an array. -/
def outArr (P : FVec Ideal ⟨2, ![32768, 4608]⟩ .bf16) (S : FVec Ideal ⟨4, ![4, 8, 128, 128]⟩ .f32) (gn : FVec Ideal ⟨1, ![1024]⟩ .f32) :
    FVec Ideal ⟨2, ![32768, 1024]⟩ .bf16 := fun i => outV P S gn (i 0) (i 1)

/-- The state at the end as an array. -/
def staArr (P : FVec Ideal ⟨2, ![32768, 4608]⟩ .bf16) (S : FVec Ideal ⟨4, ![4, 8, 128, 128]⟩ .f32) :
    FVec Ideal ⟨4, ![4, 8, 128, 128]⟩ .f32 := fun i => ((stR P S (i 0) (i 1) 8192 (i 2) (i 3) : ℝ) : EReal)

end Cert.RetMath
-- ==== Proof.Pre.lean ====
module

public import proofs.«01_k».proof.Pre_finite_inputs
public import proofs.«01_k».proof.Proof.RetMath
public import Idealize.ShloMosaic.Lib.ReduceAll
public import Idealize.ShloMosaic.Lib.Pointwise

@[expose] public section

set_option maxRecDepth 16384

noncomputable section

namespace Cert.Pre_finite_inputs

open Cert.RetMath Idealize.ShloMosaic

/-- The shape relations the precondition's operations take. -/
theorem shape_facts : Facts where
  slices_S32768x4608_S32768x3072_0_0 := by decide
  bitsLt_bf16_f32 := by decide
  bcast_S_S32768x3072 := by decide
  reducesTo_S32768x3072_S_d0_1 := by decide
  h_S_ := by decide
  bcast_S_S4x8x128x128 := by decide
  reducesTo_S4x8x128x128_S_d0_1_2_3 := by decide

/-- A word below infinity in absolute value is a real. -/
theorem real_of_lt (x : EReal) (h : FloatOps.cmpf (F := Ideal) (φ := .f32) .olt (max x (-x)) (Ideal.ofBits .f32 0x7F800000#32) = 1#1) : x ≠ ⊤ ∧ x ≠ ⊥ := by
  have ht : Ideal.ofBits .f32 0x7F800000#32 = (⊤ : EReal) := by simp [Ideal.ofBits, Ideal.ieee]
  rw [ht] at h
  constructor
  · rintro rfl
    exact absurd h (by change ¬ Ideal.cmp .olt _ _ = 1#1; simp [Ideal.cmp])
  · rintro rfl
    exact absurd h (by change ¬ Ideal.cmp .olt _ _ = 1#1; simp [Ideal.cmp])

/-- The precondition says the arrays are finite. -/
theorem reads [hF : Facts] (P : FVec Ideal S32768x4608 .bf16) (S : FVec Ideal S4x8x128x128 .f32) (g : FVec Ideal S1024 .f32)
    (h : fn (F := Ideal) P S g = fun _ => 1#1) : Fin3 P ∧ FinS S := by
  have h0 := congrFun h ix0
  dsimp only [fn] at h0
  have h1 := (IntOp.andi_eq_one.mp h0)
  constructor
  · intro i j hj
    have := Host.reduce_andi_all _ _ _ _ _ h1.1 (ix2 i ⟨j.val, hj⟩)
    refine real_of_lt _ (Eq.trans (congrArg (fun v => FloatOps.cmpf (F := Ideal) (φ := .f32) .olt (max v (-v)) (Ideal.ofBits .f32 0x7F800000#32)) ?_) this)
    refine congrArg P (funext fun a => Fin.ext ?_)
    fin_cases a
    · show i.val = 0 + i.val; omega
    · show j.val = 0 + j.val; omega
  · intro b k d e
    have := Host.reduce_andi_all _ _ _ _ _ h1.2 (ix4 b k d e)
    exact real_of_lt _ this

end Cert.Pre_finite_inputs
-- ==== Proof.KStep.lean ====
module

public import proofs.«01_k».proof.Proof.Gen.KernelIdeal.Value
public import proofs.«01_k».proof.Proof.RetMath
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Ret

open Cert.RetMath Cert.KernelIdeal Cert.KernelIdeal.Gen Idealize.ShloMosaic Idealize.ShloMosaic.TcCoe Idealize.SL.Sem

variable (m : (ℓ : Loc nD τ sig) → Buf (Elt Ideal) ℓ)

/-- Where the first pieces already hold an index, the pieces behind them do not matter. -/
theorem canon_keep {S : Shape} {e : EltTy} (L L' : List (View.Piece (Elt Ideal) S e)) (y : S.Idx) (hy : ∃ p ∈ L, y ∈ p.1.set) :
    View.canon (L ++ L') y = View.canon L y := by
  induction L with
  | nil => obtain ⟨p, hp, _⟩ := hy; cases hp
  | cons p L ih =>
    by_cases h : y ∈ p.1.set
    · obtain ⟨x, rfl⟩ := p.1.exists_idx_of_mem h
      obtain ⟨r, w⟩ := p
      rw [List.cons_append]
      exact (View.canon_cons_emb r w (L ++ L') x).trans (View.canon_cons_emb r w L x).symm
    · rw [List.cons_append, View.canon_cons_of_not_mem p _ h, View.canon_cons_of_not_mem p _ h]
      refine ih ?_
      obtain ⟨q, hq, hqy⟩ := hy
      rcases List.mem_cons.mp hq with rfl | hq
      · exact absurd hqy h
      · exact ⟨q, hq, hqy⟩

/-- The state after one chunk, at an index. -/
def KS (x1 x2 : FVec Ideal S256x1024 .bf16) (S : FVec Ideal S1x8x128x128 .f32) (x7 : FVec Ideal S256x1024 .f32) (x8 : FVec Ideal S8x1x128 .f32)
    (h : Fin 8) (d e : Fin 128) : EReal :=
  x8 (ix3 h 0 e) * S (ix4 0 h d e) + ∑ l : Fin 256, x1 (ix2 l ⟨128 * h + d, by omega⟩) * x7 (ix2 l ⟨128 * h + d, by omega⟩) * x2 (ix2 l ⟨128 * h + e, by omega⟩)

/-- What one chunk reads out of the sequence and the state, before the group norm. -/
def KO (x0 x1 x2 : FVec Ideal S256x1024 .bf16) (S : FVec Ideal S1x8x128x128 .f32) (x5 : FVec Ideal S8x256x256 .f32) (x6 : FVec Ideal S256x1024 .f32)
    (l : Fin 256) (h : Fin 8) (e : Fin 128) : EReal :=
  ∑ k : Fin 256, (∑ d : Fin 128, x0 (ix2 l ⟨128 * h + d, by omega⟩) * x1 (ix2 k ⟨128 * h + d, by omega⟩)) * x5 (ix3 h l k) * x2 (ix2 k ⟨128 * h + e, by omega⟩)
    + (∑ d : Fin 128, x0 (ix2 l ⟨128 * h + d, by omega⟩) * S (ix4 0 h d e)) * x6 (ix2 l ⟨128 * h + e, by omega⟩)

set_option maxHeartbeats 4000000 in
theorem stB (c : Dev nD) (t : Fin cfg0.N) (h0 : ¬ t.val % 32 = 0) (y : S1x8x128x128.Idx) :
    (outsAt0 m c t.val t.isLt).2 y = KS (X0_1 m c t) (X0_2 m c t) (outsAt0 m c (t.val - 1) (Nat.lt_of_le_of_lt (Nat.sub_le _ _) t.isLt)).2 (iblk m c 7 t) (iblk m c 8 t) (y 1) (y 2) (y 3) := by
  rw [outsAt0_B m c t h0]
  frame_out
  generalize X0_1 m c t = x1
  generalize X0_2 m c t = x2
  generalize (outsAt0 m c (t.val - 1) (Nat.lt_of_le_of_lt (Nat.sub_le _ _) t.isLt)).2 = S
  generalize (iblk m c 7 t) = x7
  generalize (iblk m c 8 t) = x8
  canon_tiles y h
  all_goals (open_payloads; pointwise [KS]; refine Ideal.add_congr (Ideal.mul_congr ?_ ?_) (Fin.sum_fin_congr fun l => Ideal.mul_congr (Ideal.mul_congr ?_ ?_) ?_) <;> blk_ext)

set_option maxHeartbeats 4000000 in
theorem stA (c : Dev nD) (t : Fin cfg0.N) (h0 : t.val % 32 = 0) (y : S1x8x128x128.Idx) :
    (outsAt0 m c t.val t.isLt).2 y = KS (X0_1 m c t) (X0_2 m c t) (iblk m c 4 t) (iblk m c 7 t) (iblk m c 8 t) (y 1) (y 2) (y 3) := by
  rw [outsAt0_A m c t h0]
  frame_open
  simp (disch := decide) only [↓ View.readCov_skip, ↓ View.readCov_cons_toLoadRect, ↓ View.readCov_fill]
  frame_out
  generalize X0_1 m c t = x1
  generalize X0_2 m c t = x2
  generalize (iblk m c 4 t) = x4
  generalize (iblk m c 7 t) = x7
  generalize (iblk m c 8 t) = x8
  refine (canon_keep (S := S1x8x128x128) (e := .f32) [_, _, _, _, _, _, _, _] [_] y (View.cover_of_tiledL (s := S1x8x128x128) _ S1x1x128x128.size (by sl_kernel_rfl) y)).trans ?_
  canon_tiles y h
  all_goals (open_payloads; pointwise [KS]; refine Ideal.add_congr (Ideal.mul_congr ?_ ?_) (Fin.sum_fin_congr fun l => Ideal.mul_congr (Ideal.mul_congr ?_ ?_) ?_) <;> blk_ext)

set_option maxHeartbeats 4000000 in
theorem outB (c : Dev nD) (t : Fin cfg0.N) (h0 : ¬ t.val % 32 = 0) (y : S256x1024.Idx) (l : Fin 256) (hd : Fin 8) (e : Fin 128) (hl : l.val = (y 0).val) (hy : (y 1).val = 128 * hd.val + e.val) :
    (outsAt0 m c t.val t.isLt).1 y = GN (KO (X0_0 m c t) (X0_1 m c t) (X0_2 m c t) (outsAt0 m c (t.val - 1) (Nat.lt_of_le_of_lt (Nat.sub_le _ _) t.isLt)).2 (iblk m c 5 t) (iblk m c 6 t) l hd) e * (iblk m c 9 t) (ix2 0 (y 1)) * X0_3 m c t y := by
  rw [outsAt0_B m c t h0]
  frame_out
  generalize X0_0 m c t = x0
  generalize X0_1 m c t = x1
  generalize X0_2 m c t = x2
  generalize X0_3 m c t = x3
  generalize (outsAt0 m c (t.val - 1) (Nat.lt_of_le_of_lt (Nat.sub_le _ _) t.isLt)).2 = S
  generalize (iblk m c 5 t) = x5
  generalize (iblk m c 6 t) = x6
  generalize (iblk m c 7 t) = x7
  generalize (iblk m c 8 t) = x8
  generalize (iblk m c 9 t) = x9
  canon_tiles y h
  case piece0 =>
    obtain rfl : hd = 7 := Fin.ext (by show hd.val = 7; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece1 =>
    obtain rfl : hd = 6 := Fin.ext (by show hd.val = 6; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece2 =>
    obtain rfl : hd = 5 := Fin.ext (by show hd.val = 5; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece3 =>
    obtain rfl : hd = 4 := Fin.ext (by show hd.val = 4; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece4 =>
    obtain rfl : hd = 3 := Fin.ext (by show hd.val = 3; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece5 =>
    obtain rfl : hd = 2 := Fin.ext (by show hd.val = 2; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece6 =>
    obtain rfl : hd = 1 := Fin.ext (by show hd.val = 1; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece7 =>
    obtain rfl : hd = 0 := Fin.ext (by show hd.val = 0; omega)
    obtain rfl : l = y 0 := Fin.ext (by rw [hl]; exact h0)
    obtain rfl : e = y 1 := Fin.ext (by omega)
    open_payloads
    pointwise
    refine Ideal.mul_congr (Ideal.mul_congr ?_ ?_) ?_
    · simp only [GN, MU, KO, Fin.val_zero, Nat.mul_zero, Nat.zero_add]
    · blk_ext
    · blk_ext

set_option maxHeartbeats 4000000 in
theorem outA (c : Dev nD) (t : Fin cfg0.N) (h0 :  t.val % 32 = 0) (y : S256x1024.Idx) (l : Fin 256) (hd : Fin 8) (e : Fin 128) (hl : l.val = (y 0).val) (hy : (y 1).val = 128 * hd.val + e.val) :
    (outsAt0 m c t.val t.isLt).1 y = GN (KO (X0_0 m c t) (X0_1 m c t) (X0_2 m c t) (iblk m c 4 t) (iblk m c 5 t) (iblk m c 6 t) l hd) e * (iblk m c 9 t) (ix2 0 (y 1)) * X0_3 m c t y := by
  rw [outsAt0_A m c t h0]
  frame_open
  simp (disch := decide) only [↓ View.readCov_skip, ↓ View.readCov_cons_toLoadRect, ↓ View.readCov_fill]
  frame_out
  generalize X0_0 m c t = x0
  generalize X0_1 m c t = x1
  generalize X0_2 m c t = x2
  generalize X0_3 m c t = x3
  generalize (iblk m c 4 t) = S
  generalize (iblk m c 5 t) = x5
  generalize (iblk m c 6 t) = x6
  generalize (iblk m c 7 t) = x7
  generalize (iblk m c 8 t) = x8
  generalize (iblk m c 9 t) = x9
  canon_tiles y h
  case piece0 =>
    obtain rfl : hd = 7 := Fin.ext (by show hd.val = 7; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece1 =>
    obtain rfl : hd = 6 := Fin.ext (by show hd.val = 6; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece2 =>
    obtain rfl : hd = 5 := Fin.ext (by show hd.val = 5; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece3 =>
    obtain rfl : hd = 4 := Fin.ext (by show hd.val = 4; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece4 =>
    obtain rfl : hd = 3 := Fin.ext (by show hd.val = 3; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece5 =>
    obtain rfl : hd = 2 := Fin.ext (by show hd.val = 2; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece6 =>
    obtain rfl : hd = 1 := Fin.ext (by show hd.val = 1; omega)
    obtain rfl : l = y 0 := Fin.ext (by rw [hl]; exact h0)
    obtain rfl : e = y 1 := Fin.ext (by omega)
    open_payloads
    pointwise
    refine Ideal.mul_congr (Ideal.mul_congr ?_ ?_) ?_
    · rfl
    · blk_ext
    · blk_ext
  case piece7 =>
    obtain rfl : hd = 0 := Fin.ext (by show hd.val = 0; omega)
    obtain rfl : l = y 0 := Fin.ext (by rw [hl]; exact h0)
    obtain rfl : e = y 1 := Fin.ext (by omega)
    open_payloads
    pointwise
    refine Ideal.mul_congr (Ideal.mul_congr ?_ ?_) ?_
    · simp only [GN, MU, KO, Fin.val_zero, Nat.mul_zero, Nat.zero_add]
    · blk_ext
    · blk_ext

end Cert.KernelIdeal.Ret
-- ==== Proof.KTab.lean ====
module

public import proofs.«01_k».proof.Proof.KStep
public import Idealize.ShloMosaic.Lib.StableHlo.ReadAt

@[expose] public section

set_option maxRecDepth 16384

noncomputable section

namespace Cert.KernelIdeal.Ret

open Cert.RetMath Cert.KernelIdeal Cert.KernelIdeal.Gen Idealize.ShloMosaic Idealize.ShloMosaic.TcCoe Idealize.SL.Sem

variable (m : (ℓ : Loc nD τ sig) → Buf (Elt Ideal) ℓ)

theorem V52_at (c : Dev nD) (h : Fin 8) (e : Fin 128) :
    (V m c main_v52 : FVec Ideal S8x1x128 .f32) (ix3 h 0 e) = Ideal.exp (LG h * Ideal.ofBits .f32 0x43800000#32) := by
  unfold V
  simp only [List.flatten_cons, List.flatten_nil, List.append_nil]
  after_reads_at
  rfl

theorem V48_at (c : Dev nD) (l : Fin 256) (h : Fin 8) (e : Fin 128) :
    (V m c main_v48 : FVec Ideal S256x1024 .f32) (ix2 l ⟨128 * h + e, by omega⟩) = Ideal.exp (LG h * (Ideal.ofBits .f32 0x437F0000#32 - fi l)) := by
  unfold V
  simp only [List.flatten_cons, List.flatten_nil, List.append_nil]
  after_reads_at
  rfl

theorem V46_at (c : Dev nD) (l : Fin 256) (h : Fin 8) (e : Fin 128) :
    (V m c main_v46 : FVec Ideal S256x1024 .f32) (ix2 l ⟨128 * h + e, by omega⟩) = Ideal.exp (LG h * (fi l + 1)) := by
  unfold V
  simp only [List.flatten_cons, List.flatten_nil, List.append_nil]
  after_reads_at
  rfl

theorem V53_at (c : Dev nD) (n : Fin 1024) :
    (V m c main_v53 : FVec Ideal S1x1024 .f32) (ix2 0 n) = (m (c.tc.loc main_arg2) : FVec Ideal S1024 .f32) (ix1 n) := by
  unfold V
  simp only [List.flatten_cons, List.flatten_nil, List.append_nil]
  after_reads_at

theorem V25_at (c : Dev nD) (l : Fin 256) (h : Fin 8) (k : Fin 256) :
    (V m c main_v25 : FVec Ideal S8x256x256 .f32) (ix3 h l k) = (if 0 ≤ fi l - fi k then Ideal.exp (LG h * max (fi l - fi k) 0) else 0 : EReal) := by
  unfold V
  simp only [List.flatten_cons, List.flatten_nil, List.append_nil]
  after_reads_at
  simp only [id, constant_apply]
  rw [show (FloatOps.ofBits (F := Ideal) .f32 0#32 : EReal) = 0 from Ideal.ofBits_zero .f32]
  rfl

theorem idx : ∀ t : Fin cfg0.N, win0_0.index t = ![t.val, 0] ∧ win0_1.index t = ![t.val, 1] ∧ win0_2.index t = ![t.val, 2] ∧ win0_3.index t = ![t.val, 3]
    ∧ win0_4.index t = ![t.val / 32, 0, 0, 0] ∧ win0_5.index t = ![0, 0, 0] ∧ win0_6.index t = ![0, 0] ∧ win0_7.index t = ![0, 0] ∧ win0_8.index t = ![0, 0, 0] ∧ win0_9.index t = ![0, 0]
    ∧ win0_10.index t = ![t.val, 0] ∧ win0_11.index t = ![t.val / 32, 0, 0, 0] := by decide +kernel

theorem X00_at (c : Dev nD) (t : Fin cfg0.N) (l : Fin 256) (n : Fin 1024) (ht : t.val < 128) :
    X0_0 m c t (ix2 l n) = (m (c.tc.loc main_arg0) : FVec Ideal S32768x4608 .bf16) (ix2 ⟨256 * t.val + l, by omega⟩ ⟨n.val, by omega⟩) := by
  unfold X0_0 Pipeline.Window.fill
  rw [dif_pos (moved0_0 t _)]
  blk_point [iblk, V_main_arg0, idx t]

theorem X01_at (c : Dev nD) (t : Fin cfg0.N) (l : Fin 256) (n : Fin 1024) (ht : t.val < 128) :
    X0_1 m c t (ix2 l n) = (m (c.tc.loc main_arg0) : FVec Ideal S32768x4608 .bf16) (ix2 ⟨256 * t.val + l, by omega⟩ ⟨1024 + n.val, by omega⟩) := by
  unfold X0_1 Pipeline.Window.fill
  rw [dif_pos (moved0_1 t _)]
  blk_point [iblk, V_main_arg0, idx t]

theorem X02_at (c : Dev nD) (t : Fin cfg0.N) (l : Fin 256) (n : Fin 1024) (ht : t.val < 128) :
    X0_2 m c t (ix2 l n) = (m (c.tc.loc main_arg0) : FVec Ideal S32768x4608 .bf16) (ix2 ⟨256 * t.val + l, by omega⟩ ⟨2048 + n.val, by omega⟩) := by
  unfold X0_2 Pipeline.Window.fill
  rw [dif_pos (moved0_2 t _)]
  blk_point [iblk, V_main_arg0, idx t]

theorem X03_at (c : Dev nD) (t : Fin cfg0.N) (l : Fin 256) (n : Fin 1024) (ht : t.val < 128) :
    X0_3 m c t (ix2 l n) = (m (c.tc.loc main_arg0) : FVec Ideal S32768x4608 .bf16) (ix2 ⟨256 * t.val + l, by omega⟩ ⟨3072 + n.val, by omega⟩) := by
  unfold X0_3 Pipeline.Window.fill
  rw [dif_pos (moved0_3 t _)]
  blk_point [iblk, V_main_arg0, idx t]

theorem I4_at (c : Dev nD) (t : Fin cfg0.N) (h : Fin 8) (d e : Fin 128) (ht : t.val < 128) :
    (iblk m c 4 t : FVec Ideal S1x8x128x128 .f32) (ix4 0 h d e) = (m (c.tc.loc main_arg1) : FVec Ideal S4x8x128x128 .f32) (ix4 ⟨t.val / 32, by omega⟩ h d e) := by
  blk_point [iblk, V_main_arg1, idx t]

theorem I5_at (c : Dev nD) (t : Fin cfg0.N) (h : Fin 8) (l k : Fin 256) :
    (iblk m c 5 t : FVec Ideal S8x256x256 .f32) (ix3 h l k) = (if 0 ≤ fi l - fi k then Ideal.exp (LG h * max (fi l - fi k) 0) else 0 : EReal) := by
  rw [← V25_at m c]
  blk_point [iblk, idx t]

theorem I6_at (c : Dev nD) (t : Fin cfg0.N) (l : Fin 256) (h : Fin 8) (e : Fin 128) :
    (iblk m c 6 t : FVec Ideal S256x1024 .f32) (ix2 l ⟨128 * h + e, by omega⟩) = Ideal.exp (LG h * (fi l + 1)) := by
  rw [← V46_at m c l h e]
  blk_point [iblk, idx t]

theorem I7_at (c : Dev nD) (t : Fin cfg0.N) (l : Fin 256) (h : Fin 8) (e : Fin 128) :
    (iblk m c 7 t : FVec Ideal S256x1024 .f32) (ix2 l ⟨128 * h + e, by omega⟩) = Ideal.exp (LG h * (Ideal.ofBits .f32 0x437F0000#32 - fi l)) := by
  rw [← V48_at m c l h e]
  blk_point [iblk, idx t]

theorem I8_at (c : Dev nD) (t : Fin cfg0.N) (h : Fin 8) (e : Fin 128) :
    (iblk m c 8 t : FVec Ideal S8x1x128 .f32) (ix3 h 0 e) = Ideal.exp (LG h * Ideal.ofBits .f32 0x43800000#32) := by
  rw [← V52_at m c h e]
  blk_point [iblk, idx t]

theorem I9_at (c : Dev nD) (t : Fin cfg0.N) (n : Fin 1024) :
    (iblk m c 9 t : FVec Ideal S1x1024 .f32) (ix2 0 n) = (m (c.tc.loc main_arg2) : FVec Ideal S1024 .f32) (ix1 n) := by
  rw [← V53_at m c n]
  blk_point [iblk, idx t]

end Cert.KernelIdeal.Ret
-- ==== Proof.KVal.lean ====
module

public import proofs.«01_k».proof.Proof.KTab

@[expose] public section

set_option maxRecDepth 16384

noncomputable section

namespace Cert.KernelIdeal.Ret

open Cert.RetMath Cert.KernelIdeal Cert.KernelIdeal.Gen Idealize.ShloMosaic Idealize.ShloMosaic.TcCoe Idealize.SL.Sem

variable (m : (ℓ : Loc nD τ sig) → Buf (Elt Ideal) ℓ)

/-- The projection on a core. -/
abbrev PA (c : Dev nD) : FVec Ideal S32768x4608 .bf16 := m (c.tc.loc main_arg0)
/-- The starting states on a core. -/
abbrev SA (c : Dev nD) : FVec Ideal S4x8x128x128 .f32 := m (c.tc.loc main_arg1)
/-- The gains on a core. -/
abbrev GA (c : Dev nD) : FVec Ideal S1024 .f32 := m (c.tc.loc main_arg2)

/-- One chunk's state update at a point, from the state before it. -/
theorem ks_val (c : Dev nD) (hP : Fin3 (PA m c)) (t : Fin cfg0.N) (b : Fin 4) (a : ℕ) (ha : a + 255 < 8192) (hb : 8192 * b.val + a = 256 * t.val) (S : FVec Ideal S1x8x128x128 .f32)
    (hS : ∀ h d e, S (ix4 0 h d e) = (stR (PA m c) (SA m c) b h a d e : EReal)) (h : Fin 8) (d e : Fin 128) :
    KS (X0_1 m c t) (X0_2 m c t) S (iblk m c 7 t) (iblk m c 8 t) h d e = (stR (PA m c) (SA m c) b h (a + 256) d e : EReal) := by
  have ht : t.val < 128 := t.isLt
  unfold KS
  refine state_chunk (gam h) (tr (PA m c) 1024 b h) (tr (PA m c) 2048 b h) (s0r (SA m c) b h) 256 a d e _ _ _ _ _ ?_ (hS h d e) ?_ ?_ ?_
  · rw [I8_at, c256, dec_all]; norm_num
  · intro l
    rw [X01_at m c t l _ ht]
    exact tr_coe _ hP _ _ _ _ _ _ _ (by show 256 * t.val + l.val = 8192 * b.val + (a + l.val); omega) (by show 1024 + (128 * h.val + d.val) = _; omega) (by omega)
  · intro l
    rw [I7_at m c t l h d, c255, dec_down h _ (by omega)]; norm_num
  · intro l
    rw [X02_at m c t l _ ht]
    exact tr_coe _ hP _ _ _ _ _ _ _ (by show 256 * t.val + l.val = 8192 * b.val + (a + l.val); omega) (by show 2048 + (128 * h.val + e.val) = _; omega) (by omega)

/-- One chunk's output at a point, from the state before it. -/
theorem ko_val (c : Dev nD) (hP : Fin3 (PA m c)) (t : Fin cfg0.N) (b : Fin 4) (a : ℕ) (ha : a + 255 < 8192) (hb : 8192 * b.val + a = 256 * t.val) (S : FVec Ideal S1x8x128x128 .f32)
    (hS : ∀ h d e, S (ix4 0 h d e) = (stR (PA m c) (SA m c) b h a d e : EReal)) (h : Fin 8) (l : Fin 256) (e : Fin 128) :
    KO (X0_0 m c t) (X0_1 m c t) (X0_2 m c t) S (iblk m c 5 t) (iblk m c 6 t) l h e = (ouR (PA m c) (SA m c) b h (a + l) e : EReal) := by
  have ht : t.val < 128 := t.isLt
  unfold KO ouR
  refine out_chunk (gam h) (tr (PA m c) 0 b h) (tr (PA m c) 1024 b h) (tr (PA m c) 2048 b h) (s0r (SA m c) b h) 256 a l e _ _ _ _ _ _ ?_ ?_ ?_ ?_ (fun d => hS h d e) ?_
  · intro d
    rw [X00_at m c t l _ ht]
    exact tr_coe _ hP _ _ _ _ _ _ _ (by show 256 * t.val + l.val = 8192 * b.val + (a + l.val); omega) (by show 128 * h.val + d.val = _; omega) (by omega)
  · intro k d
    rw [X01_at m c t k _ ht]
    exact tr_coe _ hP _ _ _ _ _ _ _ (by show 256 * t.val + k.val = 8192 * b.val + (a + k.val); omega) (by show 1024 + (128 * h.val + d.val) = _; omega) (by omega)
  · intro k
    rw [I5_at, decay_coe h _ _ (by omega) (by omega)]
  · intro k
    rw [X02_at m c t k _ ht]
    exact tr_coe _ hP _ _ _ _ _ _ _ (by show 256 * t.val + k.val = 8192 * b.val + (a + k.val); omega) (by show 2048 + (128 * h.val + e.val) = _; omega) (by omega)
  · rw [I6_at m c t l h e, dec_up h _ (by omega)]

/-- The state block before a point. -/
theorem st_at (c : Dev nD) (hP : Fin3 (PA m c)) (hS : FinS (SA m c)) : ∀ (n : ℕ) (hn : n < cfg0.N) (b : Fin 4) (hb : b.val = n / 32) (h : Fin 8) (d e : Fin 128),
    (outsAt0 m c n hn).2 (ix4 0 h d e) = (stR (PA m c) (SA m c) b h (256 * (n % 32) + 256) d e : EReal) := by
  intro n
  induction n with
  | zero =>
    intro hn b hb h d e
    refine (stA m c ⟨0, hn⟩ rfl (ix4 0 h d e)).trans ?_
    refine ks_val m c hP ⟨0, hn⟩ b 0 (by omega) (by show 8192 * b.val + 0 = 256 * 0; omega) _ (fun h d e => ?_) h d e
    refine (I4_at m c _ h d e (by show 0 < 128; omega)).trans ((s0_coe (SA m c) hS _ h d e).trans ?_)
    rw [show (⟨(⟨0, hn⟩ : Fin cfg0.N).val / 32, by show 0 / 32 < 4; omega⟩ : Fin 4) = b from Fin.ext (by show 0 / 32 = b.val; omega)]
    rfl
  | succ n ih =>
    intro hn b hb h d e
    have hn' : n + 1 < 128 := hn
    by_cases h0 : (n + 1) % 32 = 0
    · refine (stA m c ⟨n + 1, hn⟩ h0 (ix4 0 h d e)).trans ?_
      rw [h0]
      refine ks_val m c hP ⟨n + 1, hn⟩ b 0 (by omega) (by show 8192 * b.val + 0 = 256 * (n + 1); omega) _ (fun h d e => ?_) h d e
      refine (I4_at m c _ h d e hn').trans ((s0_coe (SA m c) hS _ h d e).trans ?_)
      rw [show (⟨(⟨n + 1, hn⟩ : Fin cfg0.N).val / 32, by show (n + 1) / 32 < 4; omega⟩ : Fin 4) = b from Fin.ext (by show (n + 1) / 32 = b.val; omega)]
      rfl
    · refine (stB m c ⟨n + 1, hn⟩ h0 (ix4 0 h d e)).trans ?_
      have e1 : 256 * ((n + 1) % 32) = 256 * (n % 32) + 256 := by omega
      rw [e1]
      exact ks_val m c hP ⟨n + 1, hn⟩ b (256 * (n % 32) + 256) (by omega) (by show 8192 * b.val + _ = 256 * (n + 1); omega) _ (fun h d e => ih (by omega) b (by omega) h d e) h d e

/-- What a point puts out. -/
theorem out_at (c : Dev nD) (hP : Fin3 (PA m c)) (hS : FinS (SA m c)) (t : Fin cfg0.N) (y : S256x1024.Idx) (i : Fin 32768) (j : Fin 1024)
    (hi : i.val = 256 * t.val + (y 0).val) (hj : j.val = (y 1).val) :
    (outsAt0 m c t.val t.isLt).1 y = outV (PA m c) (SA m c) (GA m c) i j := by
  have ht : t.val < 128 := t.isLt
  obtain ⟨l, n, rfl⟩ : ∃ (l : Fin 256) (n : Fin 1024), y = ix2 l n := ⟨y 0, y 1, by ext a; fin_cases a <;> rfl⟩
  have hi' : i.val = 256 * t.val + l.val := hi
  obtain rfl : j = n := Fin.ext hj
  have fin : ∀ (S : FVec Ideal S1x8x128x128 .f32), (∀ h d e, S (ix4 0 h d e) = (stR (PA m c) (SA m c) ⟨t.val / 32, by omega⟩ h (256 * (t.val % 32)) d e : EReal)) →
      GN (KO (X0_0 m c t) (X0_1 m c t) (X0_2 m c t) S (iblk m c 5 t) (iblk m c 6 t) l ⟨j.val / 128, by omega⟩) ⟨j.val % 128, Nat.mod_lt _ (by decide)⟩ * (iblk m c 9 t) (ix2 0 j) * X0_3 m c t (ix2 l j)
        = outV (PA m c) (SA m c) (GA m c) i j := by
    intro S hSS
    unfold outV
    refine Ideal.mul_congr (Ideal.mul_congr ?_ (I9_at m c t j)) ?_
    · refine congrArg (fun f => GN f _) (funext fun e => ?_)
      rw [ko_val m c hP t ⟨t.val / 32, by omega⟩ (256 * (t.val % 32)) (by omega) (by show 8192 * (t.val / 32) + _ = _; omega) S hSS]
      have e1 : (⟨i.val / 8192, by omega⟩ : Fin 4) = ⟨t.val / 32, by omega⟩ := Fin.ext (by show i.val / 8192 = t.val / 32; omega)
      have e2 : i.val % 8192 = 256 * (t.val % 32) + l.val := by omega
      rw [e1, e2]
    · rw [X03_at m c t l j ht]
      exact congrArg (PA m c) (congrArg (fun z => ix2 z _) (Fin.ext hi'.symm))
  by_cases h0 : t.val % 32 = 0
  · refine (outA m c t h0 (ix2 l j) l ⟨j.val / 128, by omega⟩ ⟨j.val % 128, Nat.mod_lt _ (by decide)⟩ rfl (by show j.val = 128 * (j.val / 128) + j.val % 128; omega)).trans ?_
    refine fin _ fun h d e => ?_
    refine (I4_at m c _ h d e ht).trans ((s0_coe (SA m c) hS _ h d e).trans ?_)
    rw [h0]
    rfl
  · refine (outB m c t h0 (ix2 l j) l ⟨j.val / 128, by omega⟩ ⟨j.val % 128, Nat.mod_lt _ (by decide)⟩ rfl (by show j.val = 128 * (j.val / 128) + j.val % 128; omega)).trans ?_
    refine fin _ fun h d e => ?_
    have e1 : 256 * (t.val % 32) = 256 * ((t.val - 1) % 32) + 256 := by omega
    rw [e1]
    exact st_at m c hP hS (t.val - 1) (Nat.lt_of_le_of_lt (Nat.sub_le _ _) t.isLt) _ (by show t.val / 32 = (t.val - 1) / 32; omega) h d e

/-- The output array after the run. -/
theorem arr10 (c : Dev nD) (hP : Fin3 (PA m c)) (hS : FinS (SA m c)) :
    (dats m 0 c).arrAt 10 cfg0.N = (outArr (PA m c) (SA m c) (GA m c) : FVec Ideal S32768x1024 .bf16) := by
  refine (dats m 0 c).arrAt_eq_of_covers 10 _ (by decide +kernel) fun t hf y => ?_
  blk_simp
  rw [after0_10]
  refine (out_at m c hP hS t _ _ _ ?_ ?_).trans rfl
  · blk_simp [idx t]
    omega
  · blk_simp [idx t]

/-- The state array after the run. -/
theorem arr11 (c : Dev nD) (hP : Fin3 (PA m c)) (hS : FinS (SA m c)) :
    (dats m 0 c).arrAt 11 cfg0.N = (staArr (PA m c) (SA m c) : FVec Ideal S4x8x128x128 .f32) := by
  refine (dats m 0 c).arrAt_eq_of_covers 11 _ (by decide +kernel) fun t hf y => ?_
  blk_simp
  rw [after0_11]
  have ht : t.val < 128 := t.isLt
  have h31 : t.val % 32 = 31 := (by decide +kernel : ∀ t : Fin cfg0.N, (cfg0.win 11).flush t = true → t.val % 32 = 31) t hf
  obtain ⟨h, d, e, rfl⟩ : ∃ (h : Fin 8) (d e : Fin 128), y = ix4 0 h d e := by
    refine ⟨y 1, y 2, y 3, funext fun a => ?_⟩
    fin_cases a
    · exact Fin.ext (by show (y 0).val = 0; have : (y 0).val < 1 := (y 0).isLt; omega)
    all_goals rfl
  refine (st_at m c hP hS t.val t.isLt ⟨t.val / 32, by omega⟩ rfl h d e).trans ?_
  rw [h31]
  refine (congrArg (staArr (PA m c) (SA m c)) (?_ : _ = ix4 ⟨t.val / 32, by omega⟩ h d e)).symm
  blk_ext [idx t]

end Cert.KernelIdeal.Ret
-- ==== Proof.RefStep.lean ====
module

public import proofs.«01_k».proof.Proof.Gen.ReferenceIdeal.Run
public import proofs.«01_k».proof.Proof.RetMath
public import Idealize.ShloMosaic.Lib.Pointwise
public import Idealize.ShloMosaic.Lib.WordCmp
public import Idealize.ShloMosaic.Lib.DynamicIndex
public import Idealize.ShloMosaic.Lib.Pipeline.ValueKit

@[expose] public section

set_option maxRecDepth 16384

noncomputable section

namespace Cert.ReferenceIdeal.Ret

open Cert.RetMath Cert.ReferenceIdeal Cert.ReferenceIdeal.Gen Cert.ReferenceIdeal.Value Idealize.ShloMosaic.StableHlo Idealize.ShloMosaic Idealize.ShloMosaic.TcCoe Idealize.SL.Sem

/-- A block of the sequence, read at the loop's counter. -/
theorem blk_read (x : FVec Ideal S128x4x64x8x128 .f32) (ctr : IVec S_ 32) (n : Fin 128) (hc : ctr = fun _ => BitVec.ofNat 32 n.val)
    (b : Fin 4) (l : Fin 64) (h : Fin 8) (d : Fin 128) :
    shapeCast S4x64x8x128 (Host.dynamicSlice S1x4x64x8x128 x (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S128x4x64x8x128_S1x4x64x8x128) shapeCasts_S1x4x64x8x128_S4x64x8x128
      (ix4 b l h d) = x (ix5 n b l h d) := by
  subst hc
  rw [Host.dynamicSlice_eq_extractStridedSlice S1x4x64x8x128 x _ ![n.val, 0, 0, 0, 0] _ ⟨rfl, fun a => by fin_cases a <;> simp <;> omega⟩ ?_]
  · pointwise
  · intro a
    fin_cases a
    · show (BitVec.ofNat 32 n.val).toInt = (n.val : Int)
      have := n.isLt
      simp only [BitVec.toInt_eq_toNat_cond, BitVec.toNat_ofNat]
      omega
    all_goals rfl

/-- The state after a block of 64, at an index. -/
def RS (lg : FVec Ideal S8 .f32) (K V : FVec Ideal S128x4x64x8x128 .f32) (S : FVec Ideal S4x8x128x128 .f32) (n : Fin 128)
    (b : Fin 4) (h : Fin 8) (d e : Fin 128) : EReal :=
  Ideal.exp (lg (ix1 h) * Ideal.ofBits .f32 1115684864#32) * S (ix4 b h d e)
    + ∑ l : Fin 64, K (ix5 n b l h d) * Ideal.exp (lg (ix1 h) * (Ideal.ofBits .f32 1115422720#32 - fi l)) * V (ix5 n b l h e)

/-- What a block of 64 puts out, at an index. -/
def RO (lg : FVec Ideal S8 .f32) (Q K V : FVec Ideal S128x4x64x8x128 .f32) (S : FVec Ideal S4x8x128x128 .f32) (n : Fin 128)
    (b : Fin 4) (l : Fin 64) (h : Fin 8) (e : Fin 128) : EReal :=
  ∑ x : Fin 64, V (ix5 n b x h e) * ((∑ d : Fin 128, Q (ix5 n b l h d) * K (ix5 n b x h d))
      * (if 0 ≤ fi l - fi x then Ideal.exp (lg (ix1 h) * max (fi l - fi x) 0) else 0))
    + (∑ d : Fin 128, S (ix4 b h d e) * Q (ix5 n b l h d)) * Ideal.exp (lg (ix1 h) * (fi l + 1))

theorem v53_at (V0 : Valuation τ sig (Elt Ideal)) (n : Fin 128) (hc : V0 (Proc.devRef .tc main_v25_4) = fun _ => BitVec.ofNat 32 n.val)
    (b : Fin 4) (l : Fin 64) (h : Fin 8) (d : Fin 128) :
    (res_main_while0b_v53 V0 : FVec Ideal S4x64x8x128 .f32) (ix4 b l h d) = (V0 (Proc.devRef .tc main_v25_0) : FVec Ideal S128x4x64x8x128 .f32) (ix5 n b l h d) :=
  blk_read _ _ n hc b l h d

theorem v54_at (V0 : Valuation τ sig (Elt Ideal)) (n : Fin 128) (hc : V0 (Proc.devRef .tc main_v25_4) = fun _ => BitVec.ofNat 32 n.val)
    (b : Fin 4) (l : Fin 64) (h : Fin 8) (d : Fin 128) :
    (res_main_while0b_v54 V0 : FVec Ideal S4x64x8x128 .f32) (ix4 b l h d) = (V0 (Proc.devRef .tc main_v25_1) : FVec Ideal S128x4x64x8x128 .f32) (ix5 n b l h d) :=
  blk_read _ _ n hc b l h d

theorem v55_at (V0 : Valuation τ sig (Elt Ideal)) (n : Fin 128) (hc : V0 (Proc.devRef .tc main_v25_4) = fun _ => BitVec.ofNat 32 n.val)
    (b : Fin 4) (l : Fin 64) (h : Fin 8) (d : Fin 128) :
    (res_main_while0b_v55 V0 : FVec Ideal S4x64x8x128 .f32) (ix4 b l h d) = (V0 (Proc.devRef .tc main_v25_2) : FVec Ideal S128x4x64x8x128 .f32) (ix5 n b l h d) :=
  blk_read _ _ n hc b l h d

theorem st5 (V0 : Valuation τ sig (Elt Ideal)) (n : Fin 128) (hc : V0 (Proc.devRef .tc main_v25_4) = fun _ => BitVec.ofNat 32 n.val)
    (b : Fin 4) (h : Fin 8) (d e : Fin 128) :
    (step_main_v25_5 V0 : FVec Ideal S4x8x128x128 .f32) (ix4 b h d e)
      = RS (V0 (Proc.devRef .tc main_v25_3)) (V0 (Proc.devRef .tc main_v25_1)) (V0 (Proc.devRef .tc main_v25_2)) (V0 (Proc.devRef .tc main_v25_5)) n b h d e := by
  unfold step_main_v25_5 RS
  simp only [← v54_at V0 n hc, ← v55_at V0 n hc, id]
  generalize (res_main_while0b_v54 V0) = x54
  generalize (res_main_while0b_v55 V0) = x55
  generalize (V0 (Proc.devRef .tc main_v25_3)) = lg
  generalize (V0 (Proc.devRef .tc main_v25_5)) = S
  pointwise [res_main_while0b_v56]
  rfl

theorem st6 (V0 : Valuation τ sig (Elt Ideal)) (n : Fin 128) (hc : V0 (Proc.devRef .tc main_v25_4) = fun _ => BitVec.ofNat 32 n.val)
    (t : Fin 128) (b : Fin 4) (l : Fin 64) (h : Fin 8) (e : Fin 128) :
    (step_main_v25_6 V0 : FVec Ideal S128x4x64x8x128 .f32) (ix5 t b l h e)
      = if t = n then RO (V0 (Proc.devRef .tc main_v25_3)) (V0 (Proc.devRef .tc main_v25_0)) (V0 (Proc.devRef .tc main_v25_1)) (V0 (Proc.devRef .tc main_v25_2)) (V0 (Proc.devRef .tc main_v25_5)) n b l h e
        else (V0 (Proc.devRef .tc main_v25_6) : FVec Ideal S128x4x64x8x128 .f32) (ix5 t b l h e) := by
  unfold step_main_v25_6 RO
  simp only [← v53_at V0 n hc, ← v54_at V0 n hc, ← v55_at V0 n hc]
  rw [hc]
  simp only [id]
  rw [WordCmp.dynamicUpdateSlice_eq_update _ _ _ updateFits_S128x4x64x8x128_S1x4x64x8x128 ![n.val, 0, 0, 0, 0] ⟨rfl, fun a => by fin_cases a <;> simp <;> omega⟩ ?_]
  · generalize (res_main_while0b_v53 V0) = x53
    generalize (res_main_while0b_v54 V0) = x54
    generalize (res_main_while0b_v55 V0) = x55
    generalize (V0 (Proc.devRef .tc main_v25_3)) = lg
    generalize (V0 (Proc.devRef .tc main_v25_5)) = S
    generalize (V0 (Proc.devRef .tc main_v25_6)) = o
    pointwise [res_main_while0b_v61, res_main_while0b_v56]
    by_cases ht : t = n
    · rw [dif_pos ⟨by omega, by omega⟩, if_pos ht]; rfl
    · rw [dif_neg (by omega), if_neg ht]
  · intro a
    fin_cases a
    · show (BitVec.ofNat 32 n.val).toInt = (n.val : Int)
      have := n.isLt
      simp only [BitVec.toInt_eq_toNat_cond, BitVec.toNat_ofNat]
      omega
    all_goals rfl

end Cert.ReferenceIdeal.Ret
-- ==== Proof.RefVal.lean ====
module

public import proofs.«01_k».proof.Proof.RefStep
public import Idealize.ShloMosaic.Lib.StableHlo.ReadAt

@[expose] public section

set_option maxRecDepth 16384

noncomputable section

namespace Cert.ReferenceIdeal.Ret

open Cert.RetMath Cert.ReferenceIdeal Cert.ReferenceIdeal.Gen Cert.ReferenceIdeal.Value Idealize.ShloMosaic.StableHlo Idealize.ShloMosaic Idealize.ShloMosaic.TcCoe Idealize.SL.Sem

variable (m : (ℓ : Loc nD τ sig) → Buf (Elt Ideal) ℓ)

/-- The projection on a core. -/
abbrev PA (c : Dev nD) : FVec Ideal S32768x4608 .bf16 := m (c.tc.loc main_arg0)
/-- The starting states on a core. -/
abbrev SA (c : Dev nD) : FVec Ideal S4x8x128x128 .f32 := m (c.tc.loc main_arg1)
/-- The gains on a core. -/
abbrev GA (c : Dev nD) : FVec Ideal S1024 .f32 := m (c.tc.loc main_arg2)

abbrev E0 (c : Dev nD) : Valuation τ sig (Elt Ideal) := entryContents preI m c

/-- A strip of 1024 columns of the projection cut into 128 blocks of 64 rows and 8 heads. -/
theorem blocks_at (off : Nat) (ho : off + 1024 ≤ 4608) (X : FVec Ideal S32768x4608 .f32)
    (h1 : S32768x4608.ShapeCasts S4x8192x4608) (h2 : S4x8192x4608.Slices ![0, 0, off] S4x8192x1024)
    (h3 : S4x8192x1024.ShapeCasts S4x8192x8x128) (h4 : S4x8192x8x128.ShapeCasts S4x128x64x8x128)
    (h5 : S4x128x64x8x128.Transposes [1, 0, 2, 3, 4] S128x4x64x8x128)
    (n : Fin 128) (b : Fin 4) (l : Fin 64) (h : Fin 8) (d : Fin 128) :
    transpose S128x4x64x8x128 [1, 0, 2, 3, 4] (shapeCast S4x128x64x8x128 (shapeCast S4x8192x8x128
      (extractStridedSlice S4x8192x1024 ![0, 0, off] (shapeCast S4x8192x4608 X h1) h2) h3) h4) h5 (ix5 n b l h d)
    = X (ix2 ⟨8192 * b + (64 * n + l), by omega⟩ ⟨off + (128 * h + d), by omega⟩) := by
  have hT : ∀ Y : FVec Ideal S4x128x64x8x128 .f32, transpose S128x4x64x8x128 [1, 0, 2, 3, 4] Y h5 (ix5 n b l h d) = Y (ix5 b n l h d) := by
    intro Y; pointwise
  rw [hT]
  refine (shapeCast_apply _ _ _ (ix4 b ⟨64 * n + l, by omega⟩ h d) ?_).trans ?_
  · rw [Shape.rowMajor_val_four, Shape.rowMajor_val_five]
    show ((b.val * 8192 + (64 * n.val + l.val)) * 8 + h.val) * 128 + d.val = (((b.val * 128 + n.val) * 64 + l.val) * 8 + h.val) * 128 + d.val
    omega
  refine (shapeCast_apply _ _ _ (ix3 b ⟨64 * n + l, by omega⟩ ⟨128 * h + d, by omega⟩) ?_).trans ?_
  · rw [Shape.rowMajor_val_three, Shape.rowMajor_val_four]
    show (b.val * 8192 + (64 * n.val + l.val)) * 1024 + (128 * h.val + d.val) = ((b.val * 8192 + (64 * n.val + l.val)) * 8 + h.val) * 128 + d.val
    omega
  have hS : ∀ Y : FVec Ideal S4x8192x4608 .f32, extractStridedSlice S4x8192x1024 ![0, 0, off] Y h2 (ix3 b ⟨64 * n + l, by omega⟩ ⟨128 * h + d, by omega⟩) = Y (ix3 b ⟨64 * n + l, by omega⟩ ⟨off + (128 * h + d), by omega⟩) := by
    intro Y
    unfold extractStridedSlice
    refine congrArg Y (funext fun a => Fin.ext ?_)
    fin_cases a
    · show 0 + b.val = b.val; omega
    · show 0 + (64 * n.val + l.val) = 64 * n.val + l.val; omega
    · rfl
  rw [hS]
  refine (shapeCast_apply _ _ _ (ix2 ⟨8192 * b + (64 * n + l), by omega⟩ ⟨off + (128 * h + d), by omega⟩) ?_)
  · rw [Shape.rowMajor_val_two, Shape.rowMajor_val_three]
    show (8192 * b.val + (64 * n.val + l.val)) * 4608 + (off + (128 * h.val + d.val)) = (b.val * 8192 + (64 * n.val + l.val)) * 4608 + (off + (128 * h.val + d.val))
    omega

theorem e0 (c : Dev nD) (n : Fin 128) (b : Fin 4) (l : Fin 64) (h : Fin 8) (d : Fin 128) :
    (E0 m c (Proc.devRef .tc main_v25_0) : FVec Ideal S128x4x64x8x128 .f32) (ix5 n b l h d) = PA m c (ix2 ⟨8192 * b + (64 * n + l), by omega⟩ ⟨0 + (128 * h + d), by omega⟩) := by
  show after hostOps0 (fun b => m (c, b)) _ _ = _
  after_reads_simp
  exact blocks_at 0 (by omega) _ _ _ _ _ _ n b l h d

theorem e1 (c : Dev nD) (n : Fin 128) (b : Fin 4) (l : Fin 64) (h : Fin 8) (d : Fin 128) :
    (E0 m c (Proc.devRef .tc main_v25_1) : FVec Ideal S128x4x64x8x128 .f32) (ix5 n b l h d) = PA m c (ix2 ⟨8192 * b + (64 * n + l), by omega⟩ ⟨1024 + (128 * h + d), by omega⟩) := by
  show after hostOps0 (fun b => m (c, b)) _ _ = _
  after_reads_simp
  exact blocks_at 1024 (by omega) _ _ _ _ _ _ n b l h d

theorem e2 (c : Dev nD) (n : Fin 128) (b : Fin 4) (l : Fin 64) (h : Fin 8) (d : Fin 128) :
    (E0 m c (Proc.devRef .tc main_v25_2) : FVec Ideal S128x4x64x8x128 .f32) (ix5 n b l h d) = PA m c (ix2 ⟨8192 * b + (64 * n + l), by omega⟩ ⟨2048 + (128 * h + d), by omega⟩) := by
  show after hostOps0 (fun b => m (c, b)) _ _ = _
  after_reads_simp
  exact blocks_at 2048 (by omega) _ _ _ _ _ _ n b l h d

/-- The gate's strip. -/
theorem gate_at (X : FVec Ideal S32768x4608 .f32) (h1 : S32768x4608.ShapeCasts S4x8192x4608) (h2 : S4x8192x4608.Slices ![0, 0, 3072] S4x8192x1024)
    (b : Fin 4) (j : Fin 8192) (i : Fin 1024) :
    extractStridedSlice S4x8192x1024 ![0, 0, 3072] (shapeCast S4x8192x4608 X h1) h2 (ix3 b j i) = X (ix2 ⟨8192 * b + j, by omega⟩ ⟨3072 + i, by omega⟩) := by
  have hS : ∀ Y : FVec Ideal S4x8192x4608 .f32, extractStridedSlice S4x8192x1024 ![0, 0, 3072] Y h2 (ix3 b j i) = Y (ix3 b j ⟨3072 + i, by omega⟩) := by
    intro Y
    unfold extractStridedSlice
    refine congrArg Y (funext fun a => Fin.ext ?_)
    fin_cases a
    · show 0 + b.val = b.val; omega
    · show 0 + j.val = j.val; omega
    · rfl
  rw [hS]
  refine (shapeCast_apply _ _ _ (ix2 ⟨8192 * b + j, by omega⟩ ⟨3072 + i, by omega⟩) ?_)
  rw [Shape.rowMajor_val_two, Shape.rowMajor_val_three]
  show (8192 * b.val + j.val) * 4608 + (3072 + i.val) = (b.val * 8192 + j.val) * 4608 + (3072 + i.val)
  omega

theorem eg (c : Dev nD) (b : Fin 4) (j : Fin 8192) (i : Fin 1024) :
    (E0 m c (Proc.devRef .tc main_v5) : FVec Ideal S4x8192x1024 .f32) (ix3 b j i) = PA m c (ix2 ⟨8192 * b + j, by omega⟩ ⟨3072 + i, by omega⟩) := by
  show after hostOps0 (fun b => m (c, b)) _ _ = _
  after_reads_simp
  exact gate_at _ _ _ b j i

theorem e3 (c : Dev nD) (h : Fin 8) :
    (E0 m c (Proc.devRef .tc main_v25_3) : FVec Ideal S8 .f32) (ix1 h) = LG h := by
  show after hostOps0 (fun b => m (c, b)) _ _ = _
  after_reads_at
  rfl

theorem e4 (c : Dev nD) : (E0 m c (Proc.devRef .tc main_v25_4) : IVec S_ 32) = fun _ => BitVec.ofNat 32 0 := by
  show after hostOps0 (fun b => m (c, b)) _ = _
  after_reads_simp
  rfl

theorem e5 (c : Dev nD) : (E0 m c (Proc.devRef .tc main_v25_5) : FVec Ideal S4x8x128x128 .f32) = SA m c := by
  show after hostOps0 (fun b => m (c, b)) _ = _
  after_reads_simp
  rfl

theorem post_at (W : Valuation τ sig (Elt Ideal)) (b : Fin 4) (t : Fin 128) (l : Fin 64) (h : Fin 8) (e : Fin 128) :
    (after hostOps0_1 W (Proc.devRef .tc main_v52) : FVec Ideal S32768x1024 .bf16) (ix2 ⟨8192 * b + (64 * t + l), by omega⟩ ⟨128 * h + e, by omega⟩)
      = GN (fun x => (W (Proc.devRef .tc main_v25_6) : FVec Ideal S128x4x64x8x128 .f32) (ix5 t b l h x)) e * (W (Proc.devRef .tc main_arg2) : FVec Ideal S1024 .f32) (ix1 ⟨128 * h + e, by omega⟩)
        * (W (Proc.devRef .tc main_v5) : FVec Ideal S4x8192x1024 .f32) (ix3 b ⟨64 * t + l, by omega⟩ ⟨128 * h + e, by omega⟩) := by
  after_reads_at
  have e1 : (8192 * b.val + (64 * t.val + l.val)) % 8192 / 64 = t.val := by omega
  have e2 : (8192 * b.val + (64 * t.val + l.val)) % 8192 % 64 = l.val := by omega
  have e3 : (128 * h.val + e.val) / 128 = h.val := by omega
  have e4 : (128 * h.val + e.val) % 128 = e.val := by omega
  have e5 : (8192 * b.val + (64 * t.val + l.val)) % 8192 = 64 * t.val + l.val := by omega
  have e6 : (64 * t.val + l.val) / 64 = t.val := by omega
  have e7 : (64 * t.val + l.val) % 64 = l.val := by omega
  simp only [e1, e2, e3, e4, e5, e6, e7]
  rfl

/-- What the carried buffers hold after some blocks. -/
structure Inv (c : Dev nD) (k : ℕ) (V : Valuation τ sig (Elt Ideal)) : Prop where
  vq : V (Proc.devRef .tc main_v25_0) = E0 m c (Proc.devRef .tc main_v25_0)
  vk : V (Proc.devRef .tc main_v25_1) = E0 m c (Proc.devRef .tc main_v25_1)
  vv : V (Proc.devRef .tc main_v25_2) = E0 m c (Proc.devRef .tc main_v25_2)
  lg : V (Proc.devRef .tc main_v25_3) = E0 m c (Proc.devRef .tc main_v25_3)
  cnt : V (Proc.devRef .tc main_v25_4) = fun _ => BitVec.ofNat 32 k
  st : ∀ b h d e, (V (Proc.devRef .tc main_v25_5) : FVec Ideal S4x8x128x128 .f32) (ix4 b h d e) = (stR (PA m c) (SA m c) b h (64 * k) d e : EReal)
  out : ∀ (t : Fin 128) b (l : Fin 64) h e, t.val < k →
    (V (Proc.devRef .tc main_v25_6) : FVec Ideal S128x4x64x8x128 .f32) (ix5 t b l h e) = (ouR (PA m c) (SA m c) b h (64 * t + l) e : EReal)

theorem rs_val (c : Dev nD) (hP : Fin3 (PA m c)) (n : Fin 128) (S : FVec Ideal S4x8x128x128 .f32) (b : Fin 4) (h : Fin 8)
    (hS : ∀ d e, S (ix4 b h d e) = (stR (PA m c) (SA m c) b h (64 * n) d e : EReal)) (d e : Fin 128) :
    RS (E0 m c (Proc.devRef .tc main_v25_3)) (E0 m c (Proc.devRef .tc main_v25_1)) (E0 m c (Proc.devRef .tc main_v25_2)) S n b h d e
      = (stR (PA m c) (SA m c) b h (64 * n + 64) d e : EReal) := by
  unfold RS
  refine state_chunk (gam h) (tr (PA m c) 1024 b h) (tr (PA m c) 2048 b h) (s0r (SA m c) b h) 64 (64 * n) d e _ _ _ _ _ ?_ (hS d e) ?_ ?_ ?_
  · rw [e3, c64, dec_all]; norm_num
  · intro l
    rw [e1]
    exact tr_coe _ hP _ _ _ _ _ _ _ rfl (by show 1024 + (128 * h.val + d.val) = _; omega) (by omega)
  · intro l
    rw [e3, c63, dec_down h _ (by omega)]; norm_num
  · intro l
    rw [e2]
    exact tr_coe _ hP _ _ _ _ _ _ _ rfl (by show 2048 + (128 * h.val + e.val) = _; omega) (by omega)

theorem ro_val (c : Dev nD) (hP : Fin3 (PA m c)) (n : Fin 128) (S : FVec Ideal S4x8x128x128 .f32) (b : Fin 4) (h : Fin 8)
    (hS : ∀ d e, S (ix4 b h d e) = (stR (PA m c) (SA m c) b h (64 * n) d e : EReal)) (l : Fin 64) (e : Fin 128) :
    RO (E0 m c (Proc.devRef .tc main_v25_3)) (E0 m c (Proc.devRef .tc main_v25_0)) (E0 m c (Proc.devRef .tc main_v25_1)) (E0 m c (Proc.devRef .tc main_v25_2)) S n b l h e
      = (ouR (PA m c) (SA m c) b h (64 * n + l) e : EReal) := by
  unfold RO ouR
  have comm : ∀ (f : Fin 64 → EReal) (g : Fin 64 → EReal), ∑ x, f x * g x = ∑ x, g x * f x := fun f g => Finset.sum_congr rfl fun x _ => mul_comm _ _
  have comm' : ∀ (f : Fin 128 → EReal) (g : Fin 128 → EReal), ∑ x, f x * g x = ∑ x, g x * f x := fun f g => Finset.sum_congr rfl fun x _ => mul_comm _ _
  rw [comm, comm' (fun d => S (ix4 b h d e))]
  refine out_chunk (gam h) (tr (PA m c) 0 b h) (tr (PA m c) 1024 b h) (tr (PA m c) 2048 b h) (s0r (SA m c) b h) 64 (64 * n) l e _ _ _ _ _ _ ?_ ?_ ?_ ?_ (fun d => hS d e) ?_
  · intro d
    rw [e0]
    exact tr_coe _ hP _ _ _ _ _ _ _ rfl (by show 0 + (128 * h.val + d.val) = _; omega) (by omega)
  · intro k d
    rw [e1]
    exact tr_coe _ hP _ _ _ _ _ _ _ rfl (by show 1024 + (128 * h.val + d.val) = _; omega) (by omega)
  · intro k
    rw [e3, decay_coe h _ _ (by omega) (by omega)]
  · intro k
    rw [e2]
    exact tr_coe _ hP _ _ _ _ _ _ _ rfl (by show 2048 + (128 * h.val + e.val) = _; omega) (by omega)
  · rw [e3, dec_up h _ (by omega)]

theorem inv (c : Dev nD) (hP : Fin3 (PA m c)) (hS : FinS (SA m c)) : ∀ k, k ≤ 128 → Inv m c k (STEP^[k] (E0 m c)) := by
  intro k
  induction k with
  | zero =>
    intro _
    refine ⟨rfl, rfl, rfl, rfl, e4 m c, fun b h d e => ?_, fun t _ _ _ _ ht => absurd ht (by omega)⟩
    show (E0 m c (Proc.devRef .tc main_v25_5) : FVec Ideal S4x8x128x128 .f32) (ix4 b h d e) = _
    rw [e5]
    exact (s0_coe (SA m c) hS b h d e).trans rfl
  | succ k ih =>
    intro hk
    have I := ih (by omega)
    rw [Function.iterate_succ_apply']
    generalize STEP^[k] (E0 m c) = V at I ⊢
    have hc : V (Proc.devRef .tc main_v25_4) = fun _ => BitVec.ofNat 32 (⟨k, by omega⟩ : Fin 128).val := I.cnt
    refine ⟨(STEP_main_v25_0 V).trans I.vq, (STEP_main_v25_1 V).trans I.vk, (STEP_main_v25_2 V).trans I.vv, (STEP_main_v25_3 V).trans I.lg, ?_, ?_, ?_⟩
    · rw [STEP_main_v25_4]
      unfold step_main_v25_4
      rw [I.cnt]
      funext i
      show BitVec.ofNat 32 k + 1#32 = BitVec.ofNat 32 (k + 1)
      rw [BitVec.ofNat_add]
    · intro b h d e
      rw [STEP_main_v25_5, st5 V ⟨k, by omega⟩ hc, I.lg, I.vk, I.vv]
      exact rs_val m c hP ⟨k, by omega⟩ _ b h (fun d e => I.st b h d e) d e
    · intro t b l h e ht
      rw [STEP_main_v25_6, st6 V ⟨k, by omega⟩ hc]
      by_cases htk : t = ⟨k, by omega⟩
      · rw [if_pos htk, I.lg, I.vq, I.vk, I.vv, htk]
        exact ro_val m c hP ⟨k, by omega⟩ _ b h (fun d e => I.st b h d e) l e
      · rw [if_neg htk]
        exact I.out t b l h e (by have : t.val ≠ k := fun h => htk (Fin.ext h); omega)

/-- A buffer no trip writes holds at each trip what it held before the loop. -/
theorem atK_keep (c : Dev nD) (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (h5 : r ∉ while0Ops0_5_W) (h6 : r ∉ while0Ops0_6_W) (h7 : r ∉ while0Ops0_7_W) :
    ∀ k, atK m k c (Proc.devRef .tc r) = E0 m c (Proc.devRef .tc r)
  | 0 => rfl
  | k + 1 => by
    show afterL bodyI (after condOps (atK m k c)) (Proc.devRef .tc r) = _
    simp only [afterL_cons, afterL_nil]
    rw [after_of_writes_sub _ _ while0Ops0_7_writes h7, after_of_writes_sub _ _ while0Ops0_6_writes h6, after_of_writes_sub _ _ while0Ops0_5_writes h5,
      after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc]
    exact atK_keep c r hc h0 h1 h2 h3 h4 h5 h6 h7 k

theorem atK_v5 (c : Dev nD) (k : ℕ) : atK m k c (Proc.devRef .tc main_v5) = E0 m c (Proc.devRef .tc main_v5) :=
  atK_keep m c main_v5 (by decide) (by decide) (by decide) (by decide) (by decide) (by decide) (by decide) (by decide) (by decide) k

theorem atK_arg0 (c : Dev nD) (k : ℕ) : atK m k c (Proc.devRef .tc main_arg0) = PA m c :=
  (atK_keep m c main_arg0 (by decide) (by decide) (by decide) (by decide) (by decide) (by decide) (by decide) (by decide) (by decide) k).trans
    (after_of_writes_sub _ _ hostOps0_writes (by decide))

theorem atK_arg1 (c : Dev nD) (k : ℕ) : atK m k c (Proc.devRef .tc main_arg1) = SA m c :=
  (atK_keep m c main_arg1 (by decide) (by decide) (by decide) (by decide) (by decide) (by decide) (by decide) (by decide) (by decide) k).trans
    (after_of_writes_sub _ _ hostOps0_writes (by decide))

theorem atK_arg2 (c : Dev nD) (k : ℕ) : atK m k c (Proc.devRef .tc main_arg2) = GA m c :=
  (atK_keep m c main_arg2 (by decide) (by decide) (by decide) (by decide) (by decide) (by decide) (by decide) (by decide) (by decide) k).trans
    (after_of_writes_sub _ _ hostOps0_writes (by decide))

/-- Every buffer at the end. -/
abbrev FC (c : Dev nD) : Valuation τ sig (Elt Ideal) := finalContents condOps preI bodyI postI 128 m c

/-- What the operations after the loop write, in order. -/
abbrev postW : List (Ref sig .tc) := [main_v26, main_v27, main_cst_2, main_v28, main_v29, main_cst_3, main_v30, main_v31, main_v32, main_v33, main_v34, main_cst_4, main_v35, main_v36, main_cst_5, main_v37, main_v38, main_v39, main_v40, main_cst_6, main_v41, main_v42, main_v43, main_v44, main_v45, main_v46, main_v47, main_v48, main_v49, main_v50, main_v51, main_v52]
theorem postW_writes : (hostOps0_1 : List (HloOp τ sig (Elt Ideal))).Forall fun op => op.writes ⊆ (postW.map (Proc.devRef (τ := τ) .tc)).toFinset :=
  StableHlo.forall_writes_sub_of_map rfl

/-- A buffer the operations after the loop do not write. -/
theorem fc_keep (c : Dev nD) (r : Ref sig .tc) (h0 : r ∉ postW) (h1 : r ∉ condOps_W) :
    FC m c (Proc.devRef .tc r) = atK m 128 c (Proc.devRef .tc r) := by
  show after hostOps0_1 (after condOps (atK m 128 c)) (Proc.devRef .tc r) = _
  rw [after_of_writes_sub _ _ postW_writes h0, after_of_writes_sub _ _ condOps_writes h1]

theorem fc_arg0 (c : Dev nD) : FC m c (Proc.devRef .tc main_arg0) = PA m c := (fc_keep m c _ (by decide) (by decide)).trans (atK_arg0 m c 128)
theorem fc_arg1 (c : Dev nD) : FC m c (Proc.devRef .tc main_arg1) = SA m c := (fc_keep m c _ (by decide) (by decide)).trans (atK_arg1 m c 128)
theorem fc_arg2 (c : Dev nD) : FC m c (Proc.devRef .tc main_arg2) = GA m c := (fc_keep m c _ (by decide) (by decide)).trans (atK_arg2 m c 128)

theorem inv128 (c : Dev nD) (hP : Fin3 (PA m c)) (hS : FinS (SA m c)) : Inv m c 128 (STEP^[128] (E0 m c)) := inv m c hP hS 128 (by omega)

/-- The state at the end. -/
theorem fc_state (c : Dev nD) (hP : Fin3 (PA m c)) (hS : FinS (SA m c)) :
    FC m c (Proc.devRef .tc main_v25_5) = (staArr (PA m c) (SA m c) : FVec Ideal S4x8x128x128 .f32) := by
  refine ((fc_keep m c _ (by decide) (by decide)).trans (atK_agree m c 128 main_v25_5 (by decide))).trans ?_
  funext y
  obtain ⟨b, h, d, e, rfl⟩ : ∃ (b : Fin 4) (h : Fin 8) (d e : Fin 128), y = ix4 b h d e := ⟨y 0, y 1, y 2, y 3, by ext a; fin_cases a <;> rfl⟩
  exact (inv128 m c hP hS).st b h d e

theorem outV_at (P : FVec Ideal S32768x4608 .bf16) (S : FVec Ideal S4x8x128x128 .f32) (gn : FVec Ideal S1024 .f32) (b : Fin 4) (t : Fin 128) (l : Fin 64) (h : Fin 8) (e : Fin 128) :
    outV P S gn ⟨8192 * b.val + (64 * t.val + l.val), by omega⟩ ⟨128 * h.val + e.val, by omega⟩
      = GN (fun x => ((ouR P S b h (64 * t.val + l.val) x : ℝ) : EReal)) e * gn (ix1 ⟨128 * h.val + e.val, by omega⟩)
        * P (ix2 ⟨8192 * b.val + (64 * t.val + l.val), by omega⟩ ⟨3072 + (128 * h.val + e.val), by omega⟩) := by
  unfold outV
  have d1 : (⟨(8192 * b.val + (64 * t.val + l.val)) / 8192, by omega⟩ : Fin 4) = b := Fin.ext (by show (8192 * b.val + (64 * t.val + l.val)) / 8192 = b.val; omega)
  have d2 : (8192 * b.val + (64 * t.val + l.val)) % 8192 = 64 * t.val + l.val := by omega
  have d3 : (⟨(128 * h.val + e.val) / 128, by omega⟩ : Fin 8) = h := Fin.ext (by show (128 * h.val + e.val) / 128 = h.val; omega)
  have d4 : (⟨(128 * h.val + e.val) % 128, Nat.mod_lt _ (by decide)⟩ : Fin 128) = e := Fin.ext (by show (128 * h.val + e.val) % 128 = e.val; omega)
  dsimp only
  rw [d1, d2, d3, d4]

/-- The output at the end. -/
theorem fc_out (c : Dev nD) (hP : Fin3 (PA m c)) (hS : FinS (SA m c)) :
    FC m c (Proc.devRef .tc main_v52) = (outArr (PA m c) (SA m c) (GA m c) : FVec Ideal S32768x1024 .bf16) := by
  funext y
  obtain ⟨i, j, rfl⟩ : ∃ (i : Fin 32768) (j : Fin 1024), y = ix2 i j := ⟨y 0, y 1, by ext a; fin_cases a <;> rfl⟩
  obtain ⟨b, t, l, hi⟩ : ∃ (b : Fin 4) (t : Fin 128) (l : Fin 64), i = ⟨8192 * b.val + (64 * t.val + l.val), by omega⟩ :=
    ⟨⟨i.val / 8192, by omega⟩, ⟨i.val % 8192 / 64, by omega⟩, ⟨i.val % 64, by omega⟩, Fin.ext (by show i.val = 8192 * (i.val / 8192) + (64 * (i.val % 8192 / 64) + i.val % 64); omega)⟩
  obtain ⟨h, e, hj⟩ : ∃ (h : Fin 8) (e : Fin 128), j = ⟨128 * h.val + e.val, by omega⟩ :=
    ⟨⟨j.val / 128, by omega⟩, ⟨j.val % 128, by omega⟩, Fin.ext (by show j.val = 128 * (j.val / 128) + j.val % 128; omega)⟩
  rw [hi, hj]
  refine (post_at (after condOps (atK m 128 c)) b t l h e).trans ?_
  rw [after_of_writes_sub _ _ condOps_writes (show main_v25_6 ∉ condOps_W by decide), after_of_writes_sub _ _ condOps_writes (show main_arg2 ∉ condOps_W by decide),
    after_of_writes_sub _ _ condOps_writes (show main_v5 ∉ condOps_W by decide), atK_arg2, atK_v5, atK_agree m c 128 main_v25_6 (by decide), eg]
  refine Eq.trans ?_ (outV_at (PA m c) (SA m c) (GA m c) b t l h e).symm
  refine Ideal.mul_congr (Ideal.mul_congr (congrArg (fun f => GN f e) (funext fun x => ?_)) rfl) rfl
  exact (inv128 m c hP hS).out t b l h x t.isLt

end Cert.ReferenceIdeal.Ret
-- ==== Proof.Assemble.lean ====
module

public import proofs.«01_k».proof.Defs
public import proofs.«01_k».proof.Proof.Gen.Kernel.Frame
public import proofs.«01_k».proof.Proof.Pre
public import proofs.«01_k».proof.Proof.KVal
public import proofs.«01_k».proof.Proof.RefVal
public import Idealize.ShloMosaic.Lib.Quiescent

@[expose] public section

noncomputable section

namespace Cert.Retention

open Cert.RetMath Idealize.ShloMosaic Idealize.ShloMosaic.TcCoe Idealize.SL.Sem

/-- The reference's run: its two results and its arguments. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v52) = Cert.ReferenceIdeal.Ret.FC m c (Proc.devRef .tc Cert.ReferenceIdeal.main_v52)
      ∧ r.2.mem ((c.tc : Thread Cert.ReferenceIdeal.nD Cert.ReferenceIdeal.τ).loc Cert.ReferenceIdeal.main_v25_5) = Cert.ReferenceIdeal.Ret.FC m c (Proc.devRef .tc Cert.ReferenceIdeal.main_v25_5)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun r h c => ⟨h c _ rfl, h c _ rfl, (h c _ rfl).trans (Cert.ReferenceIdeal.Ret.fc_arg0 m c),
    (h c _ rfl).trans (Cert.ReferenceIdeal.Ret.fc_arg1 m c), (h c _ rfl).trans (Cert.ReferenceIdeal.Ret.fc_arg2 m c)⟩) (Cert.ReferenceIdeal.Value.run_fold (F := Ideal) m g)

theorem ref_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (ref_run m g)

/-- The two programs compute the same arrays. -/
theorem values : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.shape_facts) := by
  intro m g m' g' hpre hargs
  have hf : ∀ c, Fin3 (Cert.KernelIdeal.Ret.PA m c) ∧ FinS (Cert.KernelIdeal.Ret.SA m c) := fun c =>
    Cert.Pre_finite_inputs.reads (hF := Cert.Pre_finite_inputs.shape_facts) _ _ _ (hpre c)
  refine ⟨fun c => outArr (Cert.KernelIdeal.Ret.PA m c) (Cert.KernelIdeal.Ret.SA m c) (Cert.KernelIdeal.Ret.GA m c),
    fun c => staArr (Cert.KernelIdeal.Ret.PA m c) (Cert.KernelIdeal.Ret.SA m c), ?_, ?_⟩
  · exact (θ_run _ _ _).mono (fun r h c => ⟨(h c).1.trans (Cert.KernelIdeal.Ret.arr10 m c (hf c).1 (hf c).2),
      (h c).2.1.trans (Cert.KernelIdeal.Ret.arr11 m c (hf c).1 (hf c).2), (h c).2.2⟩) (Cert.KernelIdeal.Value.run_blocks (F := Ideal) m g)
  · refine (θ_run _ _ _).mono (fun r h c => ?_) (ref_run m' g')
    have ea : Cert.ReferenceIdeal.Ret.PA m' c = Cert.KernelIdeal.Ret.PA m c := (hargs c).1
    have eb : Cert.ReferenceIdeal.Ret.SA m' c = Cert.KernelIdeal.Ret.SA m c := (hargs c).2.1
    have ec : Cert.ReferenceIdeal.Ret.GA m' c = Cert.KernelIdeal.Ret.GA m c := (hargs c).2.2
    refine ⟨(h c).1.trans ?_, (h c).2.1.trans ?_, (h c).2.2⟩
    · refine (Cert.ReferenceIdeal.Ret.fc_out m' c (by rw [ea]; exact (hf c).1) (by rw [eb]; exact (hf c).2)).trans ?_
      rw [ea, eb, ec]
    · refine (Cert.ReferenceIdeal.Ret.fc_state m' c (by rw [ea]; exact (hf c).1) (by rw [eb]; exact (hf c).2)).trans ?_
      rw [ea, eb]

end Cert.Retention

end
-- ==== Proof.NpMath.lean ====
module

public import Idealize.ShloMosaic.Lib.Pointwise
public import Idealize.ShloMosaic.Lib.Pipeline.ValueKit
public import Idealize.ShloMosaic.Lib.Pipeline.ReadBack

@[expose] public section

noncomputable section

namespace Cert.NpMath

open Idealize.ShloMosaic

/-- One row `X` of the activations, normalised to root mean square one and scaled by `G`, at column `k`. -/
def hN (X G : Fin 1024 → EReal) (k : Fin 1024) : EReal :=
  X k * Ideal.rsqrt (Ideal.div (∑ j : Fin 1024, X j * X j) (Ideal.ofBits .f32 0x44800000#32) + Ideal.ofBits .f32 0x358637BD#32) * G k

/-- The normalised row against one column of the weights. -/
def acc (X G W : Fin 1024 → EReal) : EReal := ∑ k : Fin 1024, hN X G k * W k

/-- One head's 128 values normalised to root mean square one. -/
def nrm (A : Fin 128 → EReal) (e : Fin 128) : EReal :=
  A e * Ideal.rsqrt (Ideal.div (∑ j : Fin 128, A j * A j) (Ideal.ofBits .f32 0x43000000#32) + Ideal.ofBits .f32 0x358637BD#32)

/-- The two halves of a head exchanged. -/
def rot (A : Fin 128 → EReal) (e : Fin 128) : EReal := A ⟨(e.val + 64) % 128, Nat.mod_lt _ (by decide)⟩

/-- The gate's activation. -/
def silu (a : EReal) : EReal := a * Ideal.div (Ideal.ofBits .f32 0x3F800000#32) (Ideal.ofBits .f32 0x3F800000#32 + Ideal.exp (0 - a))

/-- The projection of the normalised row `l` of sequence `b` at column `j`. -/
def pr {L n : Nat} (X : FVec Ideal ⟨3, ![4, L, 1024]⟩ .f32) (G : FVec Ideal ⟨1, ![1024]⟩ .f32) (W : FVec Ideal ⟨2, ![1024, n]⟩ .f32)
    (b : Fin 4) (l : Fin L) (j : Fin n) : EReal := acc (fun k => X (ix3 b l k)) (fun k => G (ix1 k)) fun k => W (ix2 k j)

/-- The memory's keys (columns below 512) and values. -/
def memV (X : FVec Ideal ⟨3, ![4, 256, 1024]⟩ .f32) (G : FVec Ideal ⟨1, ![1024]⟩ .f32) (W : FVec Ideal ⟨2, ![1024, 1024]⟩ .f32)
    (N : FVec Ideal ⟨1, ![128]⟩ .f32) (b : Fin 4) (l : Fin 256) (hd : Fin 8) (e : Fin 128) : EReal :=
  if hd.val < 4 then nrm (fun e => pr X G W b l ⟨128 * hd.val + e.val, by omega⟩) e * N (ix1 e) else pr X G W b l ⟨128 * hd.val + e.val, by omega⟩

/-- The memory's keys and values as an array. -/
def memArr (X : FVec Ideal ⟨3, ![4, 256, 1024]⟩ .f32) (G : FVec Ideal ⟨1, ![1024]⟩ .f32) (W : FVec Ideal ⟨2, ![1024, 1024]⟩ .f32)
    (N : FVec Ideal ⟨1, ![128]⟩ .f32) : FVec Ideal ⟨2, ![1024, 1024]⟩ .f32 := fun y =>
  memV X G W N ⟨(y 0).val / 256, by have := (y 0).isLt; simp at this; omega⟩ ⟨(y 0).val % 256, Nat.mod_lt _ (by decide)⟩
    ⟨(y 1).val / 128, by have := (y 1).isLt; simp at this; omega⟩ ⟨(y 1).val % 128, Nat.mod_lt _ (by decide)⟩

/-- The band's keys (heads 0 to 7) and values (8 to 15): the last 512 rows of each sequence. -/
def bandV (X : FVec Ideal ⟨3, ![4, 8192, 1024]⟩ .f32) (G : FVec Ideal ⟨1, ![1024]⟩ .f32) (W : FVec Ideal ⟨2, ![1024, 3584]⟩ .f32)
    (N : FVec Ideal ⟨1, ![128]⟩ .f32) (b : Fin 4) (l : Fin 512) (hd : Fin 16) (e : Fin 128) : EReal :=
  if hd.val < 8 then nrm (fun e => pr X G W b ⟨7680 + l.val, by omega⟩ ⟨1024 + (128 * hd.val + e.val), by omega⟩) e * N (ix1 e)
  else pr X G W b ⟨7680 + l.val, by omega⟩ ⟨1024 + (128 * hd.val + e.val), by omega⟩

/-- The band's keys and values as an array. -/
def bandArr (X : FVec Ideal ⟨3, ![4, 8192, 1024]⟩ .f32) (G : FVec Ideal ⟨1, ![1024]⟩ .f32) (W : FVec Ideal ⟨2, ![1024, 3584]⟩ .f32)
    (N : FVec Ideal ⟨1, ![128]⟩ .f32) : FVec Ideal ⟨2, ![2048, 2048]⟩ .f32 := fun y =>
  bandV X G W N ⟨(y 0).val / 512, by have := (y 0).isLt; simp at this; omega⟩ ⟨(y 0).val % 512, Nat.mod_lt _ (by decide)⟩
    ⟨(y 1).val / 128, by have := (y 1).isLt; simp at this; omega⟩ ⟨(y 1).val % 128, Nat.mod_lt _ (by decide)⟩

/-- The factor on the queries' scores, one over the square root of 128 as a float. -/
def sc : EReal := Ideal.ofBits .f32 0x3DB504F3#32

/-- The attention layer's queries (heads 0 to 7), keys (8 to 15), values (16 to 23) and the memory's queries (24 to 27). -/
def attV (X : FVec Ideal ⟨3, ![4, 8192, 1024]⟩ .f32) (G : FVec Ideal ⟨1, ![1024]⟩ .f32) (W : FVec Ideal ⟨2, ![1024, 3584]⟩ .f32)
    (N1 N2 N3 : FVec Ideal ⟨1, ![128]⟩ .f32) (b : Fin 4) (l : Fin 8192) (hd : Fin 28) (e : Fin 128) : EReal :=
  if hd.val < 8 then nrm (fun e => pr X G W b l ⟨128 * hd.val + e.val, by omega⟩) e * (N1 (ix1 e) * sc)
  else if hd.val < 16 then nrm (fun e => pr X G W b l ⟨128 * hd.val + e.val, by omega⟩) e * N2 (ix1 e)
  else if hd.val < 24 then pr X G W b l ⟨128 * hd.val + e.val, by omega⟩
  else nrm (fun e => pr X G W b l ⟨128 * hd.val + e.val, by omega⟩) e * (N3 (ix1 e) * sc)

/-- The attention layer's projected rows as an array. -/
def attArr (X : FVec Ideal ⟨3, ![4, 8192, 1024]⟩ .f32) (G : FVec Ideal ⟨1, ![1024]⟩ .f32) (W : FVec Ideal ⟨2, ![1024, 3584]⟩ .f32)
    (N1 N2 N3 : FVec Ideal ⟨1, ![128]⟩ .f32) : FVec Ideal ⟨2, ![32768, 3584]⟩ .bf16 := fun y =>
  attV X G W N1 N2 N3 ⟨(y 0).val / 8192, by have := (y 0).isLt; simp at this; omega⟩ ⟨(y 0).val % 8192, Nat.mod_lt _ (by decide)⟩
    ⟨(y 1).val / 128, by have := (y 1).isLt; simp at this; omega⟩ ⟨(y 1).val % 128, Nat.mod_lt _ (by decide)⟩

end Cert.NpMath
-- ==== Proof.InRetVal.lean ====
module

public import proofs.«01_k».proof.Proof.Gen.InRetIdeal.Value
public import proofs.«01_k».proof.Proof.NpMath

@[expose] public section

set_option maxRecDepth 16384

noncomputable section

namespace Cert.InRetIdeal.Val

open Cert.NpMath Cert.InRetIdeal Cert.InRetIdeal.Gen Idealize.ShloMosaic Idealize.ShloMosaic.TcCoe Idealize.SL.Sem

set_option maxHeartbeats 40000000 in
/-- What the body writes at row `l`, head `hd` (0 to 7 the queries, 8 to 15 the keys, 16 to 23 the values, 24 to 31 the gate, 32 to 35 the memory's queries), entry `e`. -/
theorem out (x0 : FVec Ideal S1024x1024 .f32) (x1 : FVec Ideal S1x1024 .f32) (x2 : FVec Ideal S1024x4608 .bf16) (x3 : FVec Ideal S1x4608 .f32) (x4 : FVec Ideal S1024x128 .f32) (x5 : FVec Ideal S1024x128 .f32)
    (y : S1024x4608.Idx) (l : Fin 1024) (hd : Fin 36) (e : Fin 128) (hl : l.val = (y 0).val) (hy : (y 1).val = 128 * hd.val + e.val) :
    out0_6 (F := Ideal) x0 x1 x2 x3 x4 x5 y =
      if hd.val < 16 then ((acc (fun k => x0 (ix2 l k)) (fun k => x1 (ix2 0 k)) fun k => x2 (ix2 k ⟨128 * hd.val + e.val, by omega⟩)) * x4 (ix2 l e) + rot (fun e => acc (fun k => x0 (ix2 l k)) (fun k => x1 (ix2 0 k)) fun k => x2 (ix2 k ⟨128 * hd.val + e.val, by omega⟩)) e * x5 (ix2 l e)) * x3 (ix2 0 ⟨128 * hd.val + e.val, by omega⟩)
      else if hd.val < 24 then acc (fun k => x0 (ix2 l k)) (fun k => x1 (ix2 0 k)) fun k => x2 (ix2 k ⟨128 * hd.val + e.val, by omega⟩)
      else if hd.val < 32 then silu (acc (fun k => x0 (ix2 l k)) (fun k => x1 (ix2 0 k)) fun k => x2 (ix2 k ⟨128 * hd.val + e.val, by omega⟩))
      else nrm (fun e => acc (fun k => x0 (ix2 l k)) (fun k => x1 (ix2 0 k)) fun k => x2 (ix2 k ⟨128 * hd.val + e.val, by omega⟩)) e * x3 (ix2 0 ⟨128 * hd.val + e.val, by omega⟩) := by
  unfold_out out0_6
  canon_tiles y h
  all_goals
    obtain rfl : l = y 0 := Fin.ext (hl.trans h0)
    obtain rfl : e = y 1 := Fin.ext (by omega)
    first
    | have hb := Nat.add_right_cancel (h1.symm.trans hy)
    | have hb := Nat.add_right_cancel ((Nat.zero_add _).trans (h1.symm.trans hy))
    open_payloads
    pointwise [nrm, acc, hN, silu, rot]
    simp (disch := omega) only [if_pos, if_neg, ← Nat.add_assoc, Nat.reduceAdd, ← hb, Nat.zero_add]
    try rfl

end Cert.InRetIdeal.Val
-- ==== Proof.RopeMath.lean ====
module

public import proofs.«01_k».proof.Proof.NpMath

@[expose] public section

noncomputable section

namespace Cert.NpMath

open Idealize.ShloMosaic

/-- A position or an index as the program's float. -/
def fpos (n : ℕ) : EReal := FloatOps.sitofp (F := Ideal) .f32 (BitVec.ofNat 32 n)

/-- The rotation's frequency of index `n`. -/
def IV (n : ℕ) : EReal := Ideal.pow (Ideal.ofBits .f32 0x461C4000#32) (Ideal.div (-(fpos n)) (Ideal.ofBits .f32 0x42800000#32))

/-- The cosine at position `l` for the frequency `n`. -/
def CS (l n : ℕ) : EReal := Ideal.cos (fpos l * IV n)

/-- The sine at position `l` for the frequency `n`. -/
def SN (l n : ℕ) : EReal := Ideal.sin (fpos l * IV n)

theorem fpos_coe (n : ℕ) (hn : n < 8192) : fpos n = ((n : ℝ) : EReal) := by
  show (((BitVec.ofNat 32 n).toInt : ℝ) : EReal) = _
  have : (BitVec.ofNat 32 n).toInt = (n : Int) := by
    simp only [BitVec.toInt_eq_toNat_cond, BitVec.toNat_ofNat]; omega
  rw [this]; norm_cast

theorem c64 : Ideal.ofBits .f32 0x42800000#32 = ((64 : ℝ) : EReal) := by
  simp [Ideal.ofBits, Ideal.ieee, -EReal.coe_mul]; norm_num
theorem c1e4 : Ideal.ofBits .f32 0x461C4000#32 = ((10000 : ℝ) : EReal) := by
  simp [Ideal.ofBits, Ideal.ieee, -EReal.coe_mul]; norm_num

/-- The frequencies are reals. -/
theorem IV_real (n : ℕ) (hn : n < 8192) : ∃ r : ℝ, IV n = (r : EReal) := by
  unfold IV
  rw [fpos_coe n hn, c64, c1e4, Ideal.div_coe (by norm_num), ← EReal.coe_neg, ← EReal.coe_mul, Ideal.pow_coe_coe]
  exact ⟨_, rfl⟩

theorem tile_start (i : ℕ) (hi : i < 64) :
    IntOp.addi (0#32) (IntOp.muli (128#32) (BitVec.ofNat 32 i)) = BitVec.ofNat 32 (128 * i) := by
  apply BitVec.eq_of_toNat_eq
  simp [IntOp.addi, IntOp.muli]

/-- The cosine of a tile's start plus an offset, by the addition formula. -/
theorem cos_add (i r n : ℕ) (hi : i < 64) (hr : r < 128) (hn : n < 64) :
    Ideal.cos (FloatOps.sitofp (F := Ideal) .f32 (IntOp.addi (0#32) (IntOp.muli (128#32) (BitVec.ofNat 32 i))) * IV n) * Ideal.cos (fpos r * IV n)
      - Ideal.sin (FloatOps.sitofp (F := Ideal) .f32 (IntOp.addi (0#32) (IntOp.muli (128#32) (BitVec.ofNat 32 i))) * IV n) * Ideal.sin (fpos r * IV n)
      = CS (128 * i + r) n := by
  obtain ⟨v, hv⟩ := IV_real n (by omega)
  rw [tile_start i hi]
  change Ideal.cos (fpos (128 * i) * IV n) * _ - Ideal.sin (fpos (128 * i) * IV n) * _ = _
  unfold CS
  rw [hv, fpos_coe _ (by omega : 128 * i < 8192), fpos_coe _ (by omega : r < 8192), fpos_coe _ (by omega : 128 * i + r < 8192)]
  simp only [← EReal.coe_mul, Ideal.cos_coe, Ideal.sin_coe, ← EReal.coe_sub]
  rw [← Real.cos_add, ← add_mul, ← Nat.cast_add]

/-- The sine of a tile's start plus an offset, by the addition formula. -/
theorem sin_add (i r n : ℕ) (hi : i < 64) (hr : r < 128) (hn : n < 64) :
    Ideal.sin (FloatOps.sitofp (F := Ideal) .f32 (IntOp.addi (0#32) (IntOp.muli (128#32) (BitVec.ofNat 32 i))) * IV n) * Ideal.cos (fpos r * IV n)
      + Ideal.cos (FloatOps.sitofp (F := Ideal) .f32 (IntOp.addi (0#32) (IntOp.muli (128#32) (BitVec.ofNat 32 i))) * IV n) * Ideal.sin (fpos r * IV n)
      = SN (128 * i + r) n := by
  obtain ⟨v, hv⟩ := IV_real n (by omega)
  rw [tile_start i hi]
  change Ideal.sin (fpos (128 * i) * IV n) * _ + Ideal.cos (fpos (128 * i) * IV n) * _ = _
  unfold SN
  rw [hv, fpos_coe _ (by omega : 128 * i < 8192), fpos_coe _ (by omega : r < 8192), fpos_coe _ (by omega : 128 * i + r < 8192)]
  simp only [← EReal.coe_mul, Ideal.cos_coe, Ideal.sin_coe, ← EReal.coe_add]
  rw [← Real.sin_add, ← add_mul, ← Nat.cast_add]

/-- A head rotated for its position: entry `e` goes with the entry 64 away from it. -/
def ropeV (A : Fin 128 → EReal) (l : ℕ) (e : Fin 128) : EReal :=
  if h : e.val < 64 then A e * CS l e.val - A ⟨64 + e.val, by omega⟩ * SN l e.val
  else A ⟨e.val - 64, by omega⟩ * SN l (e.val - 64) + A e * CS l (e.val - 64)

/-- The rotation as one sum with a signed sine. -/
theorem rope_rot (A : Fin 128 → EReal) (l : ℕ) (e : Fin 128) (x y : EReal) (hx : x = CS l (e.val % 64))
    (hy : y = if e.val < 64 then -SN l (e.val % 64) else SN l (e.val % 64)) : A e * x + rot A e * y = ropeV A l e := by
  subst hx hy
  unfold ropeV rot
  by_cases h : e.val < 64
  · have h1 : e.val % 64 = e.val := by omega
    have h2 : (⟨(e.val + 64) % 128, by omega⟩ : Fin 128) = ⟨64 + e.val, by omega⟩ := Fin.ext (by dsimp only; omega)
    rw [dif_pos h, if_pos h, h1, h2, sub_eq_add_neg, mul_neg]
  · have h1 : e.val % 64 = e.val - 64 := by omega
    have h2 : (⟨(e.val + 64) % 128, by omega⟩ : Fin 128) = ⟨e.val - 64, by omega⟩ := Fin.ext (by dsimp only; omega)
    rw [dif_neg h, if_neg h, h1, h2, add_comm]

/-- The retention layer's queries (heads 0 to 7), keys (8 to 15), values (16 to 23), gates (24 to 31) and the memory's queries (32 to 35). -/
def retV (X : FVec Ideal ⟨3, ![4, 8192, 1024]⟩ .f32) (G : FVec Ideal ⟨1, ![1024]⟩ .f32) (W : FVec Ideal ⟨2, ![1024, 4608]⟩ .f32)
    (N : FVec Ideal ⟨1, ![128]⟩ .f32) (b : Fin 4) (l : Fin 8192) (hd : Fin 36) (e : Fin 128) : EReal :=
  if hd.val < 8 then ropeV (fun e => pr X G W b l ⟨128 * hd.val + e.val, by omega⟩) l.val e
  else if hd.val < 16 then ropeV (fun e => pr X G W b l ⟨128 * hd.val + e.val, by omega⟩) l.val e * sc
  else if hd.val < 24 then pr X G W b l ⟨128 * hd.val + e.val, by omega⟩
  else if hd.val < 32 then silu (pr X G W b l ⟨128 * hd.val + e.val, by omega⟩)
  else nrm (fun e => pr X G W b l ⟨128 * hd.val + e.val, by omega⟩) e * (N (ix1 e) * sc)

/-- The retention layer's projected rows as an array. -/
def retArr (X : FVec Ideal ⟨3, ![4, 8192, 1024]⟩ .f32) (G : FVec Ideal ⟨1, ![1024]⟩ .f32) (W : FVec Ideal ⟨2, ![1024, 4608]⟩ .f32)
    (N : FVec Ideal ⟨1, ![128]⟩ .f32) : FVec Ideal ⟨2, ![32768, 4608]⟩ .bf16 := fun y =>
  retV X G W N ⟨(y 0).val / 8192, by have := (y 0).isLt; simp at this; omega⟩ ⟨(y 0).val % 8192, Nat.mod_lt _ (by decide)⟩
    ⟨(y 1).val / 128, by have := (y 1).isLt; simp at this; omega⟩ ⟨(y 1).val % 128, Nat.mod_lt _ (by decide)⟩

end Cert.NpMath
-- ==== Proof.InRetVal2.lean ====
module

public import proofs.«01_k».proof.Proof.InRetVal
public import proofs.«01_k».proof.Proof.RopeMath
public import Idealize.ShloMosaic.Lib.StableHlo.ReadAt

@[expose] public section

set_option maxRecDepth 100000

noncomputable section

namespace Cert.InRetIdeal.Val

open Cert.NpMath Cert.InRetIdeal Cert.InRetIdeal.Gen Idealize.ShloMosaic Idealize.ShloMosaic.TcCoe Idealize.SL.Sem

variable (m : (ℓ : Loc nD τ sig) → Buf (Elt Ideal) ℓ)

theorem X_at (c : Dev nD) (b : Fin 4) (l : Fin 8192) (k : Fin 1024) :
    (V m c main_v66 : FVec Ideal S32768x1024 .f32) (ix2 ⟨8192 * b + l, by omega⟩ k) = (m (c.tc.loc main_arg0) : FVec Ideal S4x8192x1024 .f32) (ix3 b l k) := by
  unfold V
  after_reads_at

theorem G_at (c : Dev nD) (k : Fin 1024) :
    (V m c main_v68 : FVec Ideal S1x1024 .f32) (ix2 0 k) = (m (c.tc.loc main_arg1) : FVec Ideal S1024 .f32) (ix1 k) := by
  unfold V
  after_reads_at

theorem W_at (c : Dev nD) (k : Fin 1024) (j : Fin 4608) :
    (V m c main_v67 : FVec Ideal S1024x4608 .bf16) (ix2 k j) = (m (c.tc.loc main_arg2) : FVec Ideal S1024x4608 .f32) (ix2 k j) := by
  unfold V
  after_reads_at

theorem N1_at (c : Dev nD) (h : Fin 8) (e : Fin 128) :
    (V m c main_v69 : FVec Ideal S1x4608 .f32) (ix2 0 ⟨128 * h + e, by omega⟩) = (1 : EReal) := by
  unfold V
  after_reads_at
  rw [dif_pos (by omega)]
  after_reads_at

theorem N2_at (c : Dev nD) (h : Fin 8) (e : Fin 128) :
    (V m c main_v69 : FVec Ideal S1x4608 .f32) (ix2 0 ⟨1024 + (128 * h + e), by omega⟩) = sc := by
  unfold V
  after_reads_at
  rw [dif_pos (by omega)]
  after_reads_at
  rfl

set_option maxHeartbeats 2000000 in
theorem N3_at (c : Dev nD) (N : FVec Ideal S128 .f32) (hN : m (c.tc.loc main_arg3) = N) (h : Fin 4) (e : Fin 128) :
    (V m c main_v69 : FVec Ideal S1x4608 .f32) (ix2 0 ⟨4096 + (128 * h + e), by omega⟩) = N (ix1 e) * sc := by
  unfold V
  after_reads_at
  rw [dif_neg (by omega), dif_neg (by omega), dif_neg (by omega)]
  after_reads_at
  rw [show m (c, Proc.devRef .tc main_arg3) = N from hN]
  exact congrArg (fun z => N (ix1 z) * sc) (Fin.ext (by dsimp only; omega))

/-- The table of cosines. -/
theorem cos_at (c : Dev nD) (i : Fin 64) (r e : Fin 128) :
    (V m c main_v52 : FVec Ideal S8192x128 .f32) (ix2 ⟨128 * i + r, by omega⟩ e) = CS (128 * i.val + r.val) (e.val % 64) := by
  rw [← cos_add i.val r.val (e.val % 64) i.isLt r.isLt (Nat.mod_lt _ (by decide))]
  unfold V
  after_reads_at
  have h1 : (128 * i.val + r.val) / 128 = i.val := by omega
  have h2 : (128 * i.val + r.val) % 128 = r.val := by omega
  by_cases h : e.val < 64
  · rw [dif_pos h, show e.val % 64 = e.val by omega]
    simp only [h1, h2]
    rfl
  · rw [dif_neg h, show e.val % 64 = e.val - 64 by omega]
    simp only [h1, h2]
    rfl

/-- The table of signed sines. -/
theorem sin_at (c : Dev nD) (i : Fin 64) (r e : Fin 128) :
    (V m c main_v54 : FVec Ideal S8192x128 .f32) (ix2 ⟨128 * i + r, by omega⟩ e)
      = if e.val < 64 then -SN (128 * i.val + r.val) (e.val % 64) else SN (128 * i.val + r.val) (e.val % 64) := by
  rw [← sin_add i.val r.val (e.val % 64) i.isLt r.isLt (Nat.mod_lt _ (by decide))]
  unfold V
  after_reads_at
  have h1 : (128 * i.val + r.val) / 128 = i.val := by omega
  have h2 : (128 * i.val + r.val) % 128 = r.val := by omega
  by_cases h : e.val < 64
  · rw [dif_pos h, if_pos h, show e.val % 64 = e.val by omega]
    simp only [h1, h2]
    rfl
  · rw [dif_neg h, if_neg h, show e.val % 64 = e.val - 64 by omega]
    simp only [h1, h2]
    rfl

theorem idx : ∀ t : Fin cfg0.N, win0_0.index t = ![t.val, 0] ∧ win0_1.index t = ![0, 0] ∧ win0_2.index t = ![0, 0] ∧ win0_3.index t = ![0, 0]
    ∧ win0_4.index t = ![t.val % 8, 0] ∧ win0_5.index t = ![t.val % 8, 0] ∧ win0_6.index t = ![t.val, 0] := by decide +kernel

set_option maxHeartbeats 4000000 in
/-- What a point puts out. -/
theorem out_at (c : Dev nD) (t : Fin cfg0.N) (y : S1024x4608.Idx) (b : Fin 4) (l : Fin 8192) (hd : Fin 36) (e : Fin 128)
    (hb : 8192 * b.val + l.val = 1024 * t.val + (y 0).val) (hy : (y 1).val = 128 * hd.val + e.val) :
    out0_6 (F := Ideal) (iblk m c 0 t) (iblk m c 1 t) (iblk m c 2 t) (iblk m c 3 t) (iblk m c 4 t) (iblk m c 5 t) y
      = retV (m (c.tc.loc main_arg0)) (m (c.tc.loc main_arg1)) (m (c.tc.loc main_arg2)) (m (c.tc.loc main_arg3)) b l hd e := by
  have y0 : (y 0).val < 1024 := (y 0).isLt
  have hl : l.val = 1024 * (t.val % 8) + (y 0).val := by omega
  rw [out (iblk m c 0 t) (iblk m c 1 t) (iblk m c 2 t) (iblk m c 3 t) (iblk m c 4 t) (iblk m c 5 t) y (y 0) hd e rfl hy]
  have hX : ∀ k : Fin 1024, (iblk m c 0 t : FVec Ideal S1024x1024 .f32) (ix2 (y 0) k) = (m (c.tc.loc main_arg0) : FVec Ideal S4x8192x1024 .f32) (ix3 b l k) := by
    intro k
    rw [← X_at m c b l k]
    blk_point [iblk, idx t, hb]
  have hG : ∀ k : Fin 1024, (iblk m c 1 t : FVec Ideal S1x1024 .f32) (ix2 0 k) = (m (c.tc.loc main_arg1) : FVec Ideal S1024 .f32) (ix1 k) := by
    intro k
    rw [← G_at m c k]
    blk_point [iblk, idx t]
  have hW : ∀ (k : Fin 1024) (j : Fin 4608), (iblk m c 2 t : FVec Ideal S1024x4608 .bf16) (ix2 k j) = (m (c.tc.loc main_arg2) : FVec Ideal S1024x4608 .f32) (ix2 k j) := by
    intro k j
    rw [← W_at m c k j]
    blk_point [iblk, idx t]
  have hN : ∀ j : Fin 4608, (iblk m c 3 t : FVec Ideal S1x4608 .f32) (ix2 0 j) = (V m c main_v69 : FVec Ideal S1x4608 .f32) (ix2 0 j) := by
    intro j
    blk_point [iblk, idx t]
  have hq : 128 * (l.val / 128) + l.val % 128 = l.val := by omega
  have hC : (iblk m c 4 t : FVec Ideal S1024x128 .f32) (ix2 (y 0) e) = CS l.val (e.val % 64) := by
    rw [← hq, ← cos_at m c ⟨l.val / 128, by omega⟩ ⟨l.val % 128, Nat.mod_lt _ (by decide)⟩ e]
    blk_point [iblk, idx t, hq, hl]
  have hS : (iblk m c 5 t : FVec Ideal S1024x128 .f32) (ix2 (y 0) e) = if e.val < 64 then -SN l.val (e.val % 64) else SN l.val (e.val % 64) := by
    rw [← hq, ← sin_at m c ⟨l.val / 128, by omega⟩ ⟨l.val % 128, Nat.mod_lt _ (by decide)⟩ e]
    blk_point [iblk, idx t, hq, hl]
  unfold retV pr
  simp only [hX, hG, hW, hN]
  by_cases h8 : hd.val < 8
  · have g : (V m c main_v69 : FVec Ideal S1x4608 .f32) (ix2 0 ⟨128 * hd.val + e.val, by omega⟩) = (1 : EReal) := N1_at m c ⟨hd.val, h8⟩ e
    rw [if_pos h8, if_pos (by omega), g, hC, hS]
    exact (mul_one (M := EReal) _).trans (rope_rot (fun e => pr (m (c.tc.loc main_arg0)) (m (c.tc.loc main_arg1)) (m (c.tc.loc main_arg2)) b l ⟨128 * hd.val + e.val, by omega⟩) l.val e _ _ rfl rfl)
  by_cases h16 : hd.val < 16
  · have g : (V m c main_v69 : FVec Ideal S1x4608 .f32) (ix2 0 ⟨128 * hd.val + e.val, by omega⟩) = sc := by
      refine (congrArg (V m c main_v69) (congrArg (ix2 0) (Fin.ext ?_))).trans (N2_at m c ⟨hd.val - 8, by omega⟩ e)
      show 128 * hd.val + e.val = 1024 + (128 * (hd.val - 8) + e.val)
      omega
    rw [if_neg h8, if_pos h16, if_pos h16, g, hC, hS]
    exact congrArg (fun z : EReal => z * sc) (rope_rot (fun e => pr (m (c.tc.loc main_arg0)) (m (c.tc.loc main_arg1)) (m (c.tc.loc main_arg2)) b l ⟨128 * hd.val + e.val, by omega⟩) l.val e _ _ rfl rfl)
  by_cases h24 : hd.val < 24
  · rw [if_neg h8, if_neg h16, if_neg h16, if_pos h24, if_pos h24]
  by_cases h32 : hd.val < 32
  · rw [if_neg h8, if_neg h16, if_neg h16, if_neg h24, if_neg h24, if_pos h32, if_pos h32]
  · rw [if_neg h8, if_neg h16, if_neg h16, if_neg h24, if_neg h24, if_neg h32, if_neg h32]
    refine congrArg (nrm _ e * ·) ((congrArg (V m c main_v69) (congrArg (ix2 0) (Fin.ext ?_))).trans (N3_at m c _ rfl ⟨hd.val - 32, by omega⟩ e))
    show 128 * hd.val + e.val = 4096 + (128 * (hd.val - 32) + e.val)
    omega

/-- The output array after the run. -/
theorem arr6 (c : Dev nD) :
    (dats m 0 c).arrAt 6 cfg0.N = (retArr (m (c.tc.loc main_arg0)) (m (c.tc.loc main_arg1)) (m (c.tc.loc main_arg2)) (m (c.tc.loc main_arg3)) : FVec Ideal S32768x4608 .bf16) := by
  refine (dats m 0 c).arrAt_eq_of_covers 6 _ (by decide +kernel) fun t hf y => ?_
  have y0 : (y 0).val < 1024 := (y 0).isLt
  have y1 : (y 1).val < 4608 := (y 1).isLt
  blk_simp
  rw [after0_6]
  unfold retArr
  refine out_at m c t _ _ _ _ _ ?_ ?_
  all_goals blk_simp [idx t]
  all_goals (dsimp only; omega)

end Cert.InRetIdeal.Val
-- ==== Proof.InRetRefVal.lean ====
module

public import proofs.«01_k».proof.Proof.Gen.InRetRefIdeal.Run
public import proofs.«01_k».proof.Proof.RopeMath
public import Idealize.ShloMosaic.Lib.StableHlo.ReadAt

@[expose] public section

set_option maxRecDepth 100000

noncomputable section

namespace Cert.InRetRefIdeal.Val

open Cert.NpMath Cert.InRetRefIdeal Cert.InRetRefIdeal.Gen Cert.InRetRefIdeal.Value Idealize.ShloMosaic Idealize.ShloMosaic.TcCoe Idealize.SL.Sem

variable (m : (ℓ : Loc nD τ sig) → Buf (Elt Ideal) ℓ)

set_option maxHeartbeats 2000000 in
/-- The reference's queries at row `8192 b + l`, head `h`, entry `e`. -/
theorem q_at (c : Dev nD) (b : Fin 4) (l : Fin 8192) (h : Fin 8) (e : Fin 128) :
    (res_main_v104 m c : FVec Ideal S32768x4608 .bf16) (ix2 ⟨8192 * b + l, by omega⟩ ⟨128 * h + e, by omega⟩)
      = ropeV (fun e => pr (m (c.tc.loc main_arg0)) (m (c.tc.loc main_arg1)) (m (c.tc.loc main_arg2)) b l ⟨128 * h + e, by omega⟩) l.val e := by
  unfold res_main_v104 ropeV CS SN IV fpos
  pointwise [pr, acc, hN]
  rw [dif_pos (by omega)]
  have q2 : (128 * h.val + e.val) % 128 = e.val := by omega
  simp only [q2, Nat.mul_comm _ 128]
  by_cases he : e.val < 64
  · rw [dif_pos he, dif_pos he]
  · rw [dif_neg he, dif_neg he]
    have q3 : 64 + (e.val - 64) = e.val := by omega
    simp only [q3]

set_option maxHeartbeats 2000000 in
/-- The reference's keys at row `8192 b + l`, head `h`, entry `e`. -/
theorem k_at (c : Dev nD) (b : Fin 4) (l : Fin 8192) (h : Fin 8) (e : Fin 128) (j : Fin 4608) (hj : j.val = 1024 + (128 * h + e)) :
    (res_main_v104 m c : FVec Ideal S32768x4608 .bf16) (ix2 ⟨8192 * b + l, by omega⟩ j)
      = ropeV (fun e => pr (m (c.tc.loc main_arg0)) (m (c.tc.loc main_arg1)) (m (c.tc.loc main_arg2)) b l ⟨1024 + (128 * h + e), by omega⟩) l.val e * sc := by
  unfold res_main_v104 ropeV CS SN IV fpos
  pointwise [pr, acc, hN]
  rw [dif_neg (by omega), dif_pos (by omega)]
  have q0 : j.val - 1024 = 128 * h.val + e.val := by omega
  have q1 : (128 * h.val + e.val) / 128 = h.val := by omega
  have q2 : (128 * h.val + e.val) % 128 = e.val := by omega
  simp only [q0, q1, q2, Nat.mul_comm _ 128]
  by_cases he : e.val < 64
  · simp only [dif_pos he]
    try rfl
  · have q3 : 64 + (e.val - 64) = e.val := by omega
    simp only [dif_neg he, q3]
    try rfl

/-- The reference's values at row `8192 b + l`, head `h`, entry `e`. -/
theorem v_at (c : Dev nD) (b : Fin 4) (l : Fin 8192) (h : Fin 8) (e : Fin 128) :
    (res_main_v104 m c : FVec Ideal S32768x4608 .bf16) (ix2 ⟨8192 * b + l, by omega⟩ ⟨2048 + (128 * h + e), by omega⟩)
      = pr (m (c.tc.loc main_arg0)) (m (c.tc.loc main_arg1)) (m (c.tc.loc main_arg2)) b l ⟨2048 + (128 * h + e), by omega⟩ := by
  unfold res_main_v104
  pointwise [pr, acc, hN]
  rw [dif_neg (by omega), dif_neg (by omega), dif_pos (by omega)]
  have q0 : 2048 + (128 * h.val + e.val) - 1024 - 1024 = 128 * h.val + e.val := by omega
  simp only [q0, Nat.mul_comm _ 128]

/-- The reference's gates at row `8192 b + l`, head `h`, entry `e`. -/
theorem g_at (c : Dev nD) (b : Fin 4) (l : Fin 8192) (h : Fin 8) (e : Fin 128) :
    (res_main_v104 m c : FVec Ideal S32768x4608 .bf16) (ix2 ⟨8192 * b + l, by omega⟩ ⟨3072 + (128 * h + e), by omega⟩)
      = silu (pr (m (c.tc.loc main_arg0)) (m (c.tc.loc main_arg1)) (m (c.tc.loc main_arg2)) b l ⟨3072 + (128 * h + e), by omega⟩) := by
  unfold res_main_v104
  pointwise [pr, acc, hN, silu]
  rw [dif_neg (by omega), dif_neg (by omega), dif_neg (by omega), dif_pos (by omega)]
  have q0 : 3072 + (128 * h.val + e.val) - 1024 - 1024 - 1024 = 128 * h.val + e.val := by omega
  simp only [q0, Nat.mul_comm _ 128, sub_eq_add_neg, zero_add]

/-- The reference's memory queries at row `8192 b + l`, head `h`, entry `e`. -/
theorem qm_at (c : Dev nD) (N : FVec Ideal S128 .f32) (eN : m (c.tc.loc main_arg3) = N) (b : Fin 4) (l : Fin 8192) (h : Fin 4) (e : Fin 128) :
    (res_main_v104 m c : FVec Ideal S32768x4608 .bf16) (ix2 ⟨8192 * b + l, by omega⟩ ⟨4096 + (128 * h + e), by omega⟩)
      = nrm (fun e => pr (m (c.tc.loc main_arg0)) (m (c.tc.loc main_arg1)) (m (c.tc.loc main_arg2)) b l ⟨4096 + (128 * h + e), by omega⟩) e * N (ix1 e) * sc := by
  unfold res_main_v104
  pointwise [pr, nrm, acc, hN]
  rw [dif_neg (by omega), dif_neg (by omega), dif_neg (by omega), dif_neg (by omega)]
  have q0 : 4096 + (128 * h.val + e.val) - 1024 - 1024 - 1024 - 1024 = 128 * h.val + e.val := by omega
  have q1 : (128 * h.val + e.val) / 128 = h.val := by omega
  have q2 : (128 * h.val + e.val) % 128 = e.val := by omega
  subst eN
  simp only [q0, q1, q2, Nat.mul_comm _ 128]
  rfl

set_option maxHeartbeats 4000000 in
/-- The reference's result at row `8192 b + l`, head `hd`, entry `e`. -/
theorem res_at (c : Dev nD) (b : Fin 4) (l : Fin 8192) (hd : Fin 36) (e : Fin 128) :
    (res_main_v104 m c : FVec Ideal S32768x4608 .bf16) (ix2 ⟨8192 * b + l, by omega⟩ ⟨128 * hd + e, by omega⟩)
      = retV (m (c.tc.loc main_arg0)) (m (c.tc.loc main_arg1)) (m (c.tc.loc main_arg2)) (m (c.tc.loc main_arg3)) b l hd e := by
  unfold retV
  by_cases h8 : hd.val < 8
  · rw [if_pos h8]
    exact q_at m c b l ⟨hd.val, h8⟩ e
  by_cases h16 : hd.val < 16
  · rw [if_neg h8, if_pos h16]
    have e1 : ∀ e : Fin 128, (⟨128 * hd.val + e.val, by omega⟩ : Fin 4608) = ⟨1024 + (128 * (hd.val - 8) + e), by omega⟩ := fun e => Fin.ext (by dsimp only; omega)
    simp only [e1]
    exact k_at m c b l ⟨hd.val - 8, by omega⟩ e _ rfl
  by_cases h24 : hd.val < 24
  · rw [if_neg h8, if_neg h16, if_pos h24]
    have e1 : (⟨128 * hd.val + e.val, by omega⟩ : Fin 4608) = ⟨2048 + (128 * (hd.val - 16) + e), by omega⟩ := Fin.ext (by dsimp only; omega)
    rw [e1]
    exact v_at m c b l ⟨hd.val - 16, by omega⟩ e
  by_cases h32 : hd.val < 32
  · rw [if_neg h8, if_neg h16, if_neg h24, if_pos h32]
    have e1 : (⟨128 * hd.val + e.val, by omega⟩ : Fin 4608) = ⟨3072 + (128 * (hd.val - 24) + e), by omega⟩ := Fin.ext (by dsimp only; omega)
    rw [e1]
    exact g_at m c b l ⟨hd.val - 24, by omega⟩ e
  · rw [if_neg h8, if_neg h16, if_neg h24, if_neg h32]
    have e1 : ∀ e : Fin 128, (⟨128 * hd.val + e.val, by omega⟩ : Fin 4608) = ⟨4096 + (128 * (hd.val - 32) + e), by omega⟩ := fun e => Fin.ext (by dsimp only; omega)
    simp only [e1]
    exact (qm_at m c _ rfl b l ⟨hd.val - 32, by omega⟩ e).trans (mul_assoc (G := EReal) _ _ _)

set_option maxHeartbeats 4000000 in
/-- The reference's result. -/
theorem res_eq (c : Dev nD) :
    res_main_v104 m c = (retArr (m (c.tc.loc main_arg0)) (m (c.tc.loc main_arg1)) (m (c.tc.loc main_arg2)) (m (c.tc.loc main_arg3)) : FVec Ideal S32768x4608 .bf16) := by
  funext y
  have h0 : (y 0).val < 32768 := (y 0).isLt
  have h1 : (y 1).val < 4608 := (y 1).isLt
  refine Eq.trans (congrArg _ ?_) (res_at m c ⟨(y 0).val / 8192, by omega⟩ ⟨(y 0).val % 8192, Nat.mod_lt _ (by decide)⟩ ⟨(y 1).val / 128, by omega⟩ ⟨(y 1).val % 128, Nat.mod_lt _ (by decide)⟩)
  refine funext fun a => ?_
  fin_cases a
  · exact Fin.ext (by show (y 0).val = 8192 * ((y 0).val / 8192) + (y 0).val % 8192; omega)
  · exact Fin.ext (by show (y 1).val = 128 * ((y 1).val / 128) + (y 1).val % 128; omega)

end Cert.InRetRefIdeal.Val
-- ==== Proof.InAttVal.lean ====
module

public import proofs.«01_k».proof.Proof.Gen.InAttIdeal.Value
public import proofs.«01_k».proof.Proof.NpMath

@[expose] public section

set_option maxRecDepth 16384

noncomputable section

namespace Cert.InAttIdeal.Val

open Cert.NpMath Cert.InAttIdeal Cert.InAttIdeal.Gen Idealize.ShloMosaic Idealize.ShloMosaic.TcCoe Idealize.SL.Sem

set_option maxHeartbeats 40000000 in
/-- What the body writes at row `l`, head `hd` (0 to 7 the queries, 8 to 15 the keys, 16 to 23 the values, 24 to 27 the memory's queries), entry `e`. -/
theorem out (x0 : FVec Ideal S1024x1024 .f32) (x1 : FVec Ideal S1x1024 .f32) (x2 : FVec Ideal S1024x3584 .bf16) (x3 : FVec Ideal S1x3584 .f32)
    (y : S1024x3584.Idx) (l : Fin 1024) (hd : Fin 28) (e : Fin 128) (hl : l.val = (y 0).val) (hy : (y 1).val = 128 * hd.val + e.val) :
    out0_4 (F := Ideal) x0 x1 x2 x3 y =
      if hd.val < 16 then nrm (fun e => acc (fun k => x0 (ix2 l k)) (fun k => x1 (ix2 0 k)) fun k => x2 (ix2 k ⟨128 * hd.val + e.val, by omega⟩)) e * x3 (ix2 0 ⟨128 * hd.val + e.val, by omega⟩)
      else if hd.val < 24 then acc (fun k => x0 (ix2 l k)) (fun k => x1 (ix2 0 k)) fun k => x2 (ix2 k ⟨128 * hd.val + e.val, by omega⟩)
      else nrm (fun e => acc (fun k => x0 (ix2 l k)) (fun k => x1 (ix2 0 k)) fun k => x2 (ix2 k ⟨128 * hd.val + e.val, by omega⟩)) e * x3 (ix2 0 ⟨128 * hd.val + e.val, by omega⟩) := by
  unfold_out out0_4
  canon_tiles y h
  all_goals
    obtain rfl : l = y 0 := Fin.ext (hl.trans h0)
    obtain rfl : e = y 1 := Fin.ext (by omega)
    first
    | have hb := Nat.add_right_cancel (h1.symm.trans hy)
    | have hb := Nat.add_right_cancel ((Nat.zero_add _).trans (h1.symm.trans hy))
    open_payloads
    pointwise [nrm, acc, hN]
    simp (disch := omega) only [if_pos, if_neg, ← Nat.add_assoc, Nat.reduceAdd, ← hb, Nat.zero_add]
    try rfl

end Cert.InAttIdeal.Val
-- ==== Proof.InAttVal2.lean ====
module

public import proofs.«01_k».proof.Proof.InAttVal
public import Idealize.ShloMosaic.Lib.StableHlo.ReadAt

@[expose] public section

set_option maxRecDepth 16384

noncomputable section

namespace Cert.InAttIdeal.Val

open Cert.NpMath Cert.InAttIdeal Cert.InAttIdeal.Gen Idealize.ShloMosaic Idealize.ShloMosaic.TcCoe Idealize.SL.Sem

variable (m : (ℓ : Loc nD τ sig) → Buf (Elt Ideal) ℓ)

theorem X_at (c : Dev nD) (b : Fin 4) (l : Fin 8192) (k : Fin 1024) :
    (V m c main_v0 : FVec Ideal S32768x1024 .f32) (ix2 ⟨8192 * b + l, by omega⟩ k) = (m (c.tc.loc main_arg0) : FVec Ideal S4x8192x1024 .f32) (ix3 b l k) := by
  unfold V
  after_reads_at

theorem G_at (c : Dev nD) (k : Fin 1024) :
    (V m c main_v17 : FVec Ideal S1x1024 .f32) (ix2 0 k) = (m (c.tc.loc main_arg1) : FVec Ideal S1024 .f32) (ix1 k) := by
  unfold V
  after_reads_at

theorem W_at (c : Dev nD) (k : Fin 1024) (j : Fin 3584) :
    (V m c main_v1 : FVec Ideal S1024x3584 .bf16) (ix2 k j) = (m (c.tc.loc main_arg2) : FVec Ideal S1024x3584 .f32) (ix2 k j) := by
  unfold V
  after_reads_at

theorem N1_at (c : Dev nD) (N : FVec Ideal S128 .f32) (hN : m (c.tc.loc main_arg3) = N) (h : Fin 8) (e : Fin 128) :
    (V m c main_v18 : FVec Ideal S1x3584 .f32) (ix2 0 ⟨128 * h + e, by omega⟩) = N (ix1 e) * sc := by
  unfold V
  after_reads_at
  rw [dif_pos (by omega)]
  after_reads_at
  rw [show m (c, Proc.devRef .tc main_arg3) = N from hN]
  exact congrArg (fun z => N (ix1 z) * sc) (Fin.ext (by dsimp only; omega))

theorem N2_at (c : Dev nD) (h : Fin 8) (e : Fin 128) :
    (V m c main_v18 : FVec Ideal S1x3584 .f32) (ix2 0 ⟨1024 + (128 * h + e), by omega⟩) = (m (c.tc.loc main_arg4) : FVec Ideal S128 .f32) (ix1 e) := by
  unfold V
  after_reads_at
  rw [dif_pos (by omega)]
  after_reads_at

set_option maxHeartbeats 2000000 in
theorem N3_at (c : Dev nD) (N : FVec Ideal S128 .f32) (hN : m (c.tc.loc main_arg5) = N) (h : Fin 4) (e : Fin 128) :
    (V m c main_v18 : FVec Ideal S1x3584 .f32) (ix2 0 ⟨3072 + (128 * h + e), by omega⟩) = N (ix1 e) * sc := by
  unfold V
  after_reads_at
  rw [dif_neg (by omega), dif_neg (by omega), dif_neg (by omega)]
  after_reads_at
  rw [show m (c, Proc.devRef .tc main_arg5) = N from hN]
  exact congrArg (fun z => N (ix1 z) * sc) (Fin.ext (by dsimp only; omega))

theorem idx : ∀ t : Fin cfg0.N, win0_0.index t = ![t.val, 0] ∧ win0_1.index t = ![0, 0] ∧ win0_2.index t = ![0, 0] ∧ win0_3.index t = ![0, 0]
    ∧ win0_4.index t = ![t.val, 0] := by decide +kernel

/-- What a point puts out. -/
theorem out_at (c : Dev nD) (t : Fin cfg0.N) (y : S1024x3584.Idx) (b : Fin 4) (l : Fin 8192) (hd : Fin 28) (e : Fin 128)
    (hb : 8192 * b.val + l.val = 1024 * t.val + (y 0).val) (hy : (y 1).val = 128 * hd.val + e.val) :
    out0_4 (F := Ideal) (iblk m c 0 t) (iblk m c 1 t) (iblk m c 2 t) (iblk m c 3 t) y
      = attV (m (c.tc.loc main_arg0)) (m (c.tc.loc main_arg1)) (m (c.tc.loc main_arg2)) (m (c.tc.loc main_arg3)) (m (c.tc.loc main_arg4)) (m (c.tc.loc main_arg5)) b l hd e := by
  rw [out (iblk m c 0 t) (iblk m c 1 t) (iblk m c 2 t) (iblk m c 3 t) y (y 0) hd e rfl hy]
  have hX : ∀ k : Fin 1024, (iblk m c 0 t : FVec Ideal S1024x1024 .f32) (ix2 (y 0) k) = (m (c.tc.loc main_arg0) : FVec Ideal S4x8192x1024 .f32) (ix3 b l k) := by
    intro k
    rw [← X_at m c b l k]
    blk_point [iblk, idx t, hb]
  have hG : ∀ k : Fin 1024, (iblk m c 1 t : FVec Ideal S1x1024 .f32) (ix2 0 k) = (m (c.tc.loc main_arg1) : FVec Ideal S1024 .f32) (ix1 k) := by
    intro k
    rw [← G_at m c k]
    blk_point [iblk, idx t]
  have hW : ∀ (k : Fin 1024) (j : Fin 3584), (iblk m c 2 t : FVec Ideal S1024x3584 .bf16) (ix2 k j) = (m (c.tc.loc main_arg2) : FVec Ideal S1024x3584 .f32) (ix2 k j) := by
    intro k j
    rw [← W_at m c k j]
    blk_point [iblk, idx t]
  have hN : ∀ j : Fin 3584, (iblk m c 3 t : FVec Ideal S1x3584 .f32) (ix2 0 j) = (V m c main_v18 : FVec Ideal S1x3584 .f32) (ix2 0 j) := by
    intro j
    blk_point [iblk, idx t]
  unfold attV pr
  simp only [hX, hG, hW, hN]
  by_cases h8 : hd.val < 8
  · rw [if_pos h8, if_pos (by omega)]
    exact congrArg (nrm _ e * ·) (N1_at m c _ rfl ⟨hd.val, h8⟩ e)
  by_cases h16 : hd.val < 16
  · rw [if_neg h8, if_pos h16, if_pos h16]
    refine congrArg (nrm _ e * ·) ((congrArg (V m c main_v18) (congrArg (ix2 0) (Fin.ext ?_))).trans (N2_at m c ⟨hd.val - 8, by omega⟩ e))
    show 128 * hd.val + e.val = 1024 + (128 * (hd.val - 8) + e.val)
    omega
  by_cases h24 : hd.val < 24
  · rw [if_neg h8, if_neg h16, if_neg h16, if_pos h24, if_pos h24]
  · rw [if_neg h8, if_neg h16, if_neg h16, if_neg h24, if_neg h24]
    refine congrArg (nrm _ e * ·) ((congrArg (V m c main_v18) (congrArg (ix2 0) (Fin.ext ?_))).trans (N3_at m c _ rfl ⟨hd.val - 24, by omega⟩ e))
    show 128 * hd.val + e.val = 3072 + (128 * (hd.val - 24) + e.val)
    omega

/-- The output array after the run. -/
theorem arr4 (c : Dev nD) :
    (dats m 0 c).arrAt 4 cfg0.N = (attArr (m (c.tc.loc main_arg0)) (m (c.tc.loc main_arg1)) (m (c.tc.loc main_arg2)) (m (c.tc.loc main_arg3)) (m (c.tc.loc main_arg4)) (m (c.tc.loc main_arg5)) : FVec Ideal S32768x3584 .bf16) := by
  refine (dats m 0 c).arrAt_eq_of_covers 4 _ (by decide +kernel) fun t hf y => ?_
  have y0 : (y 0).val < 1024 := (y 0).isLt
  have y1 : (y 1).val < 3584 := (y 1).isLt
  blk_simp
  rw [after0_4]
  unfold attArr
  refine out_at m c t _ _ _ _ _ ?_ ?_
  all_goals blk_simp [idx t]
  all_goals (dsimp only; omega)

end Cert.InAttIdeal.Val
-- ==== Proof.InAttRefVal.lean ====
module

public import proofs.«01_k».proof.Proof.Gen.InAttRefIdeal.Run
public import proofs.«01_k».proof.Proof.NpMath
public import Idealize.ShloMosaic.Lib.StableHlo.ReadAt

@[expose] public section

set_option maxRecDepth 16384

noncomputable section

namespace Cert.InAttRefIdeal.Val

open Cert.NpMath Cert.InAttRefIdeal Cert.InAttRefIdeal.Gen Cert.InAttRefIdeal.Value Idealize.ShloMosaic Idealize.ShloMosaic.TcCoe Idealize.SL.Sem

variable (m : (ℓ : Loc nD τ sig) → Buf (Elt Ideal) ℓ)

/-- The reference's queries at row `8192 b + l`, head `h`, entry `e`. -/
theorem q_at (c : Dev nD) (N : FVec Ideal S128 .f32) (eN : m (c.tc.loc main_arg3) = N) (b : Fin 4) (l : Fin 8192) (h : Fin 8) (e : Fin 128) :
    (res_main_v69 m c : FVec Ideal S32768x3584 .bf16) (ix2 ⟨8192 * b + l, by omega⟩ ⟨128 * h + e, by omega⟩)
      = nrm (fun e => pr (m (c.tc.loc main_arg0)) (m (c.tc.loc main_arg1)) (m (c.tc.loc main_arg2)) b l ⟨128 * h + e, by omega⟩) e * N (ix1 e) * sc := by
  unfold res_main_v69
  pointwise [pr, nrm, acc, hN]
  rw [dif_pos (by omega)]
  subst eN
  simp only [Nat.mul_comm _ 128]
  rfl

/-- The reference's keys at row `8192 b + l`, head `h`, entry `e`. -/
theorem k_at (c : Dev nD) (N : FVec Ideal S128 .f32) (eN : m (c.tc.loc main_arg4) = N) (b : Fin 4) (l : Fin 8192) (h : Fin 8) (e : Fin 128) (j : Fin 3584) (hj : j.val = 1024 + (128 * h + e)) :
    (res_main_v69 m c : FVec Ideal S32768x3584 .bf16) (ix2 ⟨8192 * b + l, by omega⟩ j)
      = nrm (fun e => pr (m (c.tc.loc main_arg0)) (m (c.tc.loc main_arg1)) (m (c.tc.loc main_arg2)) b l ⟨1024 + (128 * h + e), by omega⟩) e * N (ix1 e) := by
  unfold res_main_v69
  pointwise [pr, nrm, acc, hN]
  rw [dif_neg (by omega), dif_pos (by omega)]
  have q0 : j.val - 1024 = 128 * h.val + e.val := by omega
  have q1 : (128 * h.val + e.val) / 128 = h.val := by omega
  have q2 : (128 * h.val + e.val) % 128 = e.val := by omega
  subst eN
  simp only [q0, q1, q2, Nat.mul_comm _ 128]

/-- The reference's values at row `8192 b + l`, head `h`, entry `e`. -/
theorem v_at (c : Dev nD) (b : Fin 4) (l : Fin 8192) (h : Fin 8) (e : Fin 128) :
    (res_main_v69 m c : FVec Ideal S32768x3584 .bf16) (ix2 ⟨8192 * b + l, by omega⟩ ⟨2048 + (128 * h + e), by omega⟩)
      = pr (m (c.tc.loc main_arg0)) (m (c.tc.loc main_arg1)) (m (c.tc.loc main_arg2)) b l ⟨2048 + (128 * h + e), by omega⟩ := by
  unfold res_main_v69
  pointwise [pr, nrm, acc, hN]
  rw [dif_neg (by omega), dif_neg (by omega), dif_pos (by omega)]
  have q0 : 2048 + (128 * h.val + e.val) - 1024 - 1024 = 128 * h.val + e.val := by omega
  simp only [q0, Nat.mul_comm _ 128]

/-- The reference's memory queries at row `8192 b + l`, head `h`, entry `e`. -/
theorem qm_at (c : Dev nD) (N : FVec Ideal S128 .f32) (eN : m (c.tc.loc main_arg5) = N) (b : Fin 4) (l : Fin 8192) (h : Fin 4) (e : Fin 128) :
    (res_main_v69 m c : FVec Ideal S32768x3584 .bf16) (ix2 ⟨8192 * b + l, by omega⟩ ⟨3072 + (128 * h + e), by omega⟩)
      = nrm (fun e => pr (m (c.tc.loc main_arg0)) (m (c.tc.loc main_arg1)) (m (c.tc.loc main_arg2)) b l ⟨3072 + (128 * h + e), by omega⟩) e * N (ix1 e) * sc := by
  unfold res_main_v69
  pointwise [pr, nrm, acc, hN]
  rw [dif_neg (by omega), dif_neg (by omega), dif_neg (by omega)]
  have q0 : 3072 + (128 * h.val + e.val) - 1024 - 1024 - 1024 = 128 * h.val + e.val := by omega
  have q1 : (128 * h.val + e.val) / 128 = h.val := by omega
  have q2 : (128 * h.val + e.val) % 128 = e.val := by omega
  subst eN
  simp only [q0, q1, q2, Nat.mul_comm _ 128]
  rfl

set_option maxHeartbeats 4000000 in
/-- The reference's result at row `8192 b + l`, head `hd`, entry `e`. -/
theorem res_at (c : Dev nD) (b : Fin 4) (l : Fin 8192) (hd : Fin 28) (e : Fin 128) :
    (res_main_v69 m c : FVec Ideal S32768x3584 .bf16) (ix2 ⟨8192 * b + l, by omega⟩ ⟨128 * hd + e, by omega⟩)
      = attV (m (c.tc.loc main_arg0)) (m (c.tc.loc main_arg1)) (m (c.tc.loc main_arg2)) (m (c.tc.loc main_arg3)) (m (c.tc.loc main_arg4)) (m (c.tc.loc main_arg5)) b l hd e := by
  unfold attV
  by_cases h8 : hd.val < 8
  · rw [if_pos h8]
    exact (q_at m c _ rfl b l ⟨hd.val, h8⟩ e).trans (mul_assoc (G := EReal) _ _ _)
  by_cases h16 : hd.val < 16
  · rw [if_neg h8, if_pos h16]
    have e1 : ∀ e : Fin 128, (⟨128 * hd.val + e.val, by omega⟩ : Fin 3584) = ⟨1024 + (128 * (hd.val - 8) + e), by omega⟩ := fun e => Fin.ext (by dsimp only; omega)
    simp only [e1]
    exact k_at m c _ rfl b l ⟨hd.val - 8, by omega⟩ e _ rfl
  by_cases h24 : hd.val < 24
  · rw [if_neg h8, if_neg h16, if_pos h24]
    have e1 : (⟨128 * hd.val + e.val, by omega⟩ : Fin 3584) = ⟨2048 + (128 * (hd.val - 16) + e), by omega⟩ := Fin.ext (by dsimp only; omega)
    rw [e1]
    exact v_at m c b l ⟨hd.val - 16, by omega⟩ e
  · rw [if_neg h8, if_neg h16, if_neg h24]
    have e1 : ∀ e : Fin 128, (⟨128 * hd.val + e.val, by omega⟩ : Fin 3584) = ⟨3072 + (128 * (hd.val - 24) + e), by omega⟩ := fun e => Fin.ext (by dsimp only; omega)
    simp only [e1]
    exact (qm_at m c _ rfl b l ⟨hd.val - 24, by omega⟩ e).trans (mul_assoc (G := EReal) _ _ _)

set_option maxHeartbeats 4000000 in
/-- The reference's result. -/
theorem res_eq (c : Dev nD) :
    res_main_v69 m c = (attArr (m (c.tc.loc main_arg0)) (m (c.tc.loc main_arg1)) (m (c.tc.loc main_arg2)) (m (c.tc.loc main_arg3)) (m (c.tc.loc main_arg4)) (m (c.tc.loc main_arg5)) : FVec Ideal S32768x3584 .bf16) := by
  funext y
  have h0 : (y 0).val < 32768 := (y 0).isLt
  have h1 : (y 1).val < 3584 := (y 1).isLt
  refine Eq.trans (congrArg _ ?_) (res_at m c ⟨(y 0).val / 8192, by omega⟩ ⟨(y 0).val % 8192, Nat.mod_lt _ (by decide)⟩ ⟨(y 1).val / 128, by omega⟩ ⟨(y 1).val % 128, Nat.mod_lt _ (by decide)⟩)
  refine funext fun a => ?_
  fin_cases a
  · exact Fin.ext (by show (y 0).val = 8192 * ((y 0).val / 8192) + (y 0).val % 8192; omega)
  · exact Fin.ext (by show (y 1).val = 128 * ((y 1).val / 128) + (y 1).val % 128; omega)

end Cert.InAttRefIdeal.Val
-- ==== Proof.BandKvVal.lean ====
module

public import proofs.«01_k».proof.Proof.Gen.BandKvIdeal.Value
public import proofs.«01_k».proof.Proof.NpMath

@[expose] public section

set_option maxRecDepth 16384

noncomputable section

namespace Cert.BandKvIdeal.Val

open Cert.NpMath Cert.BandKvIdeal Cert.BandKvIdeal.Gen Idealize.ShloMosaic Idealize.ShloMosaic.TcCoe Idealize.SL.Sem

set_option maxHeartbeats 40000000 in
/-- What the body writes at row `l`, head `hd` (0 to 7 the keys, 8 to 15 the values), entry `e`. -/
theorem out (x0 : FVec Ideal S512x1024 .f32) (x1 : FVec Ideal S1x1024 .f32) (x2 : FVec Ideal S1024x2048 .bf16) (x3 : FVec Ideal S1x2048 .f32)
    (y : S512x2048.Idx) (l : Fin 512) (hd : Fin 16) (e : Fin 128) (hl : l.val = (y 0).val) (hy : (y 1).val = 128 * hd.val + e.val) :
    out0_4 (F := Ideal) x0 x1 x2 x3 y =
      if hd.val < 8 then nrm (fun e => acc (fun k => x0 (ix2 l k)) (fun k => x1 (ix2 0 k)) fun k => x2 (ix2 k ⟨128 * hd.val + e.val, by omega⟩)) e * x3 (ix2 0 ⟨128 * hd.val + e.val, by omega⟩)
      else acc (fun k => x0 (ix2 l k)) (fun k => x1 (ix2 0 k)) fun k => x2 (ix2 k ⟨128 * hd.val + e.val, by omega⟩) := by
  unfold_out out0_4
  canon_tiles y h
  all_goals
    obtain rfl : l = y 0 := Fin.ext (hl.trans h0)
    obtain rfl : e = y 1 := Fin.ext (by omega)
    first
    | have hb := Nat.add_right_cancel (h1.symm.trans hy)
    | have hb := Nat.add_right_cancel ((Nat.zero_add _).trans (h1.symm.trans hy))
    open_payloads
    pointwise [nrm, acc, hN]
    simp (disch := omega) only [if_pos, if_neg, ← Nat.add_assoc, Nat.reduceAdd, ← hb, Nat.zero_add]
    try rfl

end Cert.BandKvIdeal.Val
-- ==== Proof.BandKvVal2.lean ====
module

public import proofs.«01_k».proof.Proof.BandKvVal
public import Idealize.ShloMosaic.Lib.StableHlo.ReadAt

@[expose] public section

set_option maxRecDepth 16384

noncomputable section

namespace Cert.BandKvIdeal.Val

open Cert.NpMath Cert.BandKvIdeal Cert.BandKvIdeal.Gen Idealize.ShloMosaic Idealize.ShloMosaic.TcCoe Idealize.SL.Sem

variable (m : (ℓ : Loc nD τ sig) → Buf (Elt Ideal) ℓ)

theorem X_at (c : Dev nD) (b : Fin 4) (l : Fin 8192) (k : Fin 1024) :
    (V m c main_v0 : FVec Ideal S32768x1024 .f32) (ix2 ⟨8192 * b + l, by omega⟩ k) = (m (c.tc.loc main_arg0) : FVec Ideal S4x8192x1024 .f32) (ix3 b l k) := by
  unfold V
  after_reads_at

theorem G_at (c : Dev nD) (k : Fin 1024) :
    (V m c main_v19 : FVec Ideal S1x1024 .f32) (ix2 0 k) = (m (c.tc.loc main_arg1) : FVec Ideal S1024 .f32) (ix1 k) := by
  unfold V
  after_reads_at

theorem W_at (c : Dev nD) (k : Fin 1024) (j : Fin 2048) :
    (V m c main_v2 : FVec Ideal S1024x2048 .bf16) (ix2 k j) = (m (c.tc.loc main_arg2) : FVec Ideal S1024x3584 .f32) (ix2 k ⟨1024 + j, by omega⟩) := by
  unfold V
  after_reads_at

theorem N_at (c : Dev nD) (h : Fin 8) (e : Fin 128) :
    (V m c main_v20 : FVec Ideal S1x2048 .f32) (ix2 0 ⟨128 * h + e, by omega⟩) = (m (c.tc.loc main_arg4) : FVec Ideal S128 .f32) (ix1 e) := by
  unfold V
  after_reads_at
  rw [dif_pos (by omega)]
  after_reads_at

theorem idx : ∀ t : Fin cfg0.N, win0_0.index t = ![16 * t.val + 15, 0] ∧ win0_1.index t = ![0, 0] ∧ win0_2.index t = ![0, 0] ∧ win0_3.index t = ![0, 0]
    ∧ win0_4.index t = ![t.val, 0] := by decide +kernel

/-- What a point puts out. -/
theorem out_at (c : Dev nD) (t : Fin cfg0.N) (y : S512x2048.Idx) (b : Fin 4) (l : Fin 512) (hd : Fin 16) (e : Fin 128)
    (hb : b.val = t.val) (hl : l.val = (y 0).val) (hy : (y 1).val = 128 * hd.val + e.val) :
    out0_4 (F := Ideal) (iblk m c 0 t) (iblk m c 1 t) (iblk m c 2 t) (iblk m c 3 t) y
      = bandV (m (c.tc.loc main_arg0)) (m (c.tc.loc main_arg1)) (m (c.tc.loc main_arg2)) (m (c.tc.loc main_arg4)) b l hd e := by
  rw [out (iblk m c 0 t) (iblk m c 1 t) (iblk m c 2 t) (iblk m c 3 t) y l hd e hl hy]
  have hX : ∀ k : Fin 1024, (iblk m c 0 t : FVec Ideal S512x1024 .f32) (ix2 l k) = (m (c.tc.loc main_arg0) : FVec Ideal S4x8192x1024 .f32) (ix3 b ⟨7680 + l, by omega⟩ k) := by
    intro k
    rw [← X_at m c b ⟨7680 + l, by omega⟩ k]
    blk_point [iblk, idx t, hb]
  have hG : ∀ k : Fin 1024, (iblk m c 1 t : FVec Ideal S1x1024 .f32) (ix2 0 k) = (m (c.tc.loc main_arg1) : FVec Ideal S1024 .f32) (ix1 k) := by
    intro k
    rw [← G_at m c k]
    blk_point [iblk, idx t]
  have hW : ∀ (k : Fin 1024) (j : Fin 2048), (iblk m c 2 t : FVec Ideal S1024x2048 .bf16) (ix2 k j) = (m (c.tc.loc main_arg2) : FVec Ideal S1024x3584 .f32) (ix2 k ⟨1024 + j, by omega⟩) := by
    intro k j
    rw [← W_at m c k j]
    blk_point [iblk, idx t]
  unfold bandV pr
  simp only [hX, hG, hW]
  by_cases h8 : hd.val < 8
  · rw [if_pos h8, if_pos h8]
    refine congrArg (nrm _ e * ·) ?_
    rw [← N_at m c ⟨hd.val, h8⟩ e]
    blk_point [iblk, idx t]
  · rw [if_neg h8, if_neg h8]

/-- The output array after the run. -/
theorem arr4 (c : Dev nD) :
    (dats m 0 c).arrAt 4 cfg0.N = (bandArr (m (c.tc.loc main_arg0)) (m (c.tc.loc main_arg1)) (m (c.tc.loc main_arg2)) (m (c.tc.loc main_arg4)) : FVec Ideal S2048x2048 .f32) := by
  refine (dats m 0 c).arrAt_eq_of_covers 4 _ (by decide +kernel) fun t hf y => ?_
  have y0 : (y 0).val < 512 := (y 0).isLt
  have y1 : (y 1).val < 2048 := (y 1).isLt
  blk_simp
  rw [after0_4]
  unfold bandArr
  refine out_at m c t _ _ _ _ _ ?_ ?_ ?_
  all_goals blk_simp [idx t]
  all_goals (dsimp only; omega)

end Cert.BandKvIdeal.Val
-- ==== Proof.BandKvRefVal.lean ====
module

public import proofs.«01_k».proof.Proof.Gen.BandKvRefIdeal.Run
public import proofs.«01_k».proof.Proof.NpMath
public import Idealize.ShloMosaic.Lib.StableHlo.ReadAt

@[expose] public section

set_option maxRecDepth 16384

noncomputable section

namespace Cert.BandKvRefIdeal.Val

open Cert.NpMath Cert.BandKvRefIdeal Cert.BandKvRefIdeal.Gen Cert.BandKvRefIdeal.Value Idealize.ShloMosaic Idealize.ShloMosaic.TcCoe Idealize.SL.Sem

variable (m : (ℓ : Loc nD τ sig) → Buf (Elt Ideal) ℓ)

/-- The reference's keys at row `512 b + l`, head `h`, entry `e`. -/
theorem key_at (c : Dev nD) (b : Fin 4) (l : Fin 512) (h : Fin 8) (e : Fin 128) :
    (res_main_v37 m c : FVec Ideal S2048x2048 .f32) (ix2 ⟨512 * b + l, by omega⟩ ⟨128 * h + e, by omega⟩)
      = nrm (fun e => pr (m (c.tc.loc main_arg0)) (m (c.tc.loc main_arg1)) (m (c.tc.loc main_arg2)) b ⟨7680 + l, by omega⟩ ⟨1024 + (128 * h + e), by omega⟩) e * (m (c.tc.loc main_arg4) : FVec Ideal S128 .f32) (ix1 e) := by
  unfold res_main_v37
  pointwise [pr, nrm, acc, hN]
  rw [dif_pos (by omega)]
  simp only [Nat.mul_comm _ 128]

/-- The reference's values at row `512 b + l`, head `h`, entry `e`. -/
theorem val_at (c : Dev nD) (b : Fin 4) (l : Fin 512) (h : Fin 8) (e : Fin 128) :
    (res_main_v37 m c : FVec Ideal S2048x2048 .f32) (ix2 ⟨512 * b + l, by omega⟩ ⟨1024 + (128 * h + e), by omega⟩)
      = pr (m (c.tc.loc main_arg0)) (m (c.tc.loc main_arg1)) (m (c.tc.loc main_arg2)) b ⟨7680 + l, by omega⟩ ⟨2048 + (128 * h + e), by omega⟩ := by
  unfold res_main_v37
  pointwise [pr, nrm, acc, hN]
  simp only [Nat.mul_comm _ 128]

/-- The reference's result at row `512 b + l`, head `hd`, entry `e`. -/
theorem res_at (c : Dev nD) (b : Fin 4) (l : Fin 512) (hd : Fin 16) (e : Fin 128) :
    (res_main_v37 m c : FVec Ideal S2048x2048 .f32) (ix2 ⟨512 * b + l, by omega⟩ ⟨128 * hd + e, by omega⟩)
      = bandV (m (c.tc.loc main_arg0)) (m (c.tc.loc main_arg1)) (m (c.tc.loc main_arg2)) (m (c.tc.loc main_arg4)) b l hd e := by
  unfold bandV
  by_cases h8 : hd.val < 8
  · rw [if_pos h8]
    exact key_at m c b l ⟨hd.val, h8⟩ e
  · rw [if_neg h8]
    have e1 : (⟨128 * hd.val + e.val, by omega⟩ : Fin 2048) = ⟨1024 + (128 * (hd.val - 8) + e), by omega⟩ := Fin.ext (by dsimp only; omega)
    have e2 : (⟨1024 + (128 * hd.val + e.val), by omega⟩ : Fin 3584) = ⟨2048 + (128 * (hd.val - 8) + e), by omega⟩ := Fin.ext (by dsimp only; omega)
    rw [e1, e2]
    exact val_at m c b l ⟨hd.val - 8, by omega⟩ e

/-- The reference's result. -/
theorem res_eq (c : Dev nD) :
    res_main_v37 m c = (bandArr (m (c.tc.loc main_arg0)) (m (c.tc.loc main_arg1)) (m (c.tc.loc main_arg2)) (m (c.tc.loc main_arg4)) : FVec Ideal S2048x2048 .f32) := by
  funext y
  have h0 : (y 0).val < 2048 := (y 0).isLt
  have h1 : (y 1).val < 2048 := (y 1).isLt
  refine Eq.trans (congrArg _ ?_) (res_at m c ⟨(y 0).val / 512, by omega⟩ ⟨(y 0).val % 512, Nat.mod_lt _ (by decide)⟩ ⟨(y 1).val / 128, by omega⟩ ⟨(y 1).val % 128, Nat.mod_lt _ (by decide)⟩)
  refine funext fun a => ?_
  fin_cases a
  · exact Fin.ext (by show (y 0).val = 512 * ((y 0).val / 512) + (y 0).val % 512; omega)
  · exact Fin.ext (by show (y 1).val = 128 * ((y 1).val / 128) + (y 1).val % 128; omega)

end Cert.BandKvRefIdeal.Val
-- ==== Proof.MemKvVal.lean ====
module

public import proofs.«01_k».proof.Proof.Gen.MemKvIdeal.Value
public import proofs.«01_k».proof.Proof.NpMath

@[expose] public section

set_option maxRecDepth 16384

noncomputable section

namespace Cert.MemKvIdeal.Val

open Cert.NpMath Cert.MemKvIdeal Cert.MemKvIdeal.Gen Idealize.ShloMosaic Idealize.ShloMosaic.TcCoe Idealize.SL.Sem

set_option maxHeartbeats 4000000 in
/-- What the body writes at row `l`, head `hd` (0 to 3 the keys, 4 to 7 the values), entry `e`. -/
theorem out (x0 : FVec Ideal S256x1024 .f32) (x1 : FVec Ideal S1x1024 .f32) (x2 : FVec Ideal S1024x1024 .bf16) (x3 : FVec Ideal S1x1024 .f32)
    (y : S256x1024.Idx) (l : Fin 256) (hd : Fin 8) (e : Fin 128) (hl : l.val = (y 0).val) (hy : (y 1).val = 128 * hd.val + e.val) :
    out0_4 (F := Ideal) x0 x1 x2 x3 y =
      if hd.val < 4 then nrm (fun e => acc (fun k => x0 (ix2 l k)) (fun k => x1 (ix2 0 k)) fun k => x2 (ix2 k ⟨128 * hd.val + e.val, by omega⟩)) e * x3 (ix2 0 ⟨128 * hd.val + e.val, by omega⟩)
      else acc (fun k => x0 (ix2 l k)) (fun k => x1 (ix2 0 k)) fun k => x2 (ix2 k ⟨128 * hd.val + e.val, by omega⟩) := by
  unfold_out out0_4
  canon_tiles y h
  all_goals
    obtain rfl : l = y 0 := Fin.ext (hl.trans h0)
    obtain rfl : e = y 1 := Fin.ext (by omega)
    first
    | have hb := Nat.add_right_cancel (h1.symm.trans hy)
    | have hb := Nat.add_right_cancel ((Nat.zero_add _).trans (h1.symm.trans hy))
    open_payloads
    pointwise [nrm, acc, hN]
    simp (disch := omega) only [if_pos, if_neg, ← Nat.add_assoc, Nat.reduceAdd, ← hb, Nat.zero_add]
    try rfl
end Cert.MemKvIdeal.Val
-- ==== Proof.MemKvVal2.lean ====
module

public import proofs.«01_k».proof.Proof.MemKvVal
public import Idealize.ShloMosaic.Lib.StableHlo.ReadAt

@[expose] public section

set_option maxRecDepth 16384

noncomputable section

namespace Cert.MemKvIdeal.Val

open Cert.NpMath Cert.MemKvIdeal Cert.MemKvIdeal.Gen Idealize.ShloMosaic Idealize.ShloMosaic.TcCoe Idealize.SL.Sem

variable (m : (ℓ : Loc nD τ sig) → Buf (Elt Ideal) ℓ)

theorem X_at (c : Dev nD) (b : Fin 4) (l : Fin 256) (k : Fin 1024) :
    (V m c main_v5 : FVec Ideal S1024x1024 .f32) (ix2 ⟨256 * b + l, by omega⟩ k) = (m (c.tc.loc main_arg0) : FVec Ideal S4x256x1024 .f32) (ix3 b l k) := by
  unfold V
  after_reads_at

theorem G_at (c : Dev nD) (k : Fin 1024) :
    (V m c main_v7 : FVec Ideal S1x1024 .f32) (ix2 0 k) = (m (c.tc.loc main_arg1) : FVec Ideal S1024 .f32) (ix1 k) := by
  unfold V
  after_reads_at

theorem W_at (c : Dev nD) (k j : Fin 1024) :
    (V m c main_v6 : FVec Ideal S1024x1024 .bf16) (ix2 k j) = (m (c.tc.loc main_arg2) : FVec Ideal S1024x1024 .f32) (ix2 k j) := by
  unfold V
  after_reads_at

theorem N_at (c : Dev nD) (h : Fin 4) (e : Fin 128) :
    (V m c main_v8 : FVec Ideal S1x1024 .f32) (ix2 0 ⟨128 * h + e, by omega⟩) = (m (c.tc.loc main_arg3) : FVec Ideal S128 .f32) (ix1 e) := by
  unfold V
  after_reads_at
  rw [dif_pos (by omega)]
  after_reads_at

theorem idx : ∀ t : Fin cfg0.N, win0_0.index t = ![t.val, 0] ∧ win0_1.index t = ![0, 0] ∧ win0_2.index t = ![0, 0] ∧ win0_3.index t = ![0, 0]
    ∧ win0_4.index t = ![t.val, 0] := by decide +kernel

/-- What a point puts out. -/
theorem out_at (c : Dev nD) (t : Fin cfg0.N) (y : S256x1024.Idx) (b : Fin 4) (l : Fin 256) (hd : Fin 8) (e : Fin 128)
    (hb : b.val = t.val) (hl : l.val = (y 0).val) (hy : (y 1).val = 128 * hd.val + e.val) :
    out0_4 (F := Ideal) (iblk m c 0 t) (iblk m c 1 t) (iblk m c 2 t) (iblk m c 3 t) y
      = memV (m (c.tc.loc main_arg0)) (m (c.tc.loc main_arg1)) (m (c.tc.loc main_arg2)) (m (c.tc.loc main_arg3)) b l hd e := by
  rw [out (iblk m c 0 t) (iblk m c 1 t) (iblk m c 2 t) (iblk m c 3 t) y l hd e hl hy]
  have hX : ∀ k : Fin 1024, (iblk m c 0 t : FVec Ideal S256x1024 .f32) (ix2 l k) = (m (c.tc.loc main_arg0) : FVec Ideal S4x256x1024 .f32) (ix3 b l k) := by
    intro k
    rw [← X_at m c b l k]
    blk_point [iblk, idx t, hb]
  have hG : ∀ k : Fin 1024, (iblk m c 1 t : FVec Ideal S1x1024 .f32) (ix2 0 k) = (m (c.tc.loc main_arg1) : FVec Ideal S1024 .f32) (ix1 k) := by
    intro k
    rw [← G_at m c k]
    blk_point [iblk, idx t]
  have hW : ∀ k j : Fin 1024, (iblk m c 2 t : FVec Ideal S1024x1024 .bf16) (ix2 k j) = (m (c.tc.loc main_arg2) : FVec Ideal S1024x1024 .f32) (ix2 k j) := by
    intro k j
    rw [← W_at m c k j]
    blk_point [iblk, idx t]
  unfold memV pr
  simp only [hX, hG, hW]
  by_cases h4 : hd.val < 4
  · rw [if_pos h4, if_pos h4]
    refine congrArg (nrm _ e * ·) ?_
    rw [← N_at m c ⟨hd.val, h4⟩ e]
    blk_point [iblk, idx t]
  · rw [if_neg h4, if_neg h4]

/-- The output array after the run. -/
theorem arr4 (c : Dev nD) :
    (dats m 0 c).arrAt 4 cfg0.N = (memArr (m (c.tc.loc main_arg0)) (m (c.tc.loc main_arg1)) (m (c.tc.loc main_arg2)) (m (c.tc.loc main_arg3)) : FVec Ideal S1024x1024 .f32) := by
  refine (dats m 0 c).arrAt_eq_of_covers 4 _ (by decide +kernel) fun t hf y => ?_
  have y0 : (y 0).val < 256 := (y 0).isLt
  have y1 : (y 1).val < 1024 := (y 1).isLt
  blk_simp
  rw [after0_4]
  unfold memArr
  refine out_at m c t _ _ _ _ _ ?_ ?_ ?_
  all_goals blk_simp [idx t]
  all_goals (dsimp only; omega)

end Cert.MemKvIdeal.Val
-- ==== Proof.MemKvRefVal.lean ====
module

public import proofs.«01_k».proof.Proof.Gen.MemKvRefIdeal.Run
public import proofs.«01_k».proof.Proof.NpMath
public import Idealize.ShloMosaic.Lib.StableHlo.ReadAt

@[expose] public section

set_option maxRecDepth 16384

noncomputable section

namespace Cert.MemKvRefIdeal.Val

open Cert.NpMath Cert.MemKvRefIdeal Cert.MemKvRefIdeal.Gen Cert.MemKvRefIdeal.Value Idealize.ShloMosaic Idealize.ShloMosaic.TcCoe Idealize.SL.Sem

variable (m : (ℓ : Loc nD τ sig) → Buf (Elt Ideal) ℓ)

/-- The reference's keys at row `256 b + l`, head `h`, entry `e`. -/
theorem key_at (c : Dev nD) (b : Fin 4) (l : Fin 256) (h : Fin 4) (e : Fin 128) :
    (res_main_v32 m c : FVec Ideal S1024x1024 .f32) (ix2 ⟨256 * b + l, by omega⟩ ⟨128 * h + e, by omega⟩)
      = nrm (fun e => pr (m (c.tc.loc main_arg0)) (m (c.tc.loc main_arg1)) (m (c.tc.loc main_arg2)) b l ⟨128 * h + e, by omega⟩) e * (m (c.tc.loc main_arg3) : FVec Ideal S128 .f32) (ix1 e) := by
  unfold res_main_v32
  pointwise [pr, nrm, acc, hN]
  rw [dif_pos (by omega)]
  simp only [Nat.mul_comm _ 128]

/-- The reference's values at row `256 b + l`, head `h`, entry `e`. -/
theorem val_at (c : Dev nD) (b : Fin 4) (l : Fin 256) (h : Fin 4) (e : Fin 128) :
    (res_main_v32 m c : FVec Ideal S1024x1024 .f32) (ix2 ⟨256 * b + l, by omega⟩ ⟨512 + (128 * h + e), by omega⟩)
      = pr (m (c.tc.loc main_arg0)) (m (c.tc.loc main_arg1)) (m (c.tc.loc main_arg2)) b l ⟨512 + (128 * h + e), by omega⟩ := by
  unfold res_main_v32
  pointwise [pr, nrm, acc, hN]
  try rfl

/-- The reference's result at row `256 b + l`, head `hd`, entry `e`. -/
theorem res_at (c : Dev nD) (b : Fin 4) (l : Fin 256) (hd : Fin 8) (e : Fin 128) :
    (res_main_v32 m c : FVec Ideal S1024x1024 .f32) (ix2 ⟨256 * b + l, by omega⟩ ⟨128 * hd + e, by omega⟩)
      = memV (m (c.tc.loc main_arg0)) (m (c.tc.loc main_arg1)) (m (c.tc.loc main_arg2)) (m (c.tc.loc main_arg3)) b l hd e := by
  unfold memV
  by_cases h4 : hd.val < 4
  · rw [if_pos h4]
    exact key_at m c b l ⟨hd.val, h4⟩ e
  · rw [if_neg h4]
    have e1 : (⟨128 * hd.val + e.val, by omega⟩ : Fin 1024) = ⟨512 + (128 * (hd.val - 4) + e), by omega⟩ := Fin.ext (by dsimp only; omega)
    rw [e1]
    exact val_at m c b l ⟨hd.val - 4, by omega⟩ e

/-- The reference's result. -/
theorem res_eq (c : Dev nD) :
    res_main_v32 m c = (memArr (m (c.tc.loc main_arg0)) (m (c.tc.loc main_arg1)) (m (c.tc.loc main_arg2)) (m (c.tc.loc main_arg3)) : FVec Ideal S1024x1024 .f32) := by
  funext y
  have h0 : (y 0).val < 1024 := (y 0).isLt
  have h1 : (y 1).val < 1024 := (y 1).isLt
  refine Eq.trans (congrArg _ ?_) (res_at m c ⟨(y 0).val / 256, by omega⟩ ⟨(y 0).val % 256, Nat.mod_lt _ (by decide)⟩ ⟨(y 1).val / 128, by omega⟩ ⟨(y 1).val % 128, Nat.mod_lt _ (by decide)⟩)
  refine funext fun a => ?_
  fin_cases a
  · exact Fin.ext (by show (y 0).val = 256 * ((y 0).val / 256) + (y 0).val % 256; omega)
  · exact Fin.ext (by show (y 1).val = 128 * ((y 1).val / 128) + (y 1).val % 128; omega)

end Cert.MemKvRefIdeal.Val
-- ==== Proof.Assemble2.lean ====
module

public import proofs.«01_k».proof.Defs
public import proofs.«01_k».proof.Proof.InRetVal2
public import proofs.«01_k».proof.Proof.InRetRefVal
public import proofs.«01_k».proof.Proof.InAttVal2
public import proofs.«01_k».proof.Proof.InAttRefVal
public import proofs.«01_k».proof.Proof.BandKvVal2
public import proofs.«01_k».proof.Proof.BandKvRefVal
public import proofs.«01_k».proof.Proof.MemKvVal2
public import proofs.«01_k».proof.Proof.MemKvRefVal
public import Idealize.ShloMosaic.Lib.Quiescent

@[expose] public section

noncomputable section

namespace Cert.InRet

open Cert.NpMath Idealize.ShloMosaic Idealize.ShloMosaic.TcCoe Idealize.SL.Sem

theorem ref_frame : Cert.quiescent_InRetRefIdeal (hInRetRefIdeal := Cert.InRetRefIdeal.Gen.facts) := fun m g _ =>
  (θ_run _ _ _).mono (fun r h => ⟨fun c => (h c).2, sem_eq_zero_of_no_sems (by decide) r.2⟩) (Cert.InRetRefIdeal.Value.run (F := Ideal) m g)

/-- The two programs compute the same array. -/
theorem values : Cert.algebraic_InRetIdeal_InRetRefIdeal (hInRetIdeal := Cert.InRetIdeal.Gen.facts) (hInRetRefIdeal := Cert.InRetRefIdeal.Gen.facts) := by
  intro m g m' g' _ hargs
  refine ⟨fun c => retArr (m (c.tc.loc Cert.InRetIdeal.main_arg0)) (m (c.tc.loc Cert.InRetIdeal.main_arg1)) (m (c.tc.loc Cert.InRetIdeal.main_arg2)) (m (c.tc.loc Cert.InRetIdeal.main_arg3)), ?_, ?_⟩
  · exact (θ_run _ _ _).mono (fun r h c => ⟨(h c).1.trans (Cert.InRetIdeal.Val.arr6 m c), (h c).2⟩) (Cert.InRetIdeal.Value.run_blocks (F := Ideal) m g)
  · refine (θ_run _ _ _).mono (fun r h c => ⟨(h c).1.trans ((Cert.InRetRefIdeal.Val.res_eq m' c).trans ?_), (h c).2⟩) (Cert.InRetRefIdeal.Value.run (F := Ideal) m' g')
    obtain ⟨h0, h1, h2, h3⟩ := hargs c
    rw [h0, h1, h2, h3]

end Cert.InRet

namespace Cert.InAtt

open Cert.NpMath Idealize.ShloMosaic Idealize.ShloMosaic.TcCoe Idealize.SL.Sem

theorem ref_frame : Cert.quiescent_InAttRefIdeal (hInAttRefIdeal := Cert.InAttRefIdeal.Gen.facts) := fun m g _ =>
  (θ_run _ _ _).mono (fun r h => ⟨fun c => (h c).2, sem_eq_zero_of_no_sems (by decide) r.2⟩) (Cert.InAttRefIdeal.Value.run (F := Ideal) m g)

/-- The two programs compute the same array. -/
theorem values : Cert.algebraic_InAttIdeal_InAttRefIdeal (hInAttIdeal := Cert.InAttIdeal.Gen.facts) (hInAttRefIdeal := Cert.InAttRefIdeal.Gen.facts) := by
  intro m g m' g' _ hargs
  refine ⟨fun c => attArr (m (c.tc.loc Cert.InAttIdeal.main_arg0)) (m (c.tc.loc Cert.InAttIdeal.main_arg1)) (m (c.tc.loc Cert.InAttIdeal.main_arg2)) (m (c.tc.loc Cert.InAttIdeal.main_arg3)) (m (c.tc.loc Cert.InAttIdeal.main_arg4)) (m (c.tc.loc Cert.InAttIdeal.main_arg5)), ?_, ?_⟩
  · exact (θ_run _ _ _).mono (fun r h c => ⟨(h c).1.trans (Cert.InAttIdeal.Val.arr4 m c), (h c).2⟩) (Cert.InAttIdeal.Value.run_blocks (F := Ideal) m g)
  · refine (θ_run _ _ _).mono (fun r h c => ⟨(h c).1.trans ((Cert.InAttRefIdeal.Val.res_eq m' c).trans ?_), (h c).2⟩) (Cert.InAttRefIdeal.Value.run (F := Ideal) m' g')
    obtain ⟨h0, h1, h2, h3, h4, h5⟩ := hargs c
    rw [h0, h1, h2, h3, h4, h5]

end Cert.InAtt

namespace Cert.BandKv

open Cert.NpMath Idealize.ShloMosaic Idealize.ShloMosaic.TcCoe Idealize.SL.Sem

theorem ref_frame : Cert.quiescent_BandKvRefIdeal (hBandKvRefIdeal := Cert.BandKvRefIdeal.Gen.facts) := fun m g _ =>
  (θ_run _ _ _).mono (fun r h => ⟨fun c => (h c).2, sem_eq_zero_of_no_sems (by decide) r.2⟩) (Cert.BandKvRefIdeal.Value.run (F := Ideal) m g)

/-- The two programs compute the same array. -/
theorem values : Cert.algebraic_BandKvIdeal_BandKvRefIdeal (hBandKvIdeal := Cert.BandKvIdeal.Gen.facts) (hBandKvRefIdeal := Cert.BandKvRefIdeal.Gen.facts) := by
  intro m g m' g' _ hargs
  refine ⟨fun c => bandArr (m (c.tc.loc Cert.BandKvIdeal.main_arg0)) (m (c.tc.loc Cert.BandKvIdeal.main_arg1)) (m (c.tc.loc Cert.BandKvIdeal.main_arg2)) (m (c.tc.loc Cert.BandKvIdeal.main_arg4)), ?_, ?_⟩
  · exact (θ_run _ _ _).mono (fun r h c => ⟨(h c).1.trans (Cert.BandKvIdeal.Val.arr4 m c), (h c).2⟩) (Cert.BandKvIdeal.Value.run_blocks (F := Ideal) m g)
  · refine (θ_run _ _ _).mono (fun r h c => ⟨(h c).1.trans ((Cert.BandKvRefIdeal.Val.res_eq m' c).trans ?_), (h c).2⟩) (Cert.BandKvRefIdeal.Value.run (F := Ideal) m' g')
    obtain ⟨h0, h1, h2, h3, h4, h5⟩ := hargs c
    rw [h0, h1, h2, h4]

end Cert.BandKv

namespace Cert.MemKv

open Cert.NpMath Idealize.ShloMosaic Idealize.ShloMosaic.TcCoe Idealize.SL.Sem

theorem ref_frame : Cert.quiescent_MemKvRefIdeal (hMemKvRefIdeal := Cert.MemKvRefIdeal.Gen.facts) := fun m g _ =>
  (θ_run _ _ _).mono (fun r h => ⟨fun c => (h c).2, sem_eq_zero_of_no_sems (by decide) r.2⟩) (Cert.MemKvRefIdeal.Value.run (F := Ideal) m g)

/-- The two programs compute the same array. -/
theorem values : Cert.algebraic_MemKvIdeal_MemKvRefIdeal (hMemKvIdeal := Cert.MemKvIdeal.Gen.facts) (hMemKvRefIdeal := Cert.MemKvRefIdeal.Gen.facts) := by
  intro m g m' g' _ hargs
  refine ⟨fun c => memArr (m (c.tc.loc Cert.MemKvIdeal.main_arg0)) (m (c.tc.loc Cert.MemKvIdeal.main_arg1)) (m (c.tc.loc Cert.MemKvIdeal.main_arg2)) (m (c.tc.loc Cert.MemKvIdeal.main_arg3)), ?_, ?_⟩
  · exact (θ_run _ _ _).mono (fun r h c => ⟨(h c).1.trans (Cert.MemKvIdeal.Val.arr4 m c), (h c).2⟩) (Cert.MemKvIdeal.Value.run_blocks (F := Ideal) m g)
  · refine (θ_run _ _ _).mono (fun r h c => ⟨(h c).1.trans ((Cert.MemKvRefIdeal.Val.res_eq m' c).trans ?_), (h c).2⟩) (Cert.MemKvRefIdeal.Value.run (F := Ideal) m' g')
    obtain ⟨h0, h1, h2, h3⟩ := hargs c
    rw [h0, h1, h2, h3]

end Cert.MemKv

end
-- ==== Proof.ExpRun.lean ====
/- The experts' call, walked once over any float values: the contents the call is entered with (after the host lines
   that work out the look-ups), the look-up tables, each window's block, and the kernel body run in its two cases —
   a block of rows that belongs to an expert, and a block behind the last used one. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pointwise
public import Idealize.ShloMosaic.Lib.Pipeline.ValueKit

@[expose] public section

set_option maxRecDepth 16384

noncomputable section

namespace Cert.ExpertsIdeal.Walk

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

/-- The assertions the walk is stated in. -/
abbrev Asrt (F : FTy → Type) [FloatOps F] : Type _ := sProp (MT nD τ sig Unit (Elt F) ℕ (UR sig nD τ) ℕ)

variable (m : (ℓ : Loc nD τ sig) → Buf (Elt F) ℓ) (ρ : Dev nD → PrngReg)

/-! ## The host lines before the call -/

/-- The host lines, stretch by stretch: what each expert's rows are padded to, their running sum, the expert of each
    block, the number of used blocks. -/
abbrev stretches : List (List (HloOp τ sig (Elt F))) :=
  [hostOps0, hostOps0_1, hostOps0_2, hostOps0_3, hostOps0_4, hostOps0_5]

/-- A buffer's contents when the call is entered. -/
abbrev entry (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub⟩

theorem stretches_fresh : (stretches (F := F)).Forall fun ops => ops.Forall fun op => op.fresh = ∅ := by
  simp only [List.Forall]; repeat' constructor

set_option maxHeartbeats 1600000 in
theorem to_call (𝒱₀ : Variants) : Pipeline.HMainP (Ix := Unit) (Name := ℕ) (U := UR sig nD τ) (Lvl := ℕ) pcfgs 0 defs₀ 𝒱₀ m
    (main (F := F)) (entry m) :=
  Pipeline.hmainP_prefixes pcfgs 0 defs₀ 𝒱₀ m main stretches stretches_sub stretches_fresh main_chain

set_option maxHeartbeats 4000000 in
/-- The five arguments are written by no host line. -/
theorem entry_arg {b : Ref sig .tc} (hb : b ∈ [main_arg0, main_arg1, main_arg2, main_arg3, main_arg4]) (c : Dev nD) :
    entry m c b = m ((c : Thread nD τ).loc b) := by
  refine StableHlo.after_of_forall_not_mem (b := Proc.devRef .tc b) _ _ (List.forall_iff_forall_mem.mp ?_)
  simp only [List.mem_cons, List.not_mem_nil, or_false] at hb
  simp only [stretches, hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes,
      StableHlo.ternary_writes, StableHlo.TRef.nullary, StableHlo.TRef.unary, StableHlo.TRef.binary, StableHlo.TRef.ternary, Finset.mem_singleton]
  rcases hb with rfl | rfl | rfl | rfl | rfl <;>
  · repeat' apply And.intro
    all_goals exact StableHlo.devRef_ne_of_ne (by decide)

/-! ## The look-up tables and the call at them -/

/-- The two tables: the expert of each block, and the number of used blocks. -/
def tables : pre0.Contents (Elt F) := fun j => entry m (0 : Dev nD) (pre0.ref j)

theorem entry_tables (c : Dev nD) (j : Fin 2) : entry m c (pre0.ref j) = tables m j := by
  obtain rfl : c = 0 := Subsingleton.elim _ _; rfl

/-- Every block the tables name lies inside its array. -/
abbrev Fits : Prop := ok0 (F := F) (tables m)
/-- The tables as contents the call accepts. -/
abbrev accepted (h : Fits m) : (pcfg0 (F := F)).Adm := ⟨tables m, h⟩
/-- The call at these tables. -/
abbrev theCall (h : Fits m) : Pipeline.Cfg sig Λ₀ := cfg0 (accepted m h)

abbrev expertTab : Memref sig .tc .smem S162 .i32 := Memref.whole main_v19
abbrev expertTab_whole : expertTab.IsWhole := Memref.isWhole_whole _
abbrev usedTab : Memref sig .tc .smem S1 .i32 := Memref.whole main_v21
abbrev usedTab_whole : usedTab.IsWhole := Memref.isWhole_whole _

abbrev TabBuf (F : FTy → Type) [FloatOps F] (c : Dev nD) {S : Shape} {e : EltTy} (M : Memref sig .tc .smem S e) : Type := Buf (Elt F) (M.view.loc (c : Thread nD τ))
/-- Half of a table, for reading. -/
abbrev halfTab (c : Dev nD) {S : Shape} {e : EltTy} (M : Memref sig .tc .smem S e) (f : TabBuf F c M) : Asrt F :=
  M.view.loc (c : Thread nD τ) ↦{fullShare.right} f

theorem halves_eq (c : Dev nD) :
    (Pipeline.ΦT pre0 (tables m) c : Asrt F) = iprop(halfTab c expertTab (tables m 0) ∗ halfTab c usedTab (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, of the array the call is entered with. -/
def blockIn (h : Fits m) (c : Dev nD) (w : Fin (theCall m h).W) (t : Fin (theCall m h).N) :
    (((theCall m h).win w).xblock ((theCall m h).grid.coords t)).Idx → Elt F ((theCall m h).win w).elt :=
  (((theCall m h).win w).blk t).view.read (Elt F) (entry m c (Pipeline.arrRef spec0 w))

abbrev at0 (h : Fits m) (t : Fin (theCall m h).N) : Memref sig .tc .vmem S4096x128 .f32 := spec0_0.stage ((theCall m h).slots t 0)
abbrev at1 (h : Fits m) (t : Fin (theCall m h).N) : Memref sig .tc .vmem S1x1x1024x512 .f32 := spec0_1.stage ((theCall m h).slots t 1)
abbrev at2 (h : Fits m) (t : Fin (theCall m h).N) : Memref sig .tc .vmem S1x1x1024x512 .f32 := spec0_2.stage ((theCall m h).slots t 2)
abbrev at3 (h : Fits m) (t : Fin (theCall m h).N) : Memref sig .tc .vmem S1x1x512x1024 .f32 := spec0_3.stage ((theCall m h).slots t 3)
abbrev at4 (h : Fits m) (t : Fin (theCall m h).N) : Memref sig .tc .vmem S4096x128 .f32 := spec0_4.stage ((theCall m h).slots t 4)
abbrev whole0 (h : Fits m) (t : Fin (theCall m h).N) : (at0 m h t).IsWhole := hstage0_0 (((theCall m h).slots t 0).cast nbuf0_0)
abbrev whole1 (h : Fits m) (t : Fin (theCall m h).N) : (at1 m h t).IsWhole := hstage0_1 (((theCall m h).slots t 1).cast nbuf0_1)
abbrev whole2 (h : Fits m) (t : Fin (theCall m h).N) : (at2 m h t).IsWhole := hstage0_2 (((theCall m h).slots t 2).cast nbuf0_2)
abbrev whole3 (h : Fits m) (t : Fin (theCall m h).N) : (at3 m h t).IsWhole := hstage0_3 (((theCall m h).slots t 3).cast nbuf0_3)
abbrev whole4 (h : Fits m) (t : Fin (theCall m h).N) : (at4 m h t).IsWhole := hstage0_4 (((theCall m h).slots t 4).cast nbuf0_4)

/-! ## The body, in its two cases -/

/-- The number of used blocks, as the body reads it. -/
abbrev usedWord (c : Dev nD) (u : TabBuf F c usedTab) : BitVec 32 :=
  usedTab.view.readAt (Elt F) (Rect.unit (s := S1) ![0] S1.size inb_S1_S1_0).toLoadRect u (fun _ => ⟨0, by decide +revert⟩)

set_option maxHeartbeats 4000000 in
/-- A block behind the last used one is stored as zeros. -/
theorem body_zero (c : Dev nD) (i : grid0.Coords)
    (a3 : Memref sig .tc .vmem S4096x128 .f32) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S4096x128 .f32) (h7 : a7.IsWhole)
    (te : TabBuf F c expertTab) (tu : TabBuf F c usedTab)
    (hz : ¬ k0_cond1 i (usedWord c tu) = 1#1) (hz' : k0_cond2 i (usedWord c tu) = 1#1) (E : Set ℕ) (K : PUnit → Asrt F) :
    iprop((∃ d, owns (c : Thread nD τ) a7 fullShare d) ∗ halfTab c expertTab te ∗ halfTab c usedTab tu
        ∗ (iprop((∃ f, a7.view.loc (c : Thread nD τ) ↦[a7.view.set]{fullShare} a7.view.writes (Elt F) f [⟨Rect.unit ![0, 0] S4096x128.size inb_S4096x128_S4096x128_0_0, k0_pay10 (F := F)⟩]) ∗ halfTab c expertTab te ∗ halfTab c usedTab tu) -∗ K ⟨⟩))
      ⊢ wp frame (wpE (defs₀ (F := F)) Variants.none c none) E
          (cc0_moe_experts i expertTab expertTab_whole usedTab usedTab_whole a3 h3 a4 h4 a5 h5 a6 h6 a7 h7) K := by
  simp only [cc0_moe_experts_eq_skeleton]; unfold cc0_moe_experts_skel
  unfold owns
  iintro ⟨⟨%d, %f, -, H⟩, HE, HU, Hk⟩
  sl_exec (disch := first | sl_exact hz | sl_exact hz')
  sl_step
  iapply Hk
  isplitl [H]; · iexists _; iexact H
  isplitl [HE]; · iexact HE
  iexact HU

set_option maxHeartbeats 4000000 in
/-- A block of an expert's rows: the stores it leaves, as pieces (the last first), and the run to them. -/
noncomputable def body_live (c : Dev nD) (i : grid0.Coords)
    (a3 : Memref sig .tc .vmem S4096x128 .f32) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S4096x128 .f32) (h7 : a7.IsWhole)
    (x0 : Vec F S4096x128 .f32) (x1 x2 : Vec F S1x1x1024x512 .f32) (x3 : Vec F S1x1x512x1024 .f32)
    (te : TabBuf F c expertTab) (tu : TabBuf F c usedTab)
    (hz : k0_cond1 i (usedWord c tu) = 1#1) (hz' : ¬ k0_cond2 i (usedWord c tu) = 1#1) :
    { L : List (View.Piece (Elt F) S4096x128 .f32) //
      ∀ (E : Set ℕ) (K : PUnit → Asrt F),
        iprop(owns (c : Thread nD τ) a3 fullShare x0 ∗ owns (c : Thread nD τ) a4 fullShare x1 ∗ owns (c : Thread nD τ) a5 fullShare x2
            ∗ owns (c : Thread nD τ) a6 fullShare x3 ∗ (∃ d, owns (c : Thread nD τ) a7 fullShare d) ∗ halfTab c expertTab te ∗ halfTab c usedTab tu
            ∗ (iprop(owns (c : Thread nD τ) a3 fullShare x0 ∗ owns (c : Thread nD τ) a4 fullShare x1 ∗ owns (c : Thread nD τ) a5 fullShare x2
                ∗ owns (c : Thread nD τ) a6 fullShare x3
                ∗ (∃ f, a7.view.loc (c : Thread nD τ) ↦[a7.view.set]{fullShare} a7.view.writes (Elt F) f L)
                ∗ halfTab c expertTab te ∗ halfTab c usedTab tu) -∗ K ⟨⟩))
          ⊢ wp frame (wpE (defs₀ (F := F)) Variants.none c none) E
              (cc0_moe_experts i expertTab expertTab_whole usedTab usedTab_whole a3 h3 a4 h4 a5 h5 a6 h6 a7 h7) K } := by
  refine ⟨?_, fun E K => ?run⟩
  case run =>
    simp only [cc0_moe_experts_eq_skeleton]; unfold cc0_moe_experts_skel
    simp only [k0_part1_eq_skeleton]
    unfold owns
    iintro ⟨⟨%f0, %e0, H0⟩, ⟨%f1, %e1, H1⟩, ⟨%f2, %e2, H2⟩, ⟨%f3, %e3, H3⟩, ⟨%d, %f, -, H⟩, HE, HU, Hk⟩
    obtain rfl := h3.eq_unread e0; obtain rfl := h4.eq_unread e1; obtain rfl := h5.eq_unread e2; obtain rfl := h6.eq_unread e3
    sl_exec (disch := first | sl_exact hz | sl_exact hz')
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H]; · iexists _; iexact H
    isplitl [HE]; · iexact HE
    iexact HU

/-! ## What a block of an expert's rows is stored as -/

/-- The middle activations of a block: the rows read as eight lane groups, both up-projections, the gate. -/
def hidden (x0 : Vec F S4096x128 .f32) (x1 x2 : Vec F S1x1x1024x512 .f32) : FVec F S512x512 .bf16 :=
  k0_pay11
    (fun j => x0 ((⟨![0, 0], S512x128.size, ![8, 1], inb_S4096x128_S512x128_0_0_s_8_1⟩ : LoadRect S4096x128).idx j))
    (fun j => x0 ((⟨![1, 0], S512x128.size, ![8, 1], inb_S4096x128_S512x128_1_0_s_8_1⟩ : LoadRect S4096x128).idx j))
    (fun j => x0 ((⟨![2, 0], S512x128.size, ![8, 1], inb_S4096x128_S512x128_2_0_s_8_1⟩ : LoadRect S4096x128).idx j))
    (fun j => x0 ((⟨![3, 0], S512x128.size, ![8, 1], inb_S4096x128_S512x128_3_0_s_8_1⟩ : LoadRect S4096x128).idx j))
    (fun j => x0 ((⟨![4, 0], S512x128.size, ![8, 1], inb_S4096x128_S512x128_4_0_s_8_1⟩ : LoadRect S4096x128).idx j))
    (fun j => x0 ((⟨![5, 0], S512x128.size, ![8, 1], inb_S4096x128_S512x128_5_0_s_8_1⟩ : LoadRect S4096x128).idx j))
    (fun j => x0 ((⟨![6, 0], S512x128.size, ![8, 1], inb_S4096x128_S512x128_6_0_s_8_1⟩ : LoadRect S4096x128).idx j))
    (fun j => x0 ((⟨![7, 0], S512x128.size, ![8, 1], inb_S4096x128_S512x128_7_0_s_8_1⟩ : LoadRect S4096x128).idx j))
    (fun j => x1 ((Rect.unit (s := S1x1x1024x512) ![0, 0, 0, 0] S1x1x1024x512.size inb_S1x1x1024x512_S1x1x1024x512_0_0_0_0).toLoadRect.idx j))
    (fun j => x2 ((Rect.unit (s := S1x1x1024x512) ![0, 0, 0, 0] S1x1x1024x512.size inb_S1x1x1024x512_S1x1x1024x512_0_0_0_0).toLoadRect.idx j))

/-- The down-projection as read. -/
def whole3of (x3 : Vec F S1x1x512x1024 .f32) : Vec F S1x1x512x1024 .f32 :=
  fun j => x3 ((Rect.unit (s := S1x1x512x1024) ![0, 0, 0, 0] S1x1x512x1024.size inb_S1x1x512x1024_S1x1x512x1024_0_0_0_0).toLoadRect.idx j)

/-- Row `8 r + g`, lane `l` of the stored block is row `r`, column `128 g + l` of the down-projected rows. -/
def blockOut (x0 : Vec F S4096x128 .f32) (x1 x2 : Vec F S1x1x1024x512 .f32) (x3 : Vec F S1x1x512x1024 .f32) : Vec F S4096x128 .f32 :=
  fun y => k0_pay1 (hidden x0 x1 x2) (whole3of x3)
    (ix2 ⟨(y 0).val / 8, by have := (y 0).isLt; change (y 0).val < 4096 at this; change _ < 512; omega⟩
      ⟨128 * ((y 0).val % 8) + (y 1).val, by have := (y 1).isLt; change (y 1).val < 128 at this; change _ < 1024; omega⟩)

/-- The eight stores of a block, the last first. -/
abbrev pieces (v : FVec F S512x512 .bf16) (w : Vec F S1x1x512x1024 .f32) : List (View.Piece (Elt F) S4096x128 .f32) :=
     [⟨⟨⟨![7, 0], S512x128.size, ![8, 1], inb_S4096x128_S512x128_7_0_s_8_1⟩, spos_8_1⟩, k0_pay9 v w⟩,
      ⟨⟨⟨![6, 0], S512x128.size, ![8, 1], inb_S4096x128_S512x128_6_0_s_8_1⟩, spos_8_1⟩, k0_pay8 v w⟩,
      ⟨⟨⟨![5, 0], S512x128.size, ![8, 1], inb_S4096x128_S512x128_5_0_s_8_1⟩, spos_8_1⟩, k0_pay7 v w⟩,
      ⟨⟨⟨![4, 0], S512x128.size, ![8, 1], inb_S4096x128_S512x128_4_0_s_8_1⟩, spos_8_1⟩, k0_pay6 v w⟩,
      ⟨⟨⟨![3, 0], S512x128.size, ![8, 1], inb_S4096x128_S512x128_3_0_s_8_1⟩, spos_8_1⟩, k0_pay5 v w⟩,
      ⟨⟨⟨![2, 0], S512x128.size, ![8, 1], inb_S4096x128_S512x128_2_0_s_8_1⟩, spos_8_1⟩, k0_pay4 v w⟩,
      ⟨⟨⟨![1, 0], S512x128.size, ![8, 1], inb_S4096x128_S512x128_1_0_s_8_1⟩, spos_8_1⟩, k0_pay3 v w⟩,
      ⟨⟨⟨![0, 0], S512x128.size, ![8, 1], inb_S4096x128_S512x128_0_0_s_8_1⟩, spos_8_1⟩, k0_pay2 v w⟩]

theorem live_pieces (c : Dev nD) (i : grid0.Coords)
    (a3 : Memref sig .tc .vmem S4096x128 .f32) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S4096x128 .f32) (h7 : a7.IsWhole)
    (x0 : Vec F S4096x128 .f32) (x1 x2 : Vec F S1x1x1024x512 .f32) (x3 : Vec F S1x1x512x1024 .f32)
    (te : TabBuf F c expertTab) (tu : TabBuf F c usedTab)
    (hz : k0_cond1 i (usedWord c tu) = 1#1) (hz' : ¬ k0_cond2 i (usedWord c tu) = 1#1) :
    (body_live c i a3 h3 a4 h4 a5 h5 a6 h6 a7 h7 x0 x1 x2 x3 te tu hz hz').1 =
 pieces (hidden x0 x1 x2) (whole3of x3) := by
  have e0 : ∀ r : LoadRect S4096x128, a3.view.readAt (Elt F) r (h3.unread x0) = fun j => x0 (r.idx j) := fun r => funext fun j => h3.readAt_unread x0 r j
  have e1 : ∀ r : LoadRect S1x1x1024x512, a4.view.readAt (Elt F) r (h4.unread x1) = fun j => x1 (r.idx j) := fun r => funext fun j => h4.readAt_unread x1 r j
  have e2 : ∀ r : LoadRect S1x1x1024x512, a5.view.readAt (Elt F) r (h5.unread x2) = fun j => x2 (r.idx j) := fun r => funext fun j => h5.readAt_unread x2 r j
  have e3 : ∀ r : LoadRect S1x1x512x1024, a6.view.readAt (Elt F) r (h6.unread x3) = fun j => x3 (r.idx j) := fun r => funext fun j => h6.readAt_unread x3 r j
  have eh : body_live.sl.r_1 c a3 h3 a4 h4 a5 h5 x0 x1 x2 = hidden x0 x1 x2 := by
    unfold body_live.sl.r_1 hidden
    simp only [e0, e1, e2]
    rfl
  have ew : body_live.sl.v35 c a6 h6 x3 = whole3of x3 := by
    unfold body_live.sl.v35 whole3of
    simp only [e3]
    rfl
  rw [← eh, ← ew]
  rfl

/-- The eight groups of rows cover the block. -/
theorem live_covers (v w) (y : S4096x128.Idx) : ∃ pc ∈ pieces (F := F) v w, y ∈ pc.1.set := by
  have h0 : (y 0).val < 4096 := (y 0).isLt
  have h1 : (y 1).val < 128 := (y 1).isLt
  have key : ∀ r : Rect S4096x128, r.off = ![(y 0).val % 8, 0] → r.size = S512x128.size → r.stride = ![8, 1] → y ∈ r.set := by
    rintro ⟨⟨o, z, t, inb⟩, pos⟩ ho hs ht
    obtain rfl : o = _ := ho; obtain rfl : z = _ := hs; obtain rfl : t = _ := ht
    refine (LoadRect.mem_set _).mpr fun a => ?_
    match a with
    | ⟨0, _⟩ => exact ⟨(y 0).val / 8, by change _ < 512; omega, by change (y 0).val = (y 0).val % 8 + 8 * ((y 0).val / 8); omega⟩
    | ⟨1, _⟩ => exact ⟨(y 1).val, h1, by change (y 1).val = 0 + 1 * (y 1).val; omega⟩
  have hg : (y 0).val % 8 < 8 := Nat.mod_lt _ (by decide)
  unfold pieces
  generalize hr : (y 0).val % 8 = g at key hg
  interval_cases g
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key _ rfl rfl rfl⟩
  · exact ⟨_, List.mem_cons_of_mem _ (List.mem_cons_of_mem _ (List.mem_cons_of_mem _ (List.mem_cons_of_mem _ (List.mem_cons_of_mem _ (List.mem_cons_of_mem _ (List.mem_cons_self)))))), key _ rfl rfl rfl⟩
  · exact ⟨_, List.mem_cons_of_mem _ (List.mem_cons_of_mem _ (List.mem_cons_of_mem _ (List.mem_cons_of_mem _ (List.mem_cons_of_mem _ (List.mem_cons_self))))), key _ rfl rfl rfl⟩
  · exact ⟨_, List.mem_cons_of_mem _ (List.mem_cons_of_mem _ (List.mem_cons_of_mem _ (List.mem_cons_of_mem _ (List.mem_cons_self)))), key _ rfl rfl rfl⟩
  · exact ⟨_, List.mem_cons_of_mem _ (List.mem_cons_of_mem _ (List.mem_cons_of_mem _ (List.mem_cons_self))), key _ rfl rfl rfl⟩
  · exact ⟨_, List.mem_cons_of_mem _ (List.mem_cons_of_mem _ (List.mem_cons_self)), key _ rfl rfl rfl⟩
  · exact ⟨_, List.mem_cons_of_mem _ (List.mem_cons_self), key _ rfl rfl rfl⟩
  · exact ⟨_, List.mem_cons_self, key _ rfl rfl rfl⟩

/-- Each group's rows are the block's. -/
theorem live_values (x0 : Vec F S4096x128 .f32) (x1 x2 : Vec F S1x1x1024x512 .f32) (x3 : Vec F S1x1x512x1024 .f32) :
    ∀ p ∈ pieces (hidden x0 x1 x2) (whole3of x3), ∀ x : p.1.shape.Idx, p.2 x = blockOut x0 x1 x2 x3 (p.1.emb x) := by
  unfold pieces
  simp only [List.forall_mem_cons, List.not_mem_nil, false_imp_iff, implies_true, and_true]
  refine ⟨?_, ?_, ?_, ?_, ?_, ?_, ?_, ?_⟩ <;> intro x <;> unfold blockOut
  · unfold k0_pay9
    simp only
    refine extractStridedSlice_apply (t := S512x128) ![0, 896] (k0_pay1 (hidden x0 x1 x2) (whole3of x3)) slices_S512x1024_o0_896_S512x128 x _ ?_
    have h0 : (x 0).val < 512 := (x 0).isLt
    have h1 : (x 1).val < 128 := (x 1).isLt
    intro a
    match a with
    | ⟨0, _⟩ => change (7 + 8 * (x 0).val) / 8 = 0 + (x 0).val; omega
    | ⟨1, _⟩ => change 128 * ((7 + 8 * (x 0).val) % 8) + (0 + 1 * (x 1).val) = 896 + (x 1).val; omega
  · unfold k0_pay8
    simp only
    refine extractStridedSlice_apply (t := S512x128) ![0, 768] (k0_pay1 (hidden x0 x1 x2) (whole3of x3)) slices_S512x1024_o0_768_S512x128 x _ ?_
    have h0 : (x 0).val < 512 := (x 0).isLt
    have h1 : (x 1).val < 128 := (x 1).isLt
    intro a
    match a with
    | ⟨0, _⟩ => change (6 + 8 * (x 0).val) / 8 = 0 + (x 0).val; omega
    | ⟨1, _⟩ => change 128 * ((6 + 8 * (x 0).val) % 8) + (0 + 1 * (x 1).val) = 768 + (x 1).val; omega
  · unfold k0_pay7
    simp only
    refine extractStridedSlice_apply (t := S512x128) ![0, 640] (k0_pay1 (hidden x0 x1 x2) (whole3of x3)) slices_S512x1024_o0_640_S512x128 x _ ?_
    have h0 : (x 0).val < 512 := (x 0).isLt
    have h1 : (x 1).val < 128 := (x 1).isLt
    intro a
    match a with
    | ⟨0, _⟩ => change (5 + 8 * (x 0).val) / 8 = 0 + (x 0).val; omega
    | ⟨1, _⟩ => change 128 * ((5 + 8 * (x 0).val) % 8) + (0 + 1 * (x 1).val) = 640 + (x 1).val; omega
  · unfold k0_pay6
    simp only
    refine extractStridedSlice_apply (t := S512x128) ![0, 512] (k0_pay1 (hidden x0 x1 x2) (whole3of x3)) slices_S512x1024_o0_512_S512x128 x _ ?_
    have h0 : (x 0).val < 512 := (x 0).isLt
    have h1 : (x 1).val < 128 := (x 1).isLt
    intro a
    match a with
    | ⟨0, _⟩ => change (4 + 8 * (x 0).val) / 8 = 0 + (x 0).val; omega
    | ⟨1, _⟩ => change 128 * ((4 + 8 * (x 0).val) % 8) + (0 + 1 * (x 1).val) = 512 + (x 1).val; omega
  · unfold k0_pay5
    simp only
    refine extractStridedSlice_apply (t := S512x128) ![0, 384] (k0_pay1 (hidden x0 x1 x2) (whole3of x3)) slices_S512x1024_o0_384_S512x128 x _ ?_
    have h0 : (x 0).val < 512 := (x 0).isLt
    have h1 : (x 1).val < 128 := (x 1).isLt
    intro a
    match a with
    | ⟨0, _⟩ => change (3 + 8 * (x 0).val) / 8 = 0 + (x 0).val; omega
    | ⟨1, _⟩ => change 128 * ((3 + 8 * (x 0).val) % 8) + (0 + 1 * (x 1).val) = 384 + (x 1).val; omega
  · unfold k0_pay4
    simp only
    refine extractStridedSlice_apply (t := S512x128) ![0, 256] (k0_pay1 (hidden x0 x1 x2) (whole3of x3)) slices_S512x1024_o0_256_S512x128 x _ ?_
    have h0 : (x 0).val < 512 := (x 0).isLt
    have h1 : (x 1).val < 128 := (x 1).isLt
    intro a
    match a with
    | ⟨0, _⟩ => change (2 + 8 * (x 0).val) / 8 = 0 + (x 0).val; omega
    | ⟨1, _⟩ => change 128 * ((2 + 8 * (x 0).val) % 8) + (0 + 1 * (x 1).val) = 256 + (x 1).val; omega
  · unfold k0_pay3
    simp only
    refine extractStridedSlice_apply (t := S512x128) ![0, 128] (k0_pay1 (hidden x0 x1 x2) (whole3of x3)) slices_S512x1024_o0_128_S512x128 x _ ?_
    have h0 : (x 0).val < 512 := (x 0).isLt
    have h1 : (x 1).val < 128 := (x 1).isLt
    intro a
    match a with
    | ⟨0, _⟩ => change (1 + 8 * (x 0).val) / 8 = 0 + (x 0).val; omega
    | ⟨1, _⟩ => change 128 * ((1 + 8 * (x 0).val) % 8) + (0 + 1 * (x 1).val) = 128 + (x 1).val; omega
  · unfold k0_pay2
    simp only
    refine extractStridedSlice_apply (t := S512x128) ![0, 0] (k0_pay1 (hidden x0 x1 x2) (whole3of x3)) slices_S512x1024_o0_0_S512x128 x _ ?_
    have h0 : (x 0).val < 512 := (x 0).isLt
    have h1 : (x 1).val < 128 := (x 1).isLt
    intro a
    match a with
    | ⟨0, _⟩ => change (0 + 8 * (x 0).val) / 8 = 0 + (x 0).val; omega
    | ⟨1, _⟩ => change 128 * ((0 + 8 * (x 0).val) % 8) + (0 + 1 * (x 1).val) = 0 + (x 1).val; omega

end Cert.ExpertsIdeal.Walk

end
-- ==== Proof.ExpCall.lean ====
/- The experts' call as a whole, over any float values: what each point leaves in the output's block, the obligation of
   the body at every point, and the run of the program to the contents the blocks make up. -/
module

public import proofs.«01_k».proof.Proof.ExpRun

@[expose] public section

set_option maxRecDepth 16384

noncomputable section

namespace Cert.ExpertsIdeal.Walk

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (m : (ℓ : Loc nD τ sig) → Buf (Elt F) ℓ) (ρ : Dev nD → PrngReg)

/-- Exactly one of the two cases holds. -/
theorem cond2_iff (i : grid0.Coords) (w : BitVec 32) : k0_cond2 i w = 1#1 ↔ ¬ k0_cond1 i w = 1#1 := by
  unfold k0_cond1 k0_cond2
  simp only
  generalize Scalar.cmpi .slt (BitVec.ofNat 32 (i 0).val) w = b
  revert b
  decide

theorem one_case (i : grid0.Coords) (w : BitVec 32) : (!(k0_cond1 i w == 1#1) && !(k0_cond2 i w == 1#1)) = false := by
  by_cases hz : k0_cond1 i w = 1#1
  · rw [hz]; rfl
  · rw [(cond2_iff i w).mpr hz]; exact Bool.and_false _

theorem idle_false (pf : pre0.Contents (Elt F)) (i : grid0.Coords) : idle0 pf 4 i = false := one_case i _

theorem idle_eq (a : (pcfg0 (F := F)).Adm) : (cfg0 a).idle = idle0 a.1 := rfl

theorem never_idle (h : Fits m) (t : Fin (theCall m h).N) : (theCall m h).idle 4 ((theCall m h).grid.coords t) = false :=
  (congrFun (congrFun (idle_eq (accepted m h)) 4) _).trans (idle_false _ _)

/-- A block of an expert's rows reads back as `blockOut`. -/
theorem live_read (c : Dev nD) (i : grid0.Coords)
    (a3 : Memref sig .tc .vmem S4096x128 .f32) (h3 : a3.IsWhole) (a4 : Memref sig .tc .vmem S1x1x1024x512 .f32) (h4 : a4.IsWhole)
    (a5 : Memref sig .tc .vmem S1x1x1024x512 .f32) (h5 : a5.IsWhole) (a6 : Memref sig .tc .vmem S1x1x512x1024 .f32) (h6 : a6.IsWhole)
    (a7 : Memref sig .tc .vmem S4096x128 .f32) (h7 : a7.IsWhole)
    (x0 : Vec F S4096x128 .f32) (x1 x2 : Vec F S1x1x1024x512 .f32) (x3 : Vec F S1x1x512x1024 .f32)
    (te : TabBuf F c expertTab) (tu : TabBuf F c usedTab)
    (hz : k0_cond1 i (usedWord c tu) = 1#1) (hz' : ¬ k0_cond2 i (usedWord c tu) = 1#1) (f) :
    a7.view.read (Elt F) (a7.view.writes (Elt F) f (body_live c i a3 h3 a4 h4 a5 h5 a6 h6 a7 h7 x0 x1 x2 x3 te tu hz hz').1) = blockOut x0 x1 x2 x3 := by
  rw [live_pieces]
  exact funext fun y => View.read_writes_apply_of_pieces (Val := Elt F) a7.view f (blockOut x0 x1 x2 x3) _ (live_values _ _ _ _) y (live_covers _ _ y)

/-- A block behind the last used one reads back as zeros. -/
theorem zero_read (a7 : Memref sig .tc .vmem S4096x128 .f32) (f) :
    a7.view.read (Elt F) (a7.view.writes (Elt F) f [⟨Rect.unit ![0, 0] S4096x128.size inb_S4096x128_S4096x128_0_0, k0_pay10 (F := F)⟩]) = (k0_pay10 (F := F) : Vec F S4096x128 .f32) := by
  refine funext fun y => View.read_writes_apply_of_pieces (Val := Elt F) a7.view f (k0_pay10 (F := F) : Vec F S4096x128 .f32) _ ?_ y ?_
  · intro p hp x
    obtain rfl := List.mem_singleton.mp hp
    rfl
  · refine ⟨_, List.mem_singleton_self _, ?_⟩
    refine (Rect.mem_set_unit (inb := inb_S4096x128_S4096x128_0_0)).mpr fun a => ?_
    match a with
    | ⟨0, _⟩ => exact ⟨Nat.zero_le _, by have h : (y 0).val < 4096 := (y 0).isLt; exact h.trans_eq (Nat.zero_add _).symm⟩
    | ⟨1, _⟩ => exact ⟨Nat.zero_le _, by have h : (y 1).val < 128 := (y 1).isLt; exact h.trans_eq (Nat.zero_add _).symm⟩

/-- What point `t` leaves in the output's block. -/
def left (h : Fits m) (c : Dev nD) (t : Fin (theCall m h).N) : Vec F S4096x128 .f32 :=
  if k0_cond1 (grid0.coords t) (usedWord c (tables m 1)) = 1#1 then
    blockOut (blockIn m h c 0 t) (blockIn m h c 1 t) (blockIn m h c 2 t) (blockIn m h c 3 t)
  else k0_pay10

/-- The call's proof data: each input's block stays in place, the output's is `left`. -/
def dats (h : Fits m) (_ : Fin 1) (c : Dev nD) : Dat τ (Elt F) Unit ℕ (UR sig nD τ) ℕ (theCall m h) c where
  A w := entry m c (Pipeline.arrRef spec0 w)
  after w t := match w with
    | ⟨0, _⟩ => blockIn m h c 0 t
    | ⟨1, _⟩ => blockIn m h c 1 t
    | ⟨2, _⟩ => blockIn m h c 2 t
    | ⟨3, _⟩ => blockIn m h c 3 t
    | ⟨4, _⟩ => left m h c t
  Φ _ := iprop(Pipeline.ΦA spec0 c ∗ Pipeline.ΦT pre0 (tables m) c)
  q _ := fullShare
  owed _ := 0

theorem dats_arr (h : Fits m) (c : Dev nD) (w : Fin (theCall m h).W) : (dats m h 0 c).A w = entry m c (Pipeline.arrRef spec0 w) := by
  dsimp only [dats]

theorem left0 (h : Fits m) (c : Dev nD) (t : Fin (theCall m h).N) : (dats m h 0 c).after 0 t = blockIn m h c 0 t := by dsimp only [dats]; rfl
theorem left1 (h : Fits m) (c : Dev nD) (t : Fin (theCall m h).N) : (dats m h 0 c).after 1 t = blockIn m h c 1 t := by dsimp only [dats]; rfl
theorem left2 (h : Fits m) (c : Dev nD) (t : Fin (theCall m h).N) : (dats m h 0 c).after 2 t = blockIn m h c 2 t := by dsimp only [dats]; rfl
theorem left3 (h : Fits m) (c : Dev nD) (t : Fin (theCall m h).N) : (dats m h 0 c).after 3 t = blockIn m h c 3 t := by dsimp only [dats]; rfl
theorem left4 (h : Fits m) (c : Dev nD) (t : Fin (theCall m h).N) : (dats m h 0 c).after 4 t = left m h c t := by dsimp only [dats]; rfl

theorem held0 (h : Fits m) (c : Dev nD) (t : Fin (theCall m h).N) (d) : (dats m h 0 c).before 0 t d = blockIn m h c 0 t :=
  ((dats m h 0 c).before_in_eq_fetched 0 rfl (fun _ => rfl) (fun _ _ _ => rfl)
    (fun t => by rw [left0]; unfold Dat.blockOf blockIn; rw [dats_arr]; try rfl) t d).trans
    (by unfold Dat.fetched Dat.blockOf blockIn; rw [dats_arr]; try rfl)
theorem held1 (h : Fits m) (c : Dev nD) (t : Fin (theCall m h).N) (d) : (dats m h 0 c).before 1 t d = blockIn m h c 1 t :=
  ((dats m h 0 c).before_in_eq_fetched 1 rfl (fun _ => rfl) (fun _ _ _ => rfl)
    (fun t => by rw [left1]; unfold Dat.blockOf blockIn; rw [dats_arr]; try rfl) t d).trans
    (by unfold Dat.fetched Dat.blockOf blockIn; rw [dats_arr]; try rfl)
theorem held2 (h : Fits m) (c : Dev nD) (t : Fin (theCall m h).N) (d) : (dats m h 0 c).before 2 t d = blockIn m h c 2 t :=
  ((dats m h 0 c).before_in_eq_fetched 2 rfl (fun _ => rfl) (fun _ _ _ => rfl)
    (fun t => by rw [left2]; unfold Dat.blockOf blockIn; rw [dats_arr]; try rfl) t d).trans
    (by unfold Dat.fetched Dat.blockOf blockIn; rw [dats_arr]; try rfl)
theorem held3 (h : Fits m) (c : Dev nD) (t : Fin (theCall m h).N) (d) : (dats m h 0 c).before 3 t d = blockIn m h c 3 t :=
  ((dats m h 0 c).before_in_eq_fetched 3 rfl (fun _ => rfl) (fun _ _ _ => rfl)
    (fun t => by rw [left3]; unfold Dat.blockOf blockIn; rw [dats_arr]; try rfl) t d).trans
    (by unfold Dat.fetched Dat.blockOf blockIn; rw [dats_arr]; try rfl)

/-- The body at point `t` on its staging buffers. -/
abbrev bodyOn (h : Fits m) (t : Fin (theCall m h).N) : Prog (TpuEff nD τ sig (Elt F) Λ₀ .tc) PUnit :=
  cc0_moe_experts (grid0.coords t) expertTab expertTab_whole usedTab usedTab_whole (at0 m h t) (whole0 m h t) (at1 m h t) (whole1 m h t)
    (at2 m h t) (whole2 m h t) (at3 m h t) (whole3 m h t) (at4 m h t) (whole4 m h t)

def bodyGets (h : Fits m) (c : Dev nD) (t : Fin (theCall m h).N) : Asrt F :=
  iprop((dats m h 0 c).Φ t.castSucc ∗ (dats m h 0 c).owesAt () t.castSucc
    ∗ (∃ d, owns (c : Thread nD τ) (at0 m h t) fullShare ((dats m h 0 c).before 0 t d))
    ∗ (∃ d, owns (c : Thread nD τ) (at1 m h t) fullShare ((dats m h 0 c).before 1 t d))
    ∗ (∃ d, owns (c : Thread nD τ) (at2 m h t) fullShare ((dats m h 0 c).before 2 t d))
    ∗ (∃ d, owns (c : Thread nD τ) (at3 m h t) fullShare ((dats m h 0 c).before 3 t d))
    ∗ (∃ d, owns (c : Thread nD τ) (at4 m h t) fullShare ((dats m h 0 c).before 4 t d)))

def bodyGives (h : Fits m) (c : Dev nD) (t : Fin (theCall m h).N) : Asrt F :=
  iprop((dats m h 0 c).Φ t.succ ∗ (dats m h 0 c).owesAt () t.succ
    ∗ owns (c : Thread nD τ) (at0 m h t) fullShare ((dats m h 0 c).after 0 t)
    ∗ owns (c : Thread nD τ) (at1 m h t) fullShare ((dats m h 0 c).after 1 t)
    ∗ owns (c : Thread nD τ) (at2 m h t) fullShare ((dats m h 0 c).after 2 t)
    ∗ owns (c : Thread nD τ) (at3 m h t) fullShare ((dats m h 0 c).after 3 t)
    ∗ owns (c : Thread nD τ) (at4 m h t) fullShare ((dats m h 0 c).after 4 t))

set_option maxHeartbeats 4000000 in
/-- The body keeps the call's proof data, case by case. -/
theorem body_keeps (h : Fits m) (c : Dev nD) (t : Fin (theCall m h).N) :
    bodyGets m h c t ⊢ wp frame (wpE (defs₀ (F := F)) Variants.none c none) Set.univ (bodyOn m h t) (fun _ => bodyGives m h c t) := by
  unfold bodyGets bodyGives bodyOn
  simp only [held0, held1, held2, held3]
  rw [show (dats m h 0 c).Φ t.succ = (dats m h 0 c).Φ t.castSucc from rfl,
    show (dats m h 0 c).owesAt () t.succ = (dats m h 0 c).owesAt () t.castSucc from rfl, left0, left1, left2, left3, left4]
  rw [show (dats m h 0 c).Φ t.castSucc = iprop(Pipeline.ΦA spec0 c ∗ Pipeline.ΦT pre0 (tables m) c) from rfl, halves_eq]
  unfold left
  by_cases hz : k0_cond1 (grid0.coords t) (usedWord c (tables m 1)) = 1#1
  · have hz' : ¬ k0_cond2 (grid0.coords t) (usedWord c (tables m 1)) = 1#1 := fun h => (cond2_iff _ _).mp h hz
    rw [if_pos hz]
    iintro ⟨⟨HΦ, ⟨HE, HU⟩⟩, Ho, ⟨%d0, H0⟩, ⟨%d1, H1⟩, ⟨%d2, H2⟩, ⟨%d3, H3⟩, ⟨%d4, H4⟩⟩
    iapply ((body_live c (grid0.coords t) _ _ _ _ _ _ _ _ _ _ (blockIn m h c 0 t) (blockIn m h c 1 t) (blockIn m h c 2 t) (blockIn m h c 3 t) (tables m 0) (tables m 1) hz hz').2 Set.univ _)
    isplitl [H0]; · iexact H0
    isplitl [H1]; · iexact H1
    isplitl [H2]; · iexact H2
    isplitl [H3]; · iexact H3
    isplitl [H4]; · iexists _; iexact H4
    isplitl [HE]; · iexact HE
    isplitl [HU]; · iexact HU
    iintro ⟨H0, H1, H2, H3, ⟨%e4, H4⟩, HE, HU⟩
    isplitl [HΦ HE HU]
    · isplitl [HΦ]
      · iexact HΦ
      isplitl [HE]; · iexact HE
      iexact HU
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact live_read c _ _ _ _ _ _ _ _ _ _ _ _ _ _ _ _ _ hz hz' _
  · have hz' : k0_cond2 (grid0.coords t) (usedWord c (tables m 1)) = 1#1 := (cond2_iff _ _).mpr hz
    rw [if_neg hz]
    iintro ⟨⟨HΦ, ⟨HE, HU⟩⟩, Ho, ⟨%d0, H0⟩, ⟨%d1, H1⟩, ⟨%d2, H2⟩, ⟨%d3, H3⟩, ⟨%d4, H4⟩⟩
    iapply (body_zero c (grid0.coords t) _ _ _ _ _ _ _ _ _ _ (tables m 0) (tables m 1) hz hz' Set.univ _)
    isplitl [H4]; · iexists _; iexact H4
    isplitl [HE]; · iexact HE
    isplitl [HU]; · iexact HU
    iintro ⟨⟨%e4, H4⟩, HE, HU⟩
    isplitl [HΦ HE HU]
    · isplitl [HΦ]
      · iexact HΦ
      isplitl [HE]; · iexact HE
      iexact HU
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact zero_read _ _

theorem body_row (h : Fits m) (t : Fin (theCall m h).N) :
    defs₀ (F := F) .tc (theCall m h).body ((theCall m h).bodyArgs t ((theCall m h).slots t)) = bodyOn m h t := by
  unfold defs₀; rw [Defs.onTc_tc]

/-- A call none of whose windows is idle at any point: its body obligation is that every window ends at what the data
    say the body leaves. -/
theorem busy_obligation {cfg : Pipeline.Cfg sig Λ₀} {c : Dev nD} (dat : Dat τ (Elt F) Unit ℕ (UR sig nD τ) ℕ cfg c)
    (D : Defs nD τ sig (Elt F) Λ₀) (E : Set ℕ) (hi : ∀ w t, cfg.idle w (cfg.grid.coords t) = false)
    (H : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE D Variants.none (c : Thread nD τ) none) E (D .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat D Variants.none () E := fun t => by
  simpa only [hi] using H t

theorem all_busy (h : Fits m) : ∀ (w : Fin (theCall m h).W) (t : Fin (theCall m h).N), (theCall m h).idle w ((theCall m h).grid.coords t) = false
  | ⟨0, _⟩, _ => rfl
  | ⟨1, _⟩, _ => rfl
  | ⟨2, _⟩, _ => rfl
  | ⟨3, _⟩, _ => rfl
  | ⟨4, _⟩, t => never_idle m h t

theorem obligation (h : Fits m) (c : Dev nD) : BodyObligation (dats (F := F) m h 0 c) (defs₀ (F := F)) Variants.none () Set.univ :=
  busy_obligation _ _ _ (all_busy m h) fun t => by
    rw [bigSep_W0, bigSep_W0, body_row m h]
    exact triple_restated (body_keeps m h c t) rfl .rfl fun _ => .rfl

set_option backward.isDefEq.respectTransparency.types false in
/-- The run: every array of the call at the contents its blocks make up, every other buffer as the call found it, and
    every semaphore back at zero. -/
theorem runs (h : Fits m) : θ_run defs (onTc (τ := τ) (main (F := F))) (s₀ m ρ)
    (fun r => (Pipeline.FramePost (Pipeline.pin pcfgs fun _ => accepted m h) (dats m h) 0 (entry m)) r ∧ r.2.sem = fun _ => 0) :=
  Pipeline.θ_run_frameP (Q' := _) pcfgs (fun _ => accepted m h) (dats m h) (0 : Fin 1) launch0 defs₀ Variants.none m ρ main
    (hbody := fun c => (obligation m h c).loose) (hshare := fun c => (dats m h 0 c).share_full fun _ => rfl)
    (howed := fun _ _ => rfl) (V := entry m) (hmain := to_call m Variants.none) (hA := dats_arr m h) (hpf := entry_tables m)
    (hΦ := fun _ _ => rfl)

/-- The result ends as the grid steps leave it, and the five arguments end unchanged. -/
theorem runs_all (h : Fits m) : θ_run defs (onTc (τ := τ) (main (F := F))) ⟨m, fun _ => 0, ρ⟩ (fun r => (∀ c : Dev nD,
      r.2.mem ((c.tc : Thread nD τ).loc main_v22) = (dats m h 0 c).arrAt 4 (theCall m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h' => ⟨fun c =>
    ⟨(h'.1 c).1 4, (h'.1 c).1 0 |>.trans <| ((dats m h 0 c).arrAt_in 0 rfl _).trans <| (dats_arr m h c 0).trans (entry_arg m (b := main_arg0) (by simp) c),
     ((h'.1 c).2 main_arg1 (by decide : main_arg1 ∈ Pipeline.restRefs sig spec0)).trans (entry_arg m (by simp) c),
     (h'.1 c).1 1 |>.trans <| ((dats m h 0 c).arrAt_in 1 rfl _).trans <| (dats_arr m h c 1).trans (entry_arg m (b := main_arg2) (by simp) c),
     (h'.1 c).1 2 |>.trans <| ((dats m h 0 c).arrAt_in 2 rfl _).trans <| (dats_arr m h c 2).trans (entry_arg m (b := main_arg3) (by simp) c),
     (h'.1 c).1 3 |>.trans <| ((dats m h 0 c).arrAt_in 3 rfl _).trans <| (dats_arr m h c 3).trans (entry_arg m (b := main_arg4) (by simp) c)⟩, h'.2⟩)
    (runs m ρ h)

/-- The five arguments end unchanged. -/
theorem runs_frame (h : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h' => ⟨fun c => (h'.1 c).2, h'.2⟩) (runs_all m ρ h)

end Cert.ExpertsIdeal.Walk

end
-- ==== Proof.ExpFits.lean ====
/- The look-up tables as functions of the experts' row counts: where each expert's padded rows end, the expert of each
   block of rows, the number of used blocks; and, from the precondition that some block is used, that every block the
   tables name lies inside its array. -/
module

public import proofs.«01_k».proof.Proof.ExpCall
public import proofs.«01_k».proof.Proof.Gen.Pre_some_rows
public import Idealize.ShloMosaic.Lib.StableHlo.Predicate
public import Idealize.ShloMosaic.Lib.StableHlo.RunRead

@[expose] public section

set_option maxRecDepth 16384

noncomputable section

namespace Cert.ExpertsIdeal.Walk

open Cert.ExpertsIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-! ## The tables as functions of the counts -/

attribute [local irreducible] Host.reduceWindow Host.reduce

/-- A word divided by the block's 512 rows, rounded down. -/
def perBlock (w : BitVec 32) : BitVec 32 :=
  select (s := S_) (andi (cmpi .ne (signi fun _ => w) (signi fun _ => 512#32)) (cmpi .ne (Host.remsi (fun _ => w) fun _ => 512#32) fun _ => 0#32))
    (subi (Host.divsi (fun _ => w) fun _ => 512#32) fun _ => 1#32) (Host.divsi (fun _ => w) fun _ => 512#32) fun a => a.elim0

/-- Where each expert's padded rows end. -/
def ends (cnt : IVec S32 32) : IVec S32 32 :=
  Host.reduceWindow IntOp.addi ![32] ![1] ![31] ![0]
    (fun i => IntOp.muli (perBlock (IntOp.subi (IntOp.addi (cnt i) 512#32) 1#32)) 512#32 : IVec S32 32)
    (fun _ => 0#32 : IVec S_ 32) reduceWindows_S32_S32_w32s1p31_0 h_S_

/-- The expert of each block of rows: how many experts' rows end at or before its first row, at most the last. -/
def expertOf (E : IVec S32 32) : IVec S162 32 := fun b =>
  IntOp.minsi (Host.reduce IntOp.addi
    (extui 32 (cmpi .sge (broadcastInDim S162x32 ![0, 1] bcast_S162x1_S162x32_0_1 (broadcastInDim S162x1 ![0] bcast_S162_S162x1_0
        (fun i => IntOp.muli (iotaInDim S162 32 0 i) 512#32 : IVec S162 32)))
      (broadcastInDim S162x32 ![0, 1] bcast_S1x32_S162x32_0_1 (broadcastInDim S1x32 ![1] bcast_S32_S1x32_1 E))) natLt_1_32)
    (constantI S_ 32 0#32) reducesTo_S162x32_S162_d1 h_S_ b) 31#32

/-- The number of used blocks. -/
def usedOf (E : IVec S32 32) : BitVec 32 := perBlock (E (ix1 31))

/-- The row counts. -/
abbrev counts (c : Dev nD) : IVec S32 32 := m ((c : Thread nD τ).loc main_arg1)

theorem stage0 (V : Valuation τ sig (Elt F)) : StableHlo.after (hostOps0 (F := F)) V (Proc.devRef .tc main_v3)
    = (fun i => IntOp.subi (IntOp.addi ((V (Proc.devRef .tc main_arg1) : IVec S32 32) i) 512#32) 1#32 : IVec S32 32) := by
  after_reads_simp
  rfl

theorem stage0c (V : Valuation τ sig (Elt F)) : StableHlo.after (hostOps0 (F := F)) V (Proc.devRef .tc main_c_1) = (fun _ => 512#32 : IVec S_ 32) := by
  after_reads_simp
  rfl

theorem stage1 (V : Valuation τ sig (Elt F)) (x : IVec S32 32) (hx : V (Proc.devRef .tc main_v3) = x) (hc : V (Proc.devRef .tc main_c_1) = (fun _ => 512#32 : IVec S_ 32)) :
    StableHlo.after (hostOps0_1 (F := F)) V (Proc.devRef .tc main_v4) = (fun i => perBlock (x i) : IVec S32 32) := by
  after_reads_simp
  rw [hx, hc]
  simp only [StableHlo.TRef.ofBuf, StableHlo.TRef.toBuf, cast_cast, cast_eq, id_eq]
  funext i
  unfold perBlock
  simp only [select, andi, cmpi, signi, Host.remsi, Host.divsi, subi, broadcastInDim, constantI]

theorem stage2 (V : Valuation τ sig (Elt F)) (x : IVec S32 32) (hx : V (Proc.devRef .tc main_v4) = x) :
    StableHlo.after (hostOps0_2 (F := F)) V (Proc.devRef .tc main_v6) = (fun i => IntOp.muli (x i) 512#32 : IVec S32 32) := by
  after_reads_simp
  rw [hx]
  rfl

theorem stage3 (V : Valuation τ sig (Elt F)) (x : IVec S32 32) (hx : V (Proc.devRef .tc main_v6) = x) :
    StableHlo.after (hostOps0_3 (F := F)) V (Proc.devRef .tc main_v7)
      = Host.reduceWindow IntOp.addi ![32] ![1] ![31] ![0] x (fun _ => 0#32 : IVec S_ 32) reduceWindows_S32_S32_w32s1p31_0 h_S_ := by
  after_reads_simp
  rw [hx]
  rfl

theorem stage4 (V : Valuation τ sig (Elt F)) (x : IVec S32 32) (hx : V (Proc.devRef .tc main_v7) = x) :
    StableHlo.after (hostOps0_4 (F := F)) V (Proc.devRef .tc main_v19) = expertOf x := by
  after_reads_simp
  rw [hx]
  rfl

theorem stage4u (V : Valuation τ sig (Elt F)) (x : IVec S32 32) (hx : V (Proc.devRef .tc main_v7) = x) :
    StableHlo.after (hostOps0_4 (F := F)) V (Proc.devRef .tc main_v20) = (fun _ => x (ix1 31) : IVec S1 32) := by
  after_reads_simp
  rw [hx]
  funext i
  refine congrArg x (funext fun a => Fin.ext ?_)
  match a with
  | ⟨0, _⟩ => have h : (i 0).val < 1 := (i 0).isLt; show 31 + (i 0).val = 31; omega

theorem stage4c (V : Valuation τ sig (Elt F)) : StableHlo.after (hostOps0_4 (F := F)) V (Proc.devRef .tc main_c_6) = (fun _ => 512#32 : IVec S_ 32) := by
  after_reads_simp
  rfl

theorem stage5 (V : Valuation τ sig (Elt F)) (x : BitVec 32) (hx : V (Proc.devRef .tc main_v20) = (fun _ => x : IVec S1 32)) (hc : V (Proc.devRef .tc main_c_6) = (fun _ => 512#32 : IVec S_ 32)) :
    StableHlo.after (hostOps0_5 (F := F)) V (Proc.devRef .tc main_v21) = (fun i => perBlock x : IVec S1 32) := by
  after_reads_simp
  rw [hx, hc]
  simp only [StableHlo.TRef.ofBuf, StableHlo.TRef.toBuf, cast_cast, cast_eq, id_eq]
  funext i
  unfold perBlock
  simp only [select, andi, cmpi, signi, Host.remsi, Host.divsi, subi, broadcastInDim, constantI]

theorem stage5k (V : Valuation τ sig (Elt F)) :
    StableHlo.after (hostOps0_5 (F := F)) V (Proc.devRef .tc main_v19) = V (Proc.devRef .tc main_v19) := by
  after_reads_simp

theorem after_cat (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem flat : (stretches (F := F)).flatten = hostOps0 ++ (hostOps0_1 ++ (hostOps0_2 ++ (hostOps0_3 ++ (hostOps0_4 ++ hostOps0_5)))) := by
  simp only [stretches, List.flatten_cons, List.flatten_nil, List.append_nil]

theorem expert_table (c : Dev nD) : (entry m c main_v19 : IVec S162 32) = expertOf (ends (counts m c)) := by
  unfold entry
  rw [flat, after_cat, after_cat, after_cat, after_cat, after_cat]
  exact (stage5k _).trans (stage4 _ _ (stage3 _ _ (stage2 _ _ (stage1 _ _ (stage0 _) (stage0c _)))))

theorem used_table (c : Dev nD) : (entry m c main_v21 : IVec S1 32) = fun _ => usedOf (ends (counts m c)) := by
  unfold entry
  rw [flat, after_cat, after_cat, after_cat, after_cat, after_cat]
  exact stage5 _ _ (stage4u _ _ (stage3 _ _ (stage2 _ _ (stage1 _ _ (stage0 _) (stage0c _))))) (stage4c _)

theorem expert_le (E : IVec S32 32) (b : S162.Idx) : (expertOf E b).toNat ≤ 31 := by
  unfold expertOf
  have h := StableHlo.Predicate.toNat_reduce_count_cols (n := 162) (m := 32) (by omega)
    (cmpi .sge (broadcastInDim S162x32 ![0, 1] bcast_S162x1_S162x32_0_1 (broadcastInDim S162x1 ![0] bcast_S162_S162x1_0
        (fun i => IntOp.muli (iotaInDim S162 32 0 i) 512#32 : IVec S162 32)))
      (broadcastInDim S162x32 ![0, 1] bcast_S1x32_S162x32_0_1 (broadcastInDim S1x32 ![1] bcast_S32_S1x32_1 E))) natLt_1_32
    reducesTo_S162x32_S162_d1 (u := S_) h_S_ b
  have h2 := h.trans_le ((Finset.card_filter_le _ _).trans (by simp : _ ≤ 32))
  clear h
  generalize Host.reduce IntOp.addi _ _ _ _ b = w at h2 ⊢
  unfold IntOp.minsi
  have : w.toInt = w.toNat := by rw [BitVec.toInt_eq_toNat_of_lt]; omega
  split
  · next h => simp only [BitVec.slt, decide_eq_true_eq, this] at h; simp at h; omega
  · simp

theorem pre_divide (x : IVec S32 32) : Cert.Pre_some_rows.fn_floor_divide (F := F) x (constantI S_ 32 512#32) = fun i => perBlock (x i) := by
  funext i
  unfold Cert.Pre_some_rows.fn_floor_divide Cert.Pre_some_rows.fn_where perBlock
  simp only [select, andi, cmpi, signi, Host.remsi, Host.divsi, subi, broadcastInDim, constantI, id_eq]

theorem pre_divide1 (x : IVec S_ 32) : Cert.Pre_some_rows.fn_floor_divide_1 (F := F) x (constantI S_ 32 512#32) = fun i => perBlock (x i) := by
  funext i
  unfold Cert.Pre_some_rows.fn_floor_divide_1 Cert.Pre_some_rows.fn_where_2 perBlock
  simp only [select, andi, cmpi, signi, Host.remsi, Host.divsi, subi, broadcastInDim, constantI, id_eq]
  rfl

/-- The precondition, read: at least one block is used. -/
theorem pre_used (x0 : FVec F S663552x128 .f32) (cnt : IVec S32 32) (x2 x3 : FVec F S2x32x1024x512 .f32) (x4 : FVec F S2x32x512x1024 .f32)
    (h : Cert.Pre_some_rows.fn (F := F) x0 cnt x2 x3 x4 = fun _ => 1#1) : IntOp.cmpi .sge (usedOf (ends cnt)) 1#32 = 1#1 := by
  have h0 := congrFun h (fun a => a.elim0)
  unfold Cert.Pre_some_rows.fn at h0
  simp only [pre_divide] at h0
  erw [pre_divide1] at h0
  refine Eq.trans (congrArg (fun w => IntOp.cmpi .sge (perBlock w) 1#32) ?_) h0
  refine congrArg (ends cnt) (funext fun a => Fin.ext ?_)
  match a with
  | ⟨0, _⟩ => simp [Shape.reshapeEquiv]

theorem used_pos (w : BitVec 32) (h : IntOp.cmpi .sge w 1#32 = 1#1) : 1 ≤ w.toNat ∧ w.toNat < 2 ^ 31 := by
  have h1 : (1#32).sle w = true := by
    have := h
    unfold IntOp.cmpi at this
    revert this
    cases (1#32).sle w <;> simp
  simp only [BitVec.sle, decide_eq_true_eq] at h1
  have h2 : (1 : Int) ≤ w.toInt := h1
  rw [BitVec.toInt_eq_toNat_cond] at h2
  split at h2 <;> omega

theorem row_block (w : BitVec 32) (hw : 1 ≤ w.toNat ∧ w.toNat < 2 ^ 31) (i : Nat) (hi : i < 162) :
    (IntOp.minsi (BitVec.ofNat 32 i) (w - 1#32)).toNat = min i (w.toNat - 1) := by
  have h1 : (w - 1#32).toNat = w.toNat - 1 := by
    rw [BitVec.toNat_sub]; simp; omega
  have h2 : (w - 1#32).toInt = w.toNat - 1 := by
    rw [BitVec.toInt_eq_toNat_of_lt (by rw [h1]; omega), h1]; omega
  have h3 : (BitVec.ofNat 32 i).toNat = i := by rw [BitVec.toNat_ofNat]; omega
  have h4 : (BitVec.ofNat 32 i).toInt = i := by rw [BitVec.toInt_eq_toNat_of_lt (by rw [h3]; omega), h3]
  unfold IntOp.minsi
  rw [BitVec.slt, h2, h4]
  split
  · next h => simp only [decide_eq_true_eq] at h; rw [h3]; omega
  · next h => simp only [decide_eq_true_eq] at h; rw [h1]; omega

/-- The rows' block index, in words: the point's own block, at most the last used one. -/
theorem index_rows (pf : pre0.Contents (Elt F)) (w : BitVec 32) (hw : (pf 1 : IVec S1 32) = fun _ => w) (i : grid0.Coords) :
    cc0_transform_0 inb_S1_S1_0 numel1_S1 pf i = ![(IntOp.minsi (BitVec.ofNat 32 (i 0).val) (w - 1#32)).toNat, 0] :=
  congrArg (fun v : BitVec 32 => ![(IntOp.minsi (BitVec.ofNat 32 (i 0).val) (v - 1#32)).toNat, 0]) (congrFun hw _)

theorem point_word (i : grid0.Coords) : (Scalar.indexCast (BitVec.ofNat 32 (i 0).val) : Index).toNat = (i 0).val := by
  have hi : (i 0).val < 162 := (i 0).isLt
  show (BitVec.ofNat 32 (i 0).val).toNat = _
  rw [BitVec.toNat_ofNat]; omega

theorem point_at (i : grid0.Coords) (j : (Rect.unit (s := S162) ![(Scalar.indexCast (BitVec.ofNat 32 (i 0).val) : Index).toNat] S1.size (k0_off1_inb i)).shape.Idx) :
    (Rect.unit (s := S162) ![(Scalar.indexCast (BitVec.ofNat 32 (i 0).val) : Index).toNat] S1.size (k0_off1_inb i)).emb j = ix1 (i 0) := by
  funext a
  apply Fin.ext
  match a with
  | ⟨0, _⟩ =>
    have h : (j 0).val = 0 := Nat.lt_one_iff.mp (j 0).isLt
    exact (congrArg₂ (fun a b : Nat => a + 1 * b) (point_word i) h).trans (Nat.add_zero _)

/-- The weights' block index: the expert of the point's block. -/
theorem index_gate (pf : pre0.Contents (Elt F)) (E : IVec S162 32) (hE : (pf 0 : IVec S162 32) = E) (i : grid0.Coords) :
    cc0_transform_1 k0_off1_inb numel1_S1 pf i = ![0, (E (ix1 (i 0))).toNat, 0, 0] :=
  congrArg (fun v : BitVec 32 => ![0, v.toNat, 0, 0]) ((congrFun hE _).trans (congrArg E (point_at i _)))
theorem index_up (pf : pre0.Contents (Elt F)) (E : IVec S162 32) (hE : (pf 0 : IVec S162 32) = E) (i : grid0.Coords) :
    cc0_transform_2 k0_off1_inb numel1_S1 pf i = ![0, (E (ix1 (i 0))).toNat, 0, 0] :=
  congrArg (fun v : BitVec 32 => ![0, v.toNat, 0, 0]) ((congrFun hE _).trans (congrArg E (point_at i _)))
theorem index_down (pf : pre0.Contents (Elt F)) (E : IVec S162 32) (hE : (pf 0 : IVec S162 32) = E) (i : grid0.Coords) :
    cc0_transform_3 k0_off1_inb numel1_S1 pf i = ![0, (E (ix1 (i 0))).toNat, 0, 0] :=
  congrArg (fun v : BitVec 32 => ![0, v.toNat, 0, 0]) ((congrFun hE _).trans (congrArg E (point_at i _)))

/-- Tables with at least one used block and experts in range name blocks inside their arrays. -/
theorem fits_of (pf : pre0.Contents (Elt F)) (w : BitVec 32) (E : IVec S162 32) (hw : (pf 1 : IVec S1 32) = fun _ => w) (hE : (pf 0 : IVec S162 32) = E)
    (hp : 1 ≤ w.toNat ∧ w.toNat < 2 ^ 31) (hx : ∀ b, (E b).toNat ≤ 31) : ok0 pf := by
  refine ⟨fun i => ?_, fun i => ?_, fun i => ?_, fun i => ?_⟩
  · rw [index_rows pf w hw i]
    refine ⟨fun a => ?_, .inl rfl⟩
    match a with
    | ⟨0, _⟩ =>
      have hi : (i 0).val < 162 := (i 0).isLt
      show ((IntOp.minsi (BitVec.ofNat 32 (i 0).val) (w - 1#32)).toNat + 1) * 4096 ≤ 663552
      rw [row_block w hp _ hi]; omega
    | ⟨1, _⟩ => exact (by decide : (0 + 1) * 128 ≤ 128)
  · rw [index_gate pf E hE i]
    refine ⟨fun a => ?_, .inl rfl⟩
    match a with
    | ⟨0, _⟩ => exact (by decide : (0 + 1) * 1 ≤ 2)
    | ⟨1, _⟩ => exact (Nat.mul_one _).le.trans (Nat.succ_le_succ (hx _))
    | ⟨2, _⟩ => exact (by decide : (0 + 1) * 1024 ≤ 1024)
    | ⟨3, _⟩ => exact (by decide : (0 + 1) * 512 ≤ 512)
  · rw [index_up pf E hE i]
    refine ⟨fun a => ?_, .inl rfl⟩
    match a with
    | ⟨0, _⟩ => exact (by decide : (0 + 1) * 1 ≤ 2)
    | ⟨1, _⟩ => exact (Nat.mul_one _).le.trans (Nat.succ_le_succ (hx _))
    | ⟨2, _⟩ => exact (by decide : (0 + 1) * 1024 ≤ 1024)
    | ⟨3, _⟩ => exact (by decide : (0 + 1) * 512 ≤ 512)
  · rw [index_down pf E hE i]
    refine ⟨fun a => ?_, .inl rfl⟩
    match a with
    | ⟨0, _⟩ => exact (by decide : (0 + 1) * 1 ≤ 2)
    | ⟨1, _⟩ => exact (Nat.mul_one _).le.trans (Nat.succ_le_succ (hx _))
    | ⟨2, _⟩ => exact (by decide : (0 + 1) * 512 ≤ 512)
    | ⟨3, _⟩ => exact (by decide : (0 + 1) * 1024 ≤ 1024)

/-- The precondition makes the tables fit. -/
theorem fits (h : IntOp.cmpi .sge (usedOf (ends (counts m 0))) 1#32 = 1#1) : Fits m :=
  fits_of (tables m) _ _ (used_table m 0) (expert_table m 0) (used_pos _ h) (expert_le _)

end Cert.ExpertsIdeal.Walk

end
-- ==== Proof.ExpMath.lean ====
/- What the experts' call computes, in plain arithmetic: each block of 512 rows through its own expert. -/
module

public import proofs.«01_k».proof.Proof.NpMath
public import Idealize.ShloMosaic.Lib.WordCmp

@[expose] public section

noncomputable section

namespace Cert.ExpMath

open Cert.NpMath Idealize.ShloMosaic

/-- The sorted rows, eight lane groups to a row. -/
abbrev Rows := FVec Ideal ⟨2, ![663552, 128]⟩ .f32
/-- The gates' and up-projections' weights, by layer and expert. -/
abbrev Wide := FVec Ideal ⟨4, ![2, 32, 1024, 512]⟩ .f32
/-- The down-projections' weights, by layer and expert. -/
abbrev Deep := FVec Ideal ⟨4, ![2, 32, 512, 1024]⟩ .f32

/-- Entry `d` of row `r` of block `i`. -/
def row (x : Rows) (i : Fin 162) (r : Fin 512) (d : Fin 1024) : EReal :=
  x (ix2 ⟨i.val * 4096 + r.val * 8 + d.val / 128, by omega⟩ ⟨d.val % 128, Nat.mod_lt _ (by decide)⟩)

/-- The gated middle activation `k` of a row. -/
def mid (X : Fin 1024 → EReal) (G U : Fin 1024 → Fin 512 → EReal) (k : Fin 512) : EReal :=
  silu (∑ d : Fin 1024, X d * G d k) * ∑ d : Fin 1024, X d * U d k

/-- Entry `j` of a row's result. -/
def down (X : Fin 1024 → EReal) (G U : Fin 1024 → Fin 512 → EReal) (D : Fin 512 → Fin 1024 → EReal) (j : Fin 1024) : EReal :=
  ∑ k : Fin 512, mid X G U k * D k j

theorem down_congr {X X' : Fin 1024 → EReal} {G G' U U' : Fin 1024 → Fin 512 → EReal} {D D' : Fin 512 → Fin 1024 → EReal} (j : Fin 1024)
    (hX : ∀ d, X d = X' d) (hG : ∀ d k, G d k = G' d k) (hU : ∀ d k, U d k = U' d k) (hD : ∀ k j, D k j = D' k j) : down X G U D j = down X' G' U' D' j := by
  obtain rfl : X = X' := funext hX
  obtain rfl : G = G' := funext fun d => funext (hG d)
  obtain rfl : U = U' := funext fun d => funext (hU d)
  obtain rfl : D = D' := funext fun k => funext (hD k)
  rfl

/-- Entry `j` of row `r` of block `i`, zero behind the last used block. -/
def expV (x : Rows) (E : Fin 162 → Fin 32) (u : Nat) (wg wu : Wide) (wd : Deep) (i : Fin 162) (r : Fin 512) (j : Fin 1024) : EReal :=
  if i.val < u then down (row x i r) (fun d k => wg (ix4 0 (E i) d k)) (fun d k => wu (ix4 0 (E i) d k)) (fun k j => wd (ix4 0 (E i) k j)) j else 0

/-- The result as an array of lane groups. -/
def expArr (x : Rows) (E : Fin 162 → Fin 32) (u : Nat) (wg wu : Wide) (wd : Deep) : Rows := fun y =>
  expV x E u wg wu wd ⟨(y 0).val / 4096, by have h : (y 0).val < 663552 := (y 0).isLt; omega⟩
    ⟨(y 0).val % 4096 / 8, by omega⟩
    ⟨128 * ((y 0).val % 8) + (y 1).val, by have h : (y 1).val < 128 := (y 1).isLt; omega⟩

/-- The comparison of a block's number with the number of used blocks. -/
theorem used_bit (n : Nat) (hn : n < 162) (u : BitVec 32) (hu : u.toNat < 2 ^ 31) :
    IntOp.cmpi .slt (BitVec.ofNat 32 n) u = if n < u.toNat then 1#1 else 0#1 := by
  have h3 : (BitVec.ofNat 32 n).toNat = n := by rw [BitVec.toNat_ofNat]; omega
  rw [WordCmp.cmpi_slt_of_lt (by rw [h3]; omega) (by omega), h3]
  by_cases h : n < u.toNat
  · rw [if_pos h, decide_eq_true h]; rfl
  · rw [if_neg h, decide_eq_false h]; rfl

end Cert.ExpMath

end
-- ==== Proof.ExpVal.lean ====
/- The experts' body over the reals: a block of rows through one expert's three projections. -/
module

public import proofs.«01_k».proof.Proof.ExpFits
public import proofs.«01_k».proof.Proof.ExpMath

@[expose] public section

set_option maxRecDepth 16384

noncomputable section

namespace Cert.ExpertsIdeal.Walk

open Cert.NpMath Cert.ExpMath Cert.ExpertsIdeal Cert.ExpertsIdeal.Gen Idealize.ShloMosaic Idealize.ShloMosaic.TcCoe Idealize.SL.Sem

/-- The rows of a block side by side, from their eight lane groups. -/
def groups (x0 : FVec Ideal S4096x128 .f32) : FVec Ideal S512x1024 .f32 :=
  concatenate S512x1024 1 [
    ⟨S512x128, fun j => x0 ((⟨![0, 0], S512x128.size, ![8, 1], inb_S4096x128_S512x128_0_0_s_8_1⟩ : LoadRect S4096x128).idx j)⟩,
    ⟨S512x128, fun j => x0 ((⟨![1, 0], S512x128.size, ![8, 1], inb_S4096x128_S512x128_1_0_s_8_1⟩ : LoadRect S4096x128).idx j)⟩,
    ⟨S512x128, fun j => x0 ((⟨![2, 0], S512x128.size, ![8, 1], inb_S4096x128_S512x128_2_0_s_8_1⟩ : LoadRect S4096x128).idx j)⟩,
    ⟨S512x128, fun j => x0 ((⟨![3, 0], S512x128.size, ![8, 1], inb_S4096x128_S512x128_3_0_s_8_1⟩ : LoadRect S4096x128).idx j)⟩,
    ⟨S512x128, fun j => x0 ((⟨![4, 0], S512x128.size, ![8, 1], inb_S4096x128_S512x128_4_0_s_8_1⟩ : LoadRect S4096x128).idx j)⟩,
    ⟨S512x128, fun j => x0 ((⟨![5, 0], S512x128.size, ![8, 1], inb_S4096x128_S512x128_5_0_s_8_1⟩ : LoadRect S4096x128).idx j)⟩,
    ⟨S512x128, fun j => x0 ((⟨![6, 0], S512x128.size, ![8, 1], inb_S4096x128_S512x128_6_0_s_8_1⟩ : LoadRect S4096x128).idx j)⟩,
    ⟨S512x128, fun j => x0 ((⟨![7, 0], S512x128.size, ![8, 1], inb_S4096x128_S512x128_7_0_s_8_1⟩ : LoadRect S4096x128).idx j)⟩]
    concatenates_S512x128_S512x128_S512x128_S512x128_S512x128_S512x128_S512x128_S512x128_S512x1024_d1

theorem groups_at (x0 : FVec Ideal S4096x128 .f32) (r : Fin 512) (d : Fin 1024) :
    groups x0 (ix2 r d) = x0 (ix2 ⟨8 * r.val + d.val / 128, by omega⟩ ⟨d.val % 128, Nat.mod_lt _ (by decide)⟩) := by
  unfold groups
  pointwise
  split_ifs <;> exact congrArg x0 (congrArg₂ ix2 (Fin.ext (by dsimp only; omega)) (Fin.ext (by dsimp only; omega)))

set_option maxHeartbeats 4000000 in
/-- The middle activations of a block. -/
theorem hidden_at (x0 : FVec Ideal S4096x128 .f32) (x1 x2 : FVec Ideal S1x1x1024x512 .f32) (r k : Fin 512) :
    hidden (F := Ideal) x0 x1 x2 (ix2 r k)
      = mid (fun d => x0 (ix2 ⟨8 * r.val + d.val / 128, by omega⟩ ⟨d.val % 128, Nat.mod_lt _ (by decide)⟩)) (fun d k => x1 (ix4 0 0 d k)) (fun d k => x2 (ix4 0 0 d k)) k := by
  have hC := fun d => groups_at x0 r d
  unfold groups at hC
  unfold hidden k0_pay11
  dsimp only
  generalize (concatenate S512x1024 1 _ _ : FVec Ideal S512x1024 .f32) = C at hC ⊢
  pointwise [mid, silu]
  simp only [hC]

set_option maxHeartbeats 4000000 in
/-- The stored block. -/
theorem blockOut_at (x0 : FVec Ideal S4096x128 .f32) (x1 x2 : FVec Ideal S1x1x1024x512 .f32) (x3 : FVec Ideal S1x1x512x1024 .f32) (y : S4096x128.Idx) (r : Fin 512) (j : Fin 1024)
    (hr : r.val = (y 0).val / 8) (hj : j.val = 128 * ((y 0).val % 8) + (y 1).val) :
    blockOut (F := Ideal) x0 x1 x2 x3 y
      = down (fun d => x0 (ix2 ⟨8 * r.val + d.val / 128, by omega⟩ ⟨d.val % 128, Nat.mod_lt _ (by decide)⟩)) (fun d k => x1 (ix4 0 0 d k)) (fun d k => x2 (ix4 0 0 d k)) (fun k j => x3 (ix4 0 0 k j)) j := by
  have er : (⟨(y 0).val / 8, hr ▸ r.isLt⟩ : Fin 512) = r := Fin.ext hr.symm
  have ej : (⟨128 * ((y 0).val % 8) + (y 1).val, hj ▸ j.isLt⟩ : Fin 1024) = j := Fin.ext hj.symm
  unfold blockOut
  rw [er, ej]
  unfold k0_pay1 whole3of
  pointwise [down]
  simp only [hidden_at]

end Cert.ExpertsIdeal.Walk

end
-- ==== Proof.ExpArr.lean ====
/- The experts' result array over the reals, block by block. -/
module

public import proofs.«01_k».proof.Proof.ExpVal

@[expose] public section

set_option maxRecDepth 16384

noncomputable section

namespace Cert.ExpertsIdeal.Walk

open Cert.NpMath Cert.ExpMath Cert.ExpertsIdeal.Gen Idealize.ShloMosaic Idealize.ShloMosaic.TcCoe Idealize.SL.Sem

variable {F : FTy → Type} [FloatOps F]

/-- The body's test is the comparison of the block's number with the number of used blocks. -/
theorem live_iff (i : grid0.Coords) (w : BitVec 32) (hw : w.toNat < 2 ^ 31) : k0_cond1 i w = 1#1 ↔ (i 0).val < w.toNat := by
  have hb : Scalar.cmpi .slt (BitVec.ofNat 32 (i 0).val) w = if (i 0).val < w.toNat then 1#1 else 0#1 := used_bit _ (i 0).isLt w hw
  unfold k0_cond1
  simp only
  rw [hb]
  by_cases h : (i 0).val < w.toNat
  · rw [if_pos h]; exact ⟨fun _ => h, fun _ => rfl⟩
  · rw [if_neg h]; exact ⟨fun h' => absurd h' (by decide), fun h' => absurd h' h⟩

theorem used_read (c : Dev nD) (u : TabBuf F c usedTab) (w : BitVec 32) (hu : u = fun _ => w) : usedWord c u = w := by
  subst hu; rfl

/-- Every point writes its block back. -/
theorem flush4 (a : (pcfg0 (F := F)).Adm) : ∀ t : Fin (cfg0 a).N, ((cfg0 a).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true)

theorem coord (t : Fin grid0.N) : (grid0.coords t 0).val = t.val := by
  revert t; decide +kernel

theorem index4 (t : Fin grid0.N) : cc0_transform_4 (grid0.coords t) = ![t.val, 0] := by
  revert t; decide +kernel

section
variable (a : (pcfg0 (F := F)).Adm)

theorem place4 (t : Fin (cfg0 a).N) (y : S4096x128.Idx) :
    ((((cfg0 a).win 4).blk t).view.emb y : S663552x128.Idx) = ix2 ⟨4096 * t.val + (y 0).val, by
      have h : t.val < 162 := t.isLt; have h' : (y 0).val < 4096 := (y 0).isLt; omega⟩ ⟨(y 1).val, (y 1).isLt⟩ := by
  funext b
  apply Fin.ext
  match b with
  | ⟨0, _⟩ =>
    have e : cc0_transform_4 (grid0.coords t) 0 = t.val := congrFun (index4 t) 0
    exact (congrArg (fun z : Nat => z * 4096 + 1 * (y 0).val) e).trans (by show t.val * 4096 + 1 * (y 0).val = 4096 * t.val + (y 0).val; omega)
  | ⟨1, _⟩ =>
    have e : cc0_transform_4 (grid0.coords t) 1 = 0 := congrFun (index4 t) 1
    exact (congrArg (fun z : Nat => z * 128 + 1 * (y 1).val) e).trans (by show 0 * 128 + 1 * (y 1).val = (y 1).val; omega)

theorem place0 (t : Fin (cfg0 a).N) (n : Nat) (hn : cc0_transform_0 inb_S1_S1_0 numel1_S1 a.1 (grid0.coords t) = ![n, 0]) (y : S4096x128.Idx) (hb : 4096 * n + (y 0).val < 663552) :
    ((((cfg0 a).win 0).blk t).view.emb y : S663552x128.Idx) = ix2 ⟨4096 * n + (y 0).val, hb⟩ ⟨(y 1).val, (y 1).isLt⟩ := by
  funext b
  apply Fin.ext
  match b with
  | ⟨0, _⟩ =>
    have e : cc0_transform_0 inb_S1_S1_0 numel1_S1 a.1 (grid0.coords t) 0 = n := congrFun hn 0
    exact (congrArg (fun z : Nat => z * 4096 + 1 * (y 0).val) e).trans (by show n * 4096 + 1 * (y 0).val = 4096 * n + (y 0).val; omega)
  | ⟨1, _⟩ =>
    have e : cc0_transform_0 inb_S1_S1_0 numel1_S1 a.1 (grid0.coords t) 1 = 0 := congrFun hn 1
    exact (congrArg (fun z : Nat => z * 128 + 1 * (y 1).val) e).trans (by show 0 * 128 + 1 * (y 1).val = (y 1).val; omega)

theorem place1 (t : Fin (cfg0 a).N) (e : Fin 32) (hn : cc0_transform_1 k0_off1_inb numel1_S1 a.1 (grid0.coords t) = ![0, e.val, 0, 0]) (d : Fin 1024) (k : Fin 512) :
    ((((cfg0 a).win 1).blk t).view.emb (ix4 0 0 d k : S1x1x1024x512.Idx) : S2x32x1024x512.Idx) = ix4 0 e d k := by
  funext b
  apply Fin.ext
  match b with
  | ⟨0, _⟩ => exact (congrArg (fun z : Nat => z * 1 + 1 * 0) (congrFun hn 0)).trans rfl
  | ⟨1, _⟩ => exact (congrArg (fun z : Nat => z * 1 + 1 * 0) (congrFun hn 1)).trans (Nat.mul_one _)
  | ⟨2, _⟩ => exact (congrArg (fun z : Nat => z * 1024 + 1 * d.val) (congrFun hn 2)).trans (by show 0 * 1024 + 1 * d.val = d.val; omega)
  | ⟨3, _⟩ => exact (congrArg (fun z : Nat => z * 512 + 1 * k.val) (congrFun hn 3)).trans (by show 0 * 512 + 1 * k.val = k.val; omega)

theorem place2 (t : Fin (cfg0 a).N) (e : Fin 32) (hn : cc0_transform_2 k0_off1_inb numel1_S1 a.1 (grid0.coords t) = ![0, e.val, 0, 0]) (d : Fin 1024) (k : Fin 512) :
    ((((cfg0 a).win 2).blk t).view.emb (ix4 0 0 d k : S1x1x1024x512.Idx) : S2x32x1024x512.Idx) = ix4 0 e d k := by
  funext b
  apply Fin.ext
  match b with
  | ⟨0, _⟩ => exact (congrArg (fun z : Nat => z * 1 + 1 * 0) (congrFun hn 0)).trans rfl
  | ⟨1, _⟩ => exact (congrArg (fun z : Nat => z * 1 + 1 * 0) (congrFun hn 1)).trans (Nat.mul_one _)
  | ⟨2, _⟩ => exact (congrArg (fun z : Nat => z * 1024 + 1 * d.val) (congrFun hn 2)).trans (by show 0 * 1024 + 1 * d.val = d.val; omega)
  | ⟨3, _⟩ => exact (congrArg (fun z : Nat => z * 512 + 1 * k.val) (congrFun hn 3)).trans (by show 0 * 512 + 1 * k.val = k.val; omega)

theorem place3 (t : Fin (cfg0 a).N) (e : Fin 32) (hn : cc0_transform_3 k0_off1_inb numel1_S1 a.1 (grid0.coords t) = ![0, e.val, 0, 0]) (k : Fin 512) (d : Fin 1024) :
    ((((cfg0 a).win 3).blk t).view.emb (ix4 0 0 k d : S1x1x512x1024.Idx) : S2x32x512x1024.Idx) = ix4 0 e k d := by
  funext b
  apply Fin.ext
  match b with
  | ⟨0, _⟩ => exact (congrArg (fun z : Nat => z * 1 + 1 * 0) (congrFun hn 0)).trans rfl
  | ⟨1, _⟩ => exact (congrArg (fun z : Nat => z * 1 + 1 * 0) (congrFun hn 1)).trans (Nat.mul_one _)
  | ⟨2, _⟩ => exact (congrArg (fun z : Nat => z * 512 + 1 * k.val) (congrFun hn 2)).trans (by show 0 * 512 + 1 * k.val = k.val; omega)
  | ⟨3, _⟩ => exact (congrArg (fun z : Nat => z * 1024 + 1 * d.val) (congrFun hn 3)).trans (by show 0 * 1024 + 1 * d.val = d.val; omega)

/-- The blocks cover the array. -/
theorem cover4 (i : S663552x128.Idx) : ∃ t : Fin (cfg0 a).N, ((cfg0 a).win 4).flush t = true ∧ i ∈ (((cfg0 a).win 4).blk t).view.set := by
  have h0 : (i 0).val < 663552 := (i 0).isLt
  have h1 : (i 1).val < 128 := (i 1).isLt
  obtain ⟨t, ht⟩ : ∃ t : Fin grid0.N, t.val = (i 0).val / 4096 := ⟨⟨(i 0).val / 4096, (by omega : (i 0).val / 4096 < 162)⟩, rfl⟩
  have e := place4 a t (ix2 ⟨(i 0).val % 4096, Nat.mod_lt _ (by decide)⟩ ⟨(i 1).val, h1⟩)
  refine ⟨t, flush4 a t, (congrArg (fun z => z ∈ (((cfg0 a).win 4).blk t).view.set) (e.trans ?_)).mp (View.emb_mem_set _ _)⟩
  funext b
  apply Fin.ext
  match b with
  | ⟨0, _⟩ => show 4096 * t.val + (i 0).val % 4096 = (i 0).val; omega
  | ⟨1, _⟩ => rfl
end

variable (m : (ℓ : Loc nD τ sig) → Buf (Elt Ideal) ℓ)

/-- The expert of each block, as a number. -/
def expert (c : Dev nD) (i : Fin 162) : Fin 32 := ⟨(expertOf (ends (counts m c)) (ix1 i)).toNat, Nat.lt_succ_of_le (expert_le _ _)⟩
/-- The number of used blocks, as a word. -/
def usedBlocks (c : Dev nD) : BitVec 32 := usedOf (ends (counts m c))

theorem block0_at (h : Fits m) (c : Dev nD) (t : Fin (theCall m h).N) (n : Nat) (hn : cc0_transform_0 inb_S1_S1_0 numel1_S1 (tables m) (grid0.coords t) = ![n, 0])
    (y : S4096x128.Idx) (hb : 4096 * n + (y 0).val < 663552) :
    (blockIn m h c 0 t : FVec Ideal S4096x128 .f32) y = (m ((c : Thread nD τ).loc main_arg0) : Rows) (ix2 ⟨4096 * n + (y 0).val, hb⟩ ⟨(y 1).val, (y 1).isLt⟩) :=
  (congrArg (entry m c main_arg0) (place0 (accepted m h) t n hn y hb)).trans (congrFun (entry_arg m (b := main_arg0) (by simp) c) _)

theorem block1_at (h : Fits m) (c : Dev nD) (t : Fin (theCall m h).N) (e : Fin 32) (hn : cc0_transform_1 k0_off1_inb numel1_S1 (tables m) (grid0.coords t) = ![0, e.val, 0, 0]) (d : Fin 1024) (k : Fin 512) :
    (blockIn m h c 1 t : FVec Ideal S1x1x1024x512 .f32) (ix4 0 0 d k) = (m ((c : Thread nD τ).loc main_arg2) : Wide) (ix4 0 e d k) :=
  (congrArg (entry m c main_arg2) (place1 (accepted m h) t e hn d k)).trans (congrFun (entry_arg m (b := main_arg2) (by simp) c) _)

theorem block2_at (h : Fits m) (c : Dev nD) (t : Fin (theCall m h).N) (e : Fin 32) (hn : cc0_transform_2 k0_off1_inb numel1_S1 (tables m) (grid0.coords t) = ![0, e.val, 0, 0]) (d : Fin 1024) (k : Fin 512) :
    (blockIn m h c 2 t : FVec Ideal S1x1x1024x512 .f32) (ix4 0 0 d k) = (m ((c : Thread nD τ).loc main_arg3) : Wide) (ix4 0 e d k) :=
  (congrArg (entry m c main_arg3) (place2 (accepted m h) t e hn d k)).trans (congrFun (entry_arg m (b := main_arg3) (by simp) c) _)

theorem block3_at (h : Fits m) (c : Dev nD) (t : Fin (theCall m h).N) (e : Fin 32) (hn : cc0_transform_3 k0_off1_inb numel1_S1 (tables m) (grid0.coords t) = ![0, e.val, 0, 0]) (k : Fin 512) (d : Fin 1024) :
    (blockIn m h c 3 t : FVec Ideal S1x1x512x1024 .f32) (ix4 0 0 k d) = (m ((c : Thread nD τ).loc main_arg4) : Deep) (ix4 0 e k d) :=
  (congrArg (entry m c main_arg4) (place3 (accepted m h) t e hn k d)).trans (congrFun (entry_arg m (b := main_arg4) (by simp) c) _)

/-- What a point leaves in the result's block. -/
theorem left_at (h : Fits m) (c : Dev nD) (hp : 1 ≤ (usedBlocks m c).toNat ∧ (usedBlocks m c).toNat < 2 ^ 31) (t : Fin (theCall m h).N) (y : S4096x128.Idx)
    (i : Fin 162) (r : Fin 512) (j : Fin 1024) (hi : i.val = t.val) (hr : r.val = (y 0).val / 8) (hj : j.val = 128 * ((y 0).val % 8) + (y 1).val) :
    left m h c t y = expV (m ((c : Thread nD τ).loc main_arg0)) (expert m c) (usedBlocks m c).toNat (m ((c : Thread nD τ).loc main_arg2)) (m ((c : Thread nD τ).loc main_arg3))
      (m ((c : Thread nD τ).loc main_arg4)) i r j := by
  have hc : c = 0 := Subsingleton.elim _ _
  have hu : tables m 1 = fun _ => usedBlocks m c := by rw [hc]; exact used_table m 0
  have hE : tables m 0 = expertOf (ends (counts m c)) := by rw [hc]; exact expert_table m 0
  have ht : (grid0.coords t 0).val = i.val := (coord t).trans hi.symm
  have hti : grid0.coords t 0 = i := Fin.ext ht
  unfold left expV
  rw [used_read c (tables m 1) _ hu]
  by_cases hlt : i.val < (usedBlocks m c).toNat
  · rw [if_pos ((live_iff _ _ hp.2).mpr (ht.symm ▸ hlt)), if_pos hlt]
    have n0 : cc0_transform_0 inb_S1_S1_0 numel1_S1 (tables m) (grid0.coords t) = ![i.val, 0] := by
      rw [index_rows (tables m) _ hu, row_block _ hp _ (grid0.coords t 0).isLt, ht, Nat.min_eq_left (by omega)]
    have n1 : cc0_transform_1 k0_off1_inb numel1_S1 (tables m) (grid0.coords t) = ![0, (expert m c i).val, 0, 0] := by
      rw [index_gate (tables m) _ hE, hti]; rfl
    have n2 : cc0_transform_2 k0_off1_inb numel1_S1 (tables m) (grid0.coords t) = ![0, (expert m c i).val, 0, 0] := by
      rw [index_up (tables m) _ hE, hti]; rfl
    have n3 : cc0_transform_3 k0_off1_inb numel1_S1 (tables m) (grid0.coords t) = ![0, (expert m c i).val, 0, 0] := by
      rw [index_down (tables m) _ hE, hti]; rfl
    have e0 : ∀ d : Fin 1024, (blockIn m h c 0 t : FVec Ideal S4096x128 .f32) (ix2 ⟨8 * r.val + d.val / 128, by omega⟩ ⟨d.val % 128, Nat.mod_lt _ (by decide)⟩)
        = row (m ((c : Thread nD τ).loc main_arg0)) i r d := by
      intro d
      refine (block0_at m h c t i.val n0 _ (by show 4096 * i.val + (8 * r.val + d.val / 128) < 663552; omega)).trans ?_
      unfold row
      exact congrArg _ (congrArg₂ ix2 (Fin.ext (by show 4096 * i.val + (8 * r.val + d.val / 128) = i.val * 4096 + r.val * 8 + d.val / 128; omega)) rfl)
    exact (blockOut_at (blockIn m h c 0 t) (blockIn m h c 1 t) (blockIn m h c 2 t) (blockIn m h c 3 t) y r j hr hj).trans
      (down_congr j e0 (block1_at m h c t _ n1) (block2_at m h c t _ n2) (block3_at m h c t _ n3))
  · rw [if_neg (fun h' => hlt (ht ▸ (live_iff _ _ hp.2).mp h')), if_neg hlt]
    unfold k0_pay10
    pointwise

/-- … which is the result array's block. -/
theorem left_arr (h : Fits m) (c : Dev nD) (hp : 1 ≤ (usedBlocks m c).toNat ∧ (usedBlocks m c).toNat < 2 ^ 31) (t : Fin (theCall m h).N) (y : S4096x128.Idx) :
    left m h c t y = expArr (m ((c : Thread nD τ).loc main_arg0)) (expert m c) (usedBlocks m c).toNat (m ((c : Thread nD τ).loc main_arg2))
      (m ((c : Thread nD τ).loc main_arg3)) (m ((c : Thread nD τ).loc main_arg4)) ((((theCall m h).win 4).blk t).view.emb y) := by
  have h0 : (y 0).val < 4096 := (y 0).isLt
  have h1 : (y 1).val < 128 := (y 1).isLt
  have ht : t.val < 162 := t.isLt
  refine (left_at m h c hp t y ⟨t.val, ht⟩ ⟨(y 0).val / 8, by omega⟩ ⟨128 * ((y 0).val % 8) + (y 1).val, by omega⟩ rfl rfl rfl).trans ?_
  refine Eq.trans ?_ (congrArg _ (place4 (accepted m h) t y).symm)
  have q0 : (4096 * t.val + (y 0).val) / 4096 = t.val := by omega
  have q1 : (4096 * t.val + (y 0).val) % 4096 / 8 = (y 0).val / 8 := by omega
  have q2 : (4096 * t.val + (y 0).val) % 8 = (y 0).val % 8 := by omega
  unfold expArr
  refine congr (congr (congrArg (expV _ _ _ _ _ _) (Fin.ext q0.symm)) (Fin.ext q1.symm)) (Fin.ext ?_)
  show _ = 128 * ((4096 * t.val + (y 0).val) % 8) + (y 1).val
  rw [q2]

/-- The result array after the run. -/
theorem arr (h : Fits m) (c : Dev nD) (hp : 1 ≤ (usedBlocks m c).toNat ∧ (usedBlocks m c).toNat < 2 ^ 31) :
    (dats m h 0 c).arrAt 4 (theCall m h).N = expArr (m ((c : Thread nD τ).loc main_arg0)) (expert m c) (usedBlocks m c).toNat (m ((c : Thread nD τ).loc main_arg2))
      (m ((c : Thread nD τ).loc main_arg3)) (m ((c : Thread nD τ).loc main_arg4)) :=
  (dats m h 0 c).arrAt_eq_of_emb 4 _ (fun t _ y => (cast_eq _ _).trans ((congrFun (left4 m h c t) _).trans (left_arr m h c hp t y))) (cover4 (accepted m h))

end Cert.ExpertsIdeal.Walk

end
-- ==== Proof.ExpRefVal.lean ====
/- The experts' reference over the reals: each block of rows through its own expert. -/
module

public import proofs.«01_k».proof.Proof.Gen.ExpertsRefIdeal.Run
public import proofs.«01_k».proof.Proof.ExpMath
public import Idealize.ShloMosaic.Lib.StableHlo.ReadAt
public import Idealize.ShloMosaic.Lib.StableHlo.Predicate

@[expose] public section

set_option maxRecDepth 16384

noncomputable section

namespace Cert.ExpertsRefIdeal.Val

open Cert.NpMath Cert.ExpMath Cert.ExpertsRefIdeal Cert.ExpertsRefIdeal.Gen Cert.ExpertsRefIdeal.Value Idealize.ShloMosaic Idealize.ShloMosaic.TcCoe Idealize.SL.Sem

/-- The dimension numbers of taking one expert's matrix per block. -/
abbrev takeDims (A B : Nat) (wf : GatherDims.WF ⟨4, ![2, 32, A, B]⟩ ⟨2, ![162, 4]⟩ ⟨5, ![162, 1, 1, A, B]⟩ [1, 2, 3, 4] [] [] [0, 1, 2, 3] [] 1 ![1, 1, A, B]) :
    GatherDims ⟨4, ![2, 32, A, B]⟩ ⟨2, ![162, 4]⟩ ⟨5, ![162, 1, 1, A, B]⟩ where
  offsetDims := [1, 2, 3, 4]
  collapsedSliceDims := []
  operandBatchingDims := []
  startIndicesBatchingDims := []
  startIndexMap := [0, 1, 2, 3]
  indexVectorDim := 1
  sliceSizes := ![1, 1, A, B]
  wf := wf

/-- Where the start indices name layer 0, expert `e` and the matrix's corner, the block gets expert `e`'s matrix. -/
theorem take_at {A B : Nat} (wf) (x : (⟨4, ![2, 32, A, B]⟩ : Shape).Idx → EReal) (idx : IVec ⟨2, ![162, 4]⟩ 32) (i : Fin 162) (a : Fin A) (b : Fin B) (e : Fin 32)
    (h0 : idx (ix2 i 0) = 0#32) (h1 : idx (ix2 i 1) = BitVec.ofNat 32 e.val) (h2 : idx (ix2 i 2) = 0#32) (h3 : idx (ix2 i 3) = 0#32) :
    Host.gather (takeDims A B wf) x idx (ix5 i 0 0 a b) = x (ix4 0 e a b) := by
  unfold Host.gather
  refine congrArg x (funext fun q => Fin.ext ?_)
  have si : ∀ (n : Fin 4) (hn : n.val < (takeDims A B wf).startIndexMap.length), (takeDims A B wf).siIdx (ix5 i 0 0 a b) ⟨n.val, hn⟩ = ix2 i n := by
    intro n hn
    funext p
    apply Fin.ext
    match p with
    | ⟨0, _⟩ => rfl
    | ⟨1, _⟩ => rfl
  have he : (BitVec.ofNat 32 e.val).toInt = e.val := StableHlo.Predicate.toInt_ofNat_small _ (by omega)
  show (takeDims A B wf).start (ix5 i 0 0 a b) idx q + (takeDims A B wf).batchCoord (ix5 i 0 0 a b) q + (takeDims A B wf).offCoord (ix5 i 0 0 a b) q = _
  rw [GatherDims.batchCoord_eq_zero _ _ _ List.not_mem_nil]
  unfold GatherDims.start
  match q with
  | ⟨0, _⟩ =>
    rw [dif_pos]
    swap; · exact (show (0 : Fin 4) ∈ ([0, 1, 2, 3] : List (Fin 4)) from by decide)
    refine (congrArg₂ (fun u v : Nat => u + 0 + v) (congrArg (fun z : BitVec 32 => min z.toInt.toNat 1) ((congrArg idx (si 0 (show 0 < 4 by decide))).trans h0)) rfl).trans ?_
    rfl
  | ⟨1, _⟩ =>
    rw [dif_pos]
    swap; · exact (show (1 : Fin 4) ∈ ([0, 1, 2, 3] : List (Fin 4)) from by decide)
    refine (congrArg₂ (fun u v : Nat => u + 0 + v) (congrArg (fun z : BitVec 32 => min z.toInt.toNat 31) ((congrArg idx (si 1 (show 1 < 4 by decide))).trans h1)) (y := 0) rfl).trans ?_
    show min (BitVec.ofNat 32 e.val).toInt.toNat 31 + 0 + 0 = e.val
    rw [he]; omega
  | ⟨2, _⟩ =>
    rw [dif_pos]
    swap; · exact (show (2 : Fin 4) ∈ ([0, 1, 2, 3] : List (Fin 4)) from by decide)
    refine (congrArg₂ (fun u v : Nat => u + 0 + v) (congrArg (fun z : BitVec 32 => min z.toInt.toNat (A - A)) ((congrArg idx (si 2 (show 2 < 4 by decide))).trans h2)) (y := a.val) rfl).trans ?_
    show min 0 (A - A) + 0 + a.val = a.val
    omega
  | ⟨3, _⟩ =>
    rw [dif_pos]
    swap; · exact (show (3 : Fin 4) ∈ ([0, 1, 2, 3] : List (Fin 4)) from by decide)
    refine (congrArg₂ (fun u v : Nat => u + 0 + v) (congrArg (fun z : BitVec 32 => min z.toInt.toNat (B - B)) ((congrArg idx (si 3 (show 3 < 4 by decide))).trans h3)) (y := b.val) rfl).trans ?_
    show min 0 (B - B) + 0 + b.val = b.val
    omega

variable (V : Valuation τ sig (Elt Ideal))

/-- The start indices of the blocks' matrices: layer 0, the block's expert, the corner. -/
def starts (E : IVec S162 32) (p q : BitVec 32) : IVec S162x4 32 :=
  concatenate S162x4 1 [
    ⟨S162x1, broadcastInDim S162x1 ![] bcast_S_S162x1 (select (cmpi .slt (constantI S_ 32 0#32) (constantI S_ 32 0#32)) (addi (constantI S_ 32 0#32) (constantI S_ 32 2#32)) (constantI S_ 32 0#32))⟩,
    ⟨S162x1, broadcastInDim S162x1 ![0] bcast_S162_S162x1_0 (select (cmpi .slt E (broadcastInDim S162 ![] bcast_S_S162 (constantI S_ 32 0#32))) (addi E (broadcastInDim S162 ![] bcast_S_S162 (constantI S_ 32 32#32))) E)⟩,
    ⟨S162x1, broadcastInDim S162x1 ![] bcast_S_S162x1 (select (cmpi .slt (constantI S_ 32 0#32) (constantI S_ 32 0#32)) (addi (constantI S_ 32 0#32) (constantI S_ 32 p)) (constantI S_ 32 0#32))⟩,
    ⟨S162x1, broadcastInDim S162x1 ![] bcast_S_S162x1 (select (cmpi .slt (constantI S_ 32 0#32) (constantI S_ 32 0#32)) (addi (constantI S_ 32 0#32) (constantI S_ 32 q)) (constantI S_ 32 0#32))⟩]
    concatenates_S162x1_S162x1_S162x1_S162x1_S162x4_d1

theorem starts0 (E p q) (i : Fin 162) : starts E p q (ix2 i 0) = 0#32 := by
  unfold starts; pointwise; rfl
theorem starts2 (E p q) (i : Fin 162) : starts E p q (ix2 i 2) = 0#32 := by
  unfold starts; pointwise; rfl
theorem starts3 (E p q) (i : Fin 162) : starts E p q (ix2 i 3) = 0#32 := by
  unfold starts; pointwise; rfl
theorem starts1 (E : IVec S162 32) (p q) (i : Fin 162) (e : Fin 32) (he : E (ix1 i) = BitVec.ofNat 32 e.val) : starts E p q (ix2 i 1) = BitVec.ofNat 32 e.val := by
  unfold starts; pointwise
  rw [he]
  have hn : IntOp.cmpi .slt (BitVec.ofNat 32 e.val) 0#32 = 0#1 := by clear he; revert e; decide
  rw [hn]; rfl

variable (V : Valuation τ sig (Elt Ideal))

/-- Each block's own gate or up-projection. -/
theorem wide_at (i : Fin 162) (e : Fin 32) (E : IVec S162 32) (he : E (ix1 i) = BitVec.ofNat 32 e.val) (w : Wide) (d : Fin 1024) (k : Fin 512) :
    Host.gather gather_S2x32x1024x512_S162x4_S162x1x1x1024x512_1234_n_n_n_0123_1_111024512 w (starts E 1024#32 512#32) (ix5 i 0 0 d k) = w (ix4 0 e d k) :=
  take_at gather_S2x32x1024x512_S162x4_S162x1x1x1024x512_1234_n_n_n_0123_1_111024512_wf w _ i d k e (starts0 _ _ _ _) (starts1 _ _ _ _ _ he) (starts2 _ _ _ _) (starts3 _ _ _ _)

/-- Each block's own down-projection. -/
theorem deep_at (i : Fin 162) (e : Fin 32) (E : IVec S162 32) (he : E (ix1 i) = BitVec.ofNat 32 e.val) (w : Deep) (k : Fin 512) (d : Fin 1024) :
    Host.gather gather_S2x32x512x1024_S162x4_S162x1x1x512x1024_1234_n_n_n_0123_1_115121024 w (starts E 512#32 1024#32) (ix5 i 0 0 k d) = w (ix4 0 e k d) :=
  take_at gather_S2x32x512x1024_S162x4_S162x1x1x512x1024_1234_n_n_n_0123_1_115121024_wf w _ i k d e (starts0 _ _ _ _) (starts1 _ _ _ _ _ he) (starts2 _ _ _ _) (starts3 _ _ _ _)

set_option maxHeartbeats 4000000 in
/-- The gates before their activation. -/
theorem gate_at (i : Fin 162) (r k : Fin 512) (e : Fin 32) (he : res_main_v19 V (ix1 i) = BitVec.ofNat 32 e.val) :
    (res_main_v42 V : FVec Ideal S162x512x512 .f32) (ix3 i r k) = ∑ d : Fin 1024, row (V (Proc.devRef .tc main_arg0)) i r d * (V (Proc.devRef .tc main_arg2) : Wide) (ix4 0 e d k) := by
  have hG := wide_at i e (res_main_v19 V) he (V (Proc.devRef .tc main_arg2))
  unfold starts at hG
  unfold res_main_v42 res_main_v20
  generalize Host.gather gather_S2x32x1024x512_S162x4_S162x1x1x1024x512_1234_n_n_n_0123_1_111024512 _ _ = G at hG ⊢
  generalize V (Proc.devRef .tc main_arg0) = x
  pointwise [row]
  simp only [hG]

/-- The number of used blocks. -/
def usedWord : IVec S_ 32 :=
  select (andi (cmpi .ne (signi (res_main_v91 V)) (signi (res_main_call3_v0 V))) (cmpi .ne (Host.remsi (res_main_v91 V) (res_main_call3_v0 V)) (constantI S_ 32 0#32))) (subi (res_main_call3_v1 V) (constantI S_ 32 1#32)) (res_main_call3_v1 V)

/-- The reference's result. -/
def result : FVec Ideal S663552x128 .f32 :=
  shapeCast _ (select (broadcastInDim S162x512x1024 ![0, 1, 2] bcast_S162x1x1_S162x512x1024_0_1_2 (broadcastInDim S162x1x1 ![0] bcast_S162_S162x1x1_0 (cmpi .slt (iotaInDim S162 32 0) (broadcastInDim S162 ![] bcast_S_S162 (usedWord V))))) (Host.dotGeneral (φ₁ := .f32) (φ₂ := .f32) dot_S162x512x512_S162x512x1024_S162x512x1024_2_1_1_2_0_0 none (mulf (mulf (res_main_v42 V) (Host.divf (broadcastInDim S162x512x512 ![] bcast_S_S162x512x512 (constant S_ .f32 0x3F800000#32)) (addf (broadcastInDim S162x512x512 ![] bcast_S_S162x512x512 (constant S_ .f32 0x3F800000#32)) (Host.exp (Host.negf (res_main_v42 V)))))) (Host.dotGeneral (φ₁ := .f32) (φ₂ := .f32) dot_S162x512x1024_S162x1024x512_S162x512x512_2_1_1_2_0_0 none (res_main_v20 V) (shapeCast _ (Host.gather gather_S2x32x1024x512_S162x4_S162x1x1x1024x512_1234_n_n_n_0123_1_111024512 (V (Proc.devRef .tc main_arg3)) (starts (res_main_v19 V) 1024#32 512#32)) shapeCasts_S162x1x1x1024x512_S162x1024x512))) (shapeCast _ (Host.gather gather_S2x32x512x1024_S162x4_S162x1x1x512x1024_1234_n_n_n_0123_1_115121024 (V (Proc.devRef .tc main_arg4)) (starts (res_main_v19 V) 512#32 1024#32)) shapeCasts_S162x1x1x512x1024_S162x512x1024)) (broadcastInDim S162x512x1024 ![] bcast_S_S162x512x1024 (id (constant S_ .f32 0x00000000#32)))) shapeCasts_S162x512x1024_S663552x128

set_option maxHeartbeats 4000000 in
/-- The reference's result at lane `l` of group `g` of row `r` of block `i`. -/
theorem result_at (E : Fin 162 → Fin 32) (hE : ∀ i, res_main_v19 V (ix1 i) = BitVec.ofNat 32 (E i).val) (u : BitVec 32) (hu : 1 ≤ u.toNat ∧ u.toNat < 2 ^ 31)
    (hw : ∀ y, usedWord V y = u) (y : S663552x128.Idx) (i : Fin 162) (r : Fin 512) (j : Fin 1024)
    (hi : i.val = (y 0).val / 4096) (hr : r.val = (y 0).val % 4096 / 8) (hj : j.val = 128 * ((y 0).val % 8) + (y 1).val) :
    result V y = expV (V (Proc.devRef .tc main_arg0)) E u.toNat (V (Proc.devRef .tc main_arg2)) (V (Proc.devRef .tc main_arg3)) (V (Proc.devRef .tc main_arg4)) i r j := by
  have hg := gate_at V i r
  have hU := wide_at i _ (res_main_v19 V) (hE i) (V (Proc.devRef .tc main_arg3))
  have hD := deep_at i _ (res_main_v19 V) (hE i) (V (Proc.devRef .tc main_arg4))
  unfold result
  generalize Host.gather gather_S2x32x1024x512_S162x4_S162x1x1x1024x512_1234_n_n_n_0123_1_111024512 _ _ = U at hU ⊢
  generalize Host.gather gather_S2x32x512x1024_S162x4_S162x1x1x512x1024_1234_n_n_n_0123_1_115121024 _ _ = D at hD ⊢
  generalize usedWord V = W at hw ⊢
  unfold res_main_v20
  generalize V (Proc.devRef .tc main_arg0) = x at hg ⊢
  have y0 : (y 0).val < 663552 := (y 0).isLt
  have y1 : (y 1).val < 128 := (y 1).isLt
  have ei : (⟨(y 0).val / 4096, by omega⟩ : Fin 162) = i := Fin.ext hi.symm
  have er : (⟨(y 0).val / 8 % 512, by omega⟩ : Fin 512) = r := Fin.ext (by dsimp only; omega)
  have ej : (⟨(y 0).val % 8 * 128 + (y 1).val, by omega⟩ : Fin 1024) = j := Fin.ext (by dsimp only; omega)
  pointwise
  simp only [ei, er, ej]
  rw [hw, used_bit _ (by omega) u hu.2]
  unfold expV
  by_cases hlt : (y 0).val / 4096 < u.toNat
  · rw [if_pos hlt, if_pos (by rw [hi]; exact hlt)]
    have hd : ∀ d : Fin 1024, (x : Rows) (ix2 ⟨(y 0).val / 4096 * 4096 + (y 0).val / 8 % 512 * 8 + d.val / 128, by omega⟩ ⟨d.val % 128, Nat.mod_lt _ (by decide)⟩) = row x i r d := by
      intro d; unfold row; exact congrArg x (congrArg₂ ix2 (Fin.ext (by dsimp only; omega)) rfl)
    simp only [hg _ _ (hE i), hd, hU, hD]
    unfold down mid silu
    pointwise
    simp only [zero_sub]
  · rw [if_neg hlt, if_neg (by rw [hi]; exact hlt)]
    exact Idealize.ShloMosaic.Ideal.ofBits_zero .f32

theorem result_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run (F := Ideal) m ρ

end Cert.ExpertsRefIdeal.Val

end
-- ==== Proof.ExpSame.lean ====
/- The experts' program and its idealization have the same text: their body tables and their main programs are equal. -/
module

public import proofs.«01_k».proof.Experts
public import proofs.«01_k».proof.ExpertsIdeal
public import proofs.«01_k».proof.Proof.Gen.Experts
public import proofs.«01_k».proof.Proof.Gen.ExpertsIdeal
public import Idealize.ShloMosaic.Init
public import Idealize.ShloMosaic.Adequacy

@[expose] public section

set_option maxRecDepth 16384

noncomputable section

namespace Cert.Experts

open Idealize.ShloMosaic Idealize.ShloMosaic.TcCoe Idealize.SL.Sem

variable {F : FTy → Type} [FloatOps F]

set_option maxHeartbeats 1000000 in
/-- The kernel bodies of the two programs are equal. -/
theorem same_bodies : @Cert.ExpertsIdeal.defs₀ F _ _ = @Cert.Experts.defs₀ F _ _ := by
  unfold Cert.ExpertsIdeal.defs₀ Cert.Experts.defs₀
  refine congrArg Defs.onTc ?_
  funext l x
  match l, x with
  | 0, (t, s) => rfl

set_option maxHeartbeats 4000000 in
/-- Their tables of bodies, the pipelines with them, are equal. -/
theorem same_defs : @Cert.ExpertsIdeal.defs F _ _ = @Cert.Experts.defs F _ _ := by
  unfold Cert.ExpertsIdeal.defs Cert.Experts.defs
  exact congrArg (Pipeline.defs (Cert.Experts.pcfgs (F := F))) same_bodies

set_option maxHeartbeats 4000000 in
/-- Their main programs are equal. -/
theorem same_main : @Cert.ExpertsIdeal.main F _ _ = @Cert.Experts.main F _ _ := by
  unfold Cert.ExpertsIdeal.main Cert.Experts.main
  rfl

/-- A run of equal tables and equal programs. -/
theorem run_of_eq (D : Defs nD τ sig (Elt F) (Pipeline.Sig Λ₀ (Fin 1) fun p => (pcfgs (F := F) p).Adm))
    (M : Dev nD → Prog (TpuEff nD τ sig (Elt F) (Pipeline.Sig Λ₀ (Fin 1) fun p => (pcfgs (F := F) p).Adm) .tc) PUnit)
    (hD : D = defs) (hM : M = main) (s) (Q) (h : θ_run D (onTc (τ := τ) M) s Q) : θ_run (defs (F := F)) (onTc (τ := τ) (main (F := F))) s Q := by
  subst hD hM; exact h

end Cert.Experts

end
-- ==== Proof.ExpEnd.lean ====
/- The experts: the frames, and that the kernel's program and the reference compute the same array. -/
module

public import proofs.«01_k».proof.Defs
public import proofs.«01_k».proof.Proof.ExpArr
public import proofs.«01_k».proof.Proof.ExpRefVal
public import proofs.«01_k».proof.Proof.ExpSame
public import Idealize.ShloMosaic.Lib.Quiescent

@[expose] public section

set_option maxRecDepth 16384

noncomputable section

namespace Cert.ExpertsRefIdeal.Val

open Cert.ExpertsRefIdeal Cert.ExpertsRefIdeal.Gen Cert.ExpertsRefIdeal.Value Idealize.ShloMosaic Idealize.ShloMosaic.TcCoe Idealize.SL.Sem
open Cert.ExpertsIdeal.Walk (ends expertOf usedOf perBlock)

attribute [local irreducible] Host.reduceWindow Host.reduce

variable (V : Valuation τ sig (Elt Ideal))

/-- Where each expert's padded rows end, the same in the reference. -/
theorem ends_eq : (res_main_v7 V : IVec S32 32) = ends (V (Proc.devRef .tc main_arg1)) := by
  unfold res_main_v7 ends
  have hin : (muli (select (andi (cmpi .ne (signi (res_main_v3 V)) (broadcastInDim S32 ![] bcast_S_S32 (signi (res_main_call0_v0 V)))) (cmpi .ne (Host.remsi (res_main_v3 V) (broadcastInDim S32 ![] bcast_S_S32 (res_main_call0_v0 V))) (broadcastInDim S32 ![] bcast_S_S32 (constantI S_ 32 0#32)))) (subi (res_main_call0_v2 V) (broadcastInDim S32 ![] bcast_S_S32 (constantI S_ 32 1#32))) (res_main_call0_v2 V)) (broadcastInDim S32 ![] bcast_S_S32 (constantI S_ 32 512#32)) : IVec S32 32)
      = fun i => IntOp.muli (perBlock (IntOp.subi (IntOp.addi ((V (Proc.devRef .tc main_arg1) : IVec S32 32) i) 512#32) 1#32)) 512#32 := by
    funext i
    unfold perBlock res_main_call0_v2 res_main_call0_v0 res_main_v3
    simp only [select, andi, cmpi, signi, Host.remsi, Host.divsi, subi, addi, muli, broadcastInDim, constantI, id_eq]
    rfl
  have hz : (broadcastInDim S_ ![] bcast_S_S_ (constantI S_ 32 0#32) : IVec S_ 32) = fun _ => 0#32 := rfl
  exact congrArg₂ (fun a b => Host.reduceWindow IntOp.addi ![32] ![1] ![31] ![0] a b reduceWindows_S32_S32_w32s1p31_0 h_S_) hin hz

/-- The expert of each block, the same in the reference. -/
theorem expert_eq : (res_main_v19 V : IVec S162 32) = expertOf (ends (V (Proc.devRef .tc main_arg1))) := by
  unfold res_main_v19
  rw [ends_eq]
  funext b
  unfold expertOf
  rfl

/-- The number of used blocks, the same in the reference. -/
theorem used_eq (y : S_.Idx) : usedWord V y = usedOf (ends (V (Proc.devRef .tc main_arg1))) := by
  have h91 : (res_main_v91 V : IVec S_ 32) = fun _ => ends (V (Proc.devRef .tc main_arg1)) (ix1 31) := by
    unfold res_main_v91
    rw [ends_eq]
    funext z
    refine congrArg (ends (V (Proc.devRef .tc main_arg1))) (funext fun a => Fin.ext ?_)
    match a with
    | ⟨0, _⟩ => simp [Shape.reshapeEquiv]
  unfold usedWord res_main_call3_v1 res_main_call3_v0
  rw [h91]
  unfold usedOf perBlock
  simp only [select, andi, cmpi, signi, Host.remsi, Host.divsi, subi, constantI, id_eq]
  rfl

end Cert.ExpertsRefIdeal.Val

namespace Cert.Experts

open Cert.NpMath Cert.ExpMath Idealize.ShloMosaic Idealize.ShloMosaic.TcCoe Idealize.SL.Sem
open Cert.ExpertsIdeal.Walk (fits pre_used used_pos counts ends expertOf usedOf expert usedBlocks runs_all runs_frame arr)

theorem ideal_frame : Cert.quiescent_ExpertsIdeal (hExpertsIdeal := Cert.ExpertsIdeal.Gen.facts) (hPre_some_rows := Cert.Pre_some_rows.Gen.facts) := fun m ρ h =>
  runs_frame (F := Ideal) m ρ (fits m (pre_used _ _ _ _ _ (h 0)))

set_option maxHeartbeats 4000000 in
theorem frame : Cert.quiescent_Experts (hExperts := Cert.Experts.Gen.facts) (hPre_some_rows := Cert.Pre_some_rows.Gen.facts) := fun m ρ h =>
  have hf : Cert.ExpertsIdeal.Walk.Fits (F := Bits) m := fits (F := Bits) m (pre_used (F := Bits) _ (counts (F := Bits) m 0) _ _ _ (h 0))
  run_of_eq _ _ same_defs same_main _ _ (runs_frame (F := Bits) m ρ hf)

theorem ref_frame : Cert.quiescent_ExpertsRefIdeal (hExpertsRefIdeal := Cert.ExpertsRefIdeal.Gen.facts) := fun m g _ =>
  (θ_run _ _ _).mono (fun r h => ⟨fun c => (h c).2, sem_eq_zero_of_no_sems (by decide) r.2⟩) (Cert.ExpertsRefIdeal.Val.result_eq m g)

/-- The reference's array, of the kernel's arguments. -/
theorem ref_arr (V : Valuation Cert.ExpertsRefIdeal.τ Cert.ExpertsRefIdeal.sig (Elt Ideal)) (x : Rows) (cnt : IVec S32 32) (wg wu : Wide) (wd : Deep) (E : Fin 162 → Fin 32)
    (hE : ∀ i, expertOf (ends cnt) (ix1 i) = BitVec.ofNat 32 (E i).val) (hu : 1 ≤ (usedOf (ends cnt)).toNat ∧ (usedOf (ends cnt)).toNat < 2 ^ 31)
    (e0 : V (Proc.devRef .tc Cert.ExpertsRefIdeal.main_arg0) = x) (e1 : V (Proc.devRef .tc Cert.ExpertsRefIdeal.main_arg1) = cnt)
    (e2 : V (Proc.devRef .tc Cert.ExpertsRefIdeal.main_arg2) = wg) (e3 : V (Proc.devRef .tc Cert.ExpertsRefIdeal.main_arg3) = wu)
    (e4 : V (Proc.devRef .tc Cert.ExpertsRefIdeal.main_arg4) = wd) :
    Cert.ExpertsRefIdeal.Val.result V = expArr x E (usedOf (ends cnt)).toNat wg wu wd := by
  subst e0 e1 e2 e3 e4
  funext y
  have y0 : (y 0).val < 663552 := (y 0).isLt
  have y1 : (y 1).val < 128 := (y 1).isLt
  exact Cert.ExpertsRefIdeal.Val.result_at V E (fun i => (congrFun (Cert.ExpertsRefIdeal.Val.expert_eq V) (ix1 i)).trans (hE i)) _ hu
    (Cert.ExpertsRefIdeal.Val.used_eq V) y ⟨(y 0).val / 4096, by omega⟩ ⟨(y 0).val % 4096 / 8, by omega⟩ ⟨128 * ((y 0).val % 8) + (y 1).val, by omega⟩ rfl rfl rfl

/-- The two programs compute the same array. -/
theorem values : Cert.algebraic_ExpertsIdeal_ExpertsRefIdeal (hExpertsIdeal := Cert.ExpertsIdeal.Gen.facts) (hExpertsRefIdeal := Cert.ExpertsRefIdeal.Gen.facts)
    (hPre_some_rows := Cert.Pre_some_rows.Gen.facts) := by
  intro m g m' g' h hargs
  have hf := fits m (pre_used _ _ _ _ _ (h 0))
  have hp : ∀ c, 1 ≤ (usedBlocks m c).toNat ∧ (usedBlocks m c).toNat < 2 ^ 31 := fun c => used_pos _ (pre_used _ _ _ _ _ (h c))
  refine ⟨fun c => expArr (m (c.tc.loc Cert.ExpertsIdeal.main_arg0)) (expert m c) (usedBlocks m c).toNat (m (c.tc.loc Cert.ExpertsIdeal.main_arg2))
    (m (c.tc.loc Cert.ExpertsIdeal.main_arg3)) (m (c.tc.loc Cert.ExpertsIdeal.main_arg4)), ?_, ?_⟩
  · exact (θ_run _ _ _).mono (fun r h' c => ⟨((h'.1 c).1).trans (arr m hf c (hp c)), (h'.1 c).2⟩) (runs_all m g hf)
  · refine (θ_run _ _ _).mono (fun r h' c => ⟨(h' c).1.trans ?_, (h' c).2⟩) (Cert.ExpertsRefIdeal.Val.result_eq m' g')
    obtain ⟨h0, h1, h2, h3, h4⟩ := hargs c
    exact ref_arr _ _ (counts m c) _ _ _ (expert m c) (fun i => ((BitVec.ofNat_toNat 32 _).trans (BitVec.setWidth_eq _)).symm) (hp c) h0 h1 h2 h3 h4

end Cert.Experts

end
-- ==== Proof.lean ====
module

public import proofs.«01_k».proof.Proof.Gen.KernelIdeal.Value
public import proofs.«01_k».proof.Proof.Gen.ReferenceIdeal.Run
public import proofs.«01_k».proof.Proof.Gen.InRetIdeal.Value
public import proofs.«01_k».proof.Proof.Gen.InRetRefIdeal.Run
public import proofs.«01_k».proof.Proof.Gen.InAttIdeal.Value
public import proofs.«01_k».proof.Proof.Gen.InAttRefIdeal.Run
public import proofs.«01_k».proof.Proof.Gen.BandKvIdeal.Value
public import proofs.«01_k».proof.Proof.Gen.BandKvRefIdeal.Run
public import proofs.«01_k».proof.Proof.Gen.MemKvIdeal.Value
public import proofs.«01_k».proof.Proof.Gen.MemKvRefIdeal.Run
public import proofs.«01_k».proof.Proof.Gen.InRet.Frame
public import proofs.«01_k».proof.Proof.Gen.InAtt.Frame
public import proofs.«01_k».proof.Proof.Gen.BandKv.Frame
public import proofs.«01_k».proof.Proof.Gen.MemKv.Frame
public import proofs.«01_k».proof.Proof.Gen.Experts
public import proofs.«01_k».proof.Proof.Gen.Experts.Launch
public import proofs.«01_k».proof.Proof.Gen.Experts.Skeleton
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertsRefIdeal.Run
public import proofs.«01_k».proof.Proof.Gen.Pre_some_rows
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Assemble
public import proofs.«01_k».proof.Proof.Assemble2
public import proofs.«01_k».proof.Proof.ExpEnd
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.InRet.Gen.facts, Cert.InRetIdeal.Gen.facts, Cert.InRetRefIdeal.Gen.facts,
    Cert.InAtt.Gen.facts, Cert.InAttIdeal.Gen.facts, Cert.InAttRefIdeal.Gen.facts,
    Cert.BandKv.Gen.facts, Cert.BandKvIdeal.Gen.facts, Cert.BandKvRefIdeal.Gen.facts,
    Cert.MemKv.Gen.facts, Cert.MemKvIdeal.Gen.facts, Cert.MemKvRefIdeal.Gen.facts,
    Cert.Experts.Gen.facts, Cert.ExpertsIdeal.Gen.facts, Cert.ExpertsRefIdeal.Gen.facts,
    Cert.Pre_finite_inputs.shape_facts, Cert.Pre_some_rows.Gen.facts,
    fun m g _ => Cert.Kernel.Gen.frame m g, fun m g _ => Cert.KernelIdeal.Gen.frame m g, fun m g _ => Cert.KernelIdeal.Gen.frame m g,
    Cert.Retention.ref_frame, fun m g _ => Cert.Retention.ref_frame m g trivial,
    fun m g _ => Cert.InRet.Gen.frame m g, fun m g _ => Cert.InRetIdeal.Gen.frame m g, Cert.InRet.ref_frame,
    fun m g _ => Cert.InAtt.Gen.frame m g, fun m g _ => Cert.InAttIdeal.Gen.frame m g, Cert.InAtt.ref_frame,
    fun m g _ => Cert.BandKv.Gen.frame m g, fun m g _ => Cert.BandKvIdeal.Gen.frame m g, Cert.BandKv.ref_frame,
    fun m g _ => Cert.MemKv.Gen.frame m g, fun m g _ => Cert.MemKvIdeal.Gen.frame m g, Cert.MemKv.ref_frame,
    Cert.Experts.frame, Cert.Experts.ideal_frame, Cert.Experts.ref_frame, fun m g _ => Cert.Experts.ref_frame m g trivial,
    trivial, Cert.Retention.values,
    trivial, Cert.InRet.values, trivial, Cert.InAtt.values, trivial, Cert.BandKv.values, trivial, Cert.MemKv.values,
    trivial, Cert.Experts.values⟩

end Cert.Proof

end
